-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_segments_in_range : Cert.Pre_segments_in_range.Facts) (hPre_finite_and_in_range : Cert.Pre_finite_and_in_range.Facts),
    quiescent_Kernel (hKernel := hKernel) (hPre_segments_in_range := hPre_segments_in_range)
    ∧ quiescent_KernelIdeal (hKernelIdeal := hKernelIdeal) (hPre_segments_in_range := hPre_segments_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S50x256 : Shape := ⟨2, ![50, 256]⟩
abbrev S50000x256 : Shape := ⟨2, ![50000, 256]⟩
abbrev S50000 : Shape := ⟨1, ![50000]⟩
abbrev S256x1 : Shape := ⟨2, ![256, 1]⟩
abbrev S1 : Shape := ⟨1, ![1]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_v30 : IVec S_ 1) (main_v33 : IVec S1 1) : IVec S_ 1 :=
  let main_c_12 : IVec S_ 1 := constantI S_ 1 1#1
  let main_v34 : IVec S_ 1 := (fun x v => Host.reduce IntOp.andi x v reducesTo_S1_S_d0 h_S_) main_v33 main_c_12
  let main_v35 : IVec S_ 1 := andi main_v30 main_v34
  main_v35

def fn_part1 {F : FTy → Type} [FloatOps F] (main_arg5 : FVec F S1 .f32) (main_arg6 : FVec F S256x1 .f32) (main_arg7 : FVec F S1 .f32) (main_v15 : IVec S_ 1) (main_v16 : FVec F S256x1 .f32) : IVec S_ 1 :=
  let main_cst_5 : FVec F S_ .f32 := constant S_ .f32 0x7F800000#32
  let main_v17 : FVec F S256x1 .f32 := broadcastInDim S256x1 ![] bcast_S_S256x1 main_cst_5
  let main_v18 : IVec S256x1 1 := cmpf .olt main_v16 main_v17
  let main_c_6 : IVec S_ 1 := constantI S_ 1 1#1
  let main_v19 : IVec S_ 1 := (fun x v => Host.reduce IntOp.andi x v reducesTo_S256x1_S_d0_1 h_S_) main_v18 main_c_6
  let main_v20 : IVec S_ 1 := andi main_v15 main_v19
  let main_v21 : FVec F S256x1 .f32 := Host.absf main_arg6
  let main_cst_7 : FVec F S_ .f32 := constant S_ .f32 0x7F800000#32
  let main_v22 : FVec F S256x1 .f32 := broadcastInDim S256x1 ![] bcast_S_S256x1 main_cst_7
  let main_v23 : IVec S256x1 1 := cmpf .olt main_v21 main_v22
  let main_c_8 : IVec S_ 1 := constantI S_ 1 1#1
  let main_v24 : IVec S_ 1 := (fun x v => Host.reduce IntOp.andi x v reducesTo_S256x1_S_d0_1 h_S_) main_v23 main_c_8
  let main_v25 : IVec S_ 1 := andi main_v20 main_v24
  let main_v26 : FVec F S1 .f32 := Host.absf main_arg5
  let main_cst_9 : FVec F S_ .f32 := constant S_ .f32 0x7F800000#32
  let main_v27 : FVec F S1 .f32 := broadcastInDim S1 ![] bcast_S_S1 main_cst_9
  let main_v28 : IVec S1 1 := cmpf .olt main_v26 main_v27
  let main_c_10 : IVec S_ 1 := constantI S_ 1 1#1
  let main_v29 : IVec S_ 1 := (fun x v => Host.reduce IntOp.andi x v reducesTo_S1_S_d0 h_S_) main_v28 main_c_10
  let main_v30 : IVec S_ 1 := andi main_v25 main_v29
  let main_v31 : FVec F S1 .f32 := Host.absf main_arg7
  let main_cst_11 : FVec F S_ .f32 := constant S_ .f32 0x7F800000#32
  let main_v32 : FVec F S1 .f32 := broadcastInDim S1 ![] bcast_S_S1 main_cst_11
  let main_v33 : IVec S1 1 := cmpf .olt main_v31 main_v32
  fn_part2 (F := F) main_v30 main_v33

def fn {F : FTy → Type} [FloatOps F] (main_arg0 : FVec F S50x256 .f32) (main_arg1 : FVec F S50000x256 .f32) (main_arg2 : FVec F S50000x256 .f32) (main_arg3 : IVec S50000 32) (main_arg4 : FVec F S256x1 .f32) (main_arg5 : FVec F S1 .f32) (main_arg6 : FVec F S256x1 .f32) (main_arg7 : FVec F S1 .f32) : IVec S_ 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 32 := constantI S_ 32 50#32
  let main_v2 : IVec S50000 32 := broadcastInDim S50000 ![] bcast_S_S50000 main_c_0
  let main_v3 : IVec S50000 1 := cmpi .slt main_arg3 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : FVec F S50000x256 .f32 := Host.absf main_arg1
  let main_cst : FVec F S_ .f32 := constant S_ .f32 0x7F800000#32
  let main_v7 : FVec F S50000x256 .f32 := broadcastInDim S50000x256 ![] bcast_S_S50000x256 main_cst
  let main_v8 : IVec S50000x256 1 := cmpf .olt main_v6 main_v7
  let main_c_2 : IVec S_ 1 := constantI S_ 1 1#1
  let main_v9 : IVec S_ 1 := (fun x v => Host.reduce IntOp.andi x v reducesTo_S50000x256_S_d0_1 h_S_) main_v8 main_c_2
  let main_v10 : IVec S_ 1 := andi main_v5 main_v9
  let main_v11 : FVec F S50000x256 .f32 := Host.absf main_arg2
  let main_cst_3 : FVec F S_ .f32 := constant S_ .f32 0x7F800000#32
  let main_v12 : FVec F S50000x256 .f32 := broadcastInDim S50000x256 ![] bcast_S_S50000x256 main_cst_3
  let main_v13 : IVec S50000x256 1 := cmpf .olt main_v11 main_v12
  let main_c_4 : IVec S_ 1 := constantI S_ 1 1#1
  let main_v14 : IVec S_ 1 := (fun x v => Host.reduce IntOp.andi x v reducesTo_S50000x256_S_d0_1 h_S_) main_v13 main_c_4
  let main_v15 : IVec S_ 1 := andi main_v10 main_v14
  let main_v16 : FVec F S256x1 .f32 := Host.absf main_arg4
  fn_part1 (F := F) main_arg5 main_arg6 main_arg7 main_v15 main_v16
-- ==== Pre_segments_in_range.lean ====
abbrev S50x256 : Shape := ⟨2, ![50, 256]⟩
abbrev S50000x256 : Shape := ⟨2, ![50000, 256]⟩
abbrev S50000 : Shape := ⟨1, ![50000]⟩
abbrev S256x1 : Shape := ⟨2, ![256, 1]⟩
abbrev S1 : Shape := ⟨1, ![1]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50x256 .f32) (main_arg1 : FVec F S50000x256 .f32) (main_arg2 : FVec F S50000x256 .f32) (main_arg3 : IVec S50000 32) (main_arg4 : FVec F S256x1 .f32) (main_arg5 : FVec F S1 .f32) (main_arg6 : FVec F S256x1 .f32) (main_arg7 : FVec F S1 .f32) : IVec S_ 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 32 := constantI S_ 32 50#32
  let main_v2 : IVec S50000 32 := broadcastInDim S50000 ![] bcast_S_S50000 main_c_0
  let main_v3 : IVec S50000 1 := cmpi .slt main_arg3 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Kernel.lean ====
abbrev S50x256 : Shape := ⟨2, ![50, 256]⟩
abbrev S50000x256 : Shape := ⟨2, ![50000, 256]⟩
abbrev S50000 : Shape := ⟨1, ![50000]⟩
abbrev S256x1 : Shape := ⟨2, ![256, 1]⟩
abbrev S1 : Shape := ⟨1, ![1]⟩
abbrev S256 : Shape := ⟨1, ![256]⟩
abbrev S524288 : Shape := ⟨1, ![524288]⟩
abbrev S32768 : Shape := ⟨1, ![32768]⟩
abbrev S2x80x256 : Shape := ⟨3, ![2, 80, 256]⟩
abbrev S2x96 : Shape := ⟨2, ![2, 96]⟩
abbrev S16384 : Shape := ⟨1, ![16384]⟩
abbrev S1024 : Shape := ⟨1, ![1024]⟩
abbrev S16 : Shape := ⟨1, ![16]⟩
abbrev S_ : Shape := ⟨0, ![]⟩
abbrev S1x80x256 : Shape := ⟨3, ![1, 80, 256]⟩
abbrev S80x256 : Shape := ⟨2, ![80, 256]⟩
abbrev S1x80 : Shape := ⟨2, ![1, 80]⟩
abbrev S80 : Shape := ⟨1, ![80]⟩
abbrev S1x16 : Shape := ⟨2, ![1, 16]⟩
abbrev S32x64x256 : Shape := ⟨3, ![32, 64, 256]⟩
abbrev S32x64x16 : Shape := ⟨3, ![32, 64, 16]⟩
abbrev S64x256 : Shape := ⟨2, ![64, 256]⟩
abbrev S64x2 : Shape := ⟨2, ![64, 2]⟩
abbrev S64x16 : Shape := ⟨2, ![64, 16]⟩
abbrev S64x1 : Shape := ⟨2, ![64, 1]⟩
abbrev S64 : Shape := ⟨1, ![64]⟩
abbrev S10x1x5000 : Shape := ⟨3, ![10, 1, 5000]⟩
abbrev S1x1x5000 : Shape := ⟨3, ![1, 1, 5000]⟩
abbrev S5000x256 : Shape := ⟨2, ![5000, 256]⟩
abbrev S5000 : Shape := ⟨1, ![5000]⟩
abbrev S5000x1 : Shape := ⟨2, ![5000, 1]⟩
abbrev S5000x64 : Shape := ⟨2, ![5000, 64]⟩
abbrev S5000x2 : Shape := ⟨2, ![5000, 2]⟩

abbrev nBuf : Table → Nat
  | .hbm => 26
  | .local .tc .vmem => 15
  | .local .scVector .vmem => 10
  | _ => 0

abbrev bufTy : (tb : Table) → Fin (nBuf tb) → BufTy
  | .hbm, ⟨0, _⟩ => ⟨S50x256, .f32⟩
  | .hbm, ⟨1, _⟩ => ⟨S50000x256, .f32⟩
  | .hbm, ⟨2, _⟩ => ⟨S50000x256, .f32⟩
  | .hbm, ⟨3, _⟩ => ⟨S50000, .i32⟩
  | .hbm, ⟨4, _⟩ => ⟨S256x1, .f32⟩
  | .hbm, ⟨5, _⟩ => ⟨S1, .f32⟩
  | .hbm, ⟨6, _⟩ => ⟨S256x1, .f32⟩
  | .hbm, ⟨7, _⟩ => ⟨S1, .f32⟩
  | .hbm, ⟨8, _⟩ => ⟨S256, .f32⟩
  | .hbm, ⟨9, _⟩ => ⟨S256, .f32⟩
  | .hbm, ⟨10, _⟩ => ⟨S524288, .f32⟩
  | .hbm, ⟨11, _⟩ => ⟨S32768, .f32⟩
  | .hbm, ⟨12, _⟩ => ⟨S524288, .f32⟩
  | .hbm, ⟨13, _⟩ => ⟨S32768, .f32⟩
  | .hbm, ⟨14, _⟩ => ⟨S32x64x256, .f32⟩
  | .hbm, ⟨15, _⟩ => ⟨S32x64x16, .f32⟩
  | .hbm, ⟨16, _⟩ => ⟨S32x64x256, .f32⟩
  | .hbm, ⟨17, _⟩ => ⟨S32x64x16, .f32⟩
  | .hbm, ⟨18, _⟩ => ⟨S_, .f32⟩
  | .hbm, ⟨19, _⟩ => ⟨S64x256, .f32⟩
  | .hbm, ⟨20, _⟩ => ⟨S_, .i32⟩
  | .hbm, ⟨21, _⟩ => ⟨S1, .i32⟩
  | .hbm, ⟨22, _⟩ => ⟨S64x256, .f32⟩
  | .hbm, ⟨23, _⟩ => ⟨S64x2, .f32⟩
  | .hbm, ⟨24, _⟩ => ⟨S10x1x5000, .i32⟩
  | .hbm, ⟨25, _⟩ => ⟨S50000x256, .f32⟩
  | .local .tc .vmem, ⟨0, _⟩ => ⟨S64x256, .f32⟩
  | .local .tc .vmem, ⟨1, _⟩ => ⟨S32x64x256, .f32⟩
  | .local .tc .vmem, ⟨2, _⟩ => ⟨S32x64x16, .f32⟩
  | .local .tc .vmem, ⟨3, _⟩ => ⟨S32x64x256, .f32⟩
  | .local .tc .vmem, ⟨4, _⟩ => ⟨S32x64x16, .f32⟩
  | .local .tc .vmem, ⟨5, _⟩ => ⟨S64x2, .f32⟩
  | .local .tc .vmem, ⟨6, _⟩ => ⟨S1x1x5000, .i32⟩
  | .local .tc .vmem, ⟨7, _⟩ => ⟨S1x1x5000, .i32⟩
  | .local .tc .vmem, ⟨8, _⟩ => ⟨S5000x256, .f32⟩
  | .local .tc .vmem, ⟨9, _⟩ => ⟨S5000x256, .f32⟩
  | .local .tc .vmem, ⟨10, _⟩ => ⟨S5000x256, .f32⟩
  | .local .tc .vmem, ⟨11, _⟩ => ⟨S5000x256, .f32⟩
  | .local .tc .vmem, ⟨12, _⟩ => ⟨S64x2, .f32⟩
  | .local .tc .vmem, ⟨13, _⟩ => ⟨S5000x256, .f32⟩
  | .local .tc .vmem, ⟨14, _⟩ => ⟨S5000x256, .f32⟩
  | .local .scVector .vmem, ⟨0, _⟩ => ⟨S2x80x256, .f32⟩
  | .local .scVector .vmem, ⟨1, _⟩ => ⟨S2x80x256, .f32⟩
  | .local .scVector .vmem, ⟨2, _⟩ => ⟨S2x96, .i32⟩
  | .local .scVector .vmem, ⟨3, _⟩ => ⟨S256, .f32⟩
  | .local .scVector .vmem, ⟨4, _⟩ => ⟨S256, .f32⟩
  | .local .scVector .vmem, ⟨5, _⟩ => ⟨S16384, .f32⟩
  | .local .scVector .vmem, ⟨6, _⟩ => ⟨S1024, .f32⟩
  | .local .scVector .vmem, ⟨7, _⟩ => ⟨S16384, .f32⟩
  | .local .scVector .vmem, ⟨8, _⟩ => ⟨S1024, .f32⟩
  | .local .scVector .vmem, ⟨9, _⟩ => ⟨S16, .f32⟩
  | _, _ => ⟨S50x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 8, rfl⟩
abbrev main_v1_scv : Ref sig .scVector := ⟨.hbm, 9, rfl⟩
abbrev main_v2_0_scv : Ref sig .scVector := ⟨.hbm, 10, rfl⟩
abbrev main_v2_1_scv : Ref sig .scVector := ⟨.hbm, 11, rfl⟩
abbrev main_v2_2_scv : Ref sig .scVector := ⟨.hbm, 12, rfl⟩
abbrev main_v2_3_scv : Ref sig .scVector := ⟨.hbm, 13, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg4_1 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c1024_i32 : BitVec 32 := 1024#32
  let v3 : BitVec 32 := Scalar.addi c0_i32 c1024_i32
  let c1_i32 : BitVec 32 := 1#32
  ⟨c0_i32, v3, c1_i32⟩
def k0_off1 (k0_t1 : Fin k0_t1_loop.trips) : Fin 1 → Nat :=
  let c0_i32_37 : BitVec 32 := 0#32
  let c0_i32 : BitVec 32 := 0#32
  let c1_i32 : BitVec 32 := 1#32
  let arg25 : BitVec 32 := Scf.iv c0_i32 c1_i32 k0_t1
  let c1_i32_36 : BitVec 32 := 1#32
  let v86 : BitVec 32 := Scalar.muli arg25 c1_i32_36
  let v87 : BitVec 32 := Scalar.addi c0_i32_37 v86
  let c16_i32 : BitVec 32 := 16#32
  let v88 : BitVec 32 := Scalar.muli v87 c16_i32
  let v89 : Index := Scalar.indexCast v88
  ![v89.toNat]
@[reducible] def k0_t2_loop : Scf.Loop 32 :=
  let c0_i32_1 : BitVec 32 := 0#32
  let c64_i32 : BitVec 32 := 64#32
  let v4 : BitVec 32 := Scalar.addi c0_i32_1 c64_i32
  let c1_i32_2 : BitVec 32 := 1#32
  ⟨c0_i32_1, v4, c1_i32_2⟩
def k0_off2 (k0_t2 : Fin k0_t2_loop.trips) : Fin 1 → Nat :=
  let c0_i32_37 : BitVec 32 := 0#32
  let c0_i32_1 : BitVec 32 := 0#32
  let c1_i32_2 : BitVec 32 := 1#32
  let arg25 : BitVec 32 := Scf.iv c0_i32_1 c1_i32_2 k0_t2
  let c1_i32_36 : BitVec 32 := 1#32
  let v86 : BitVec 32 := Scalar.muli arg25 c1_i32_36
  let v87 : BitVec 32 := Scalar.addi c0_i32_37 v86
  let c16_i32 : BitVec 32 := 16#32
  let v88 : BitVec 32 := Scalar.muli v87 c16_i32
  let v89 : Index := Scalar.indexCast v88
  ![v89.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c625_i32 : BitVec 32 := 625#32
  let v78 : BitVec 1 := Scalar.cmpi .slt v1 c625_i32
  let v79 : BitVec 32 := Scalar.extui v78
  let c0_i32_24 : BitVec 32 := 0#32
  let v80 : BitVec 1 := Scalar.cmpi .ne v79 c0_i32_24
  v80

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v86 : BitVec 32 := Scalar.muli v1 c80_i32
  let c0_i32_38 : BitVec 32 := 0#32
  ![v86.toNat, 0]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_49 : BitVec 32 := 80#32
  let v100 : BitVec 32 := Scalar.muli v1 c80_i32_49
  ![v100.toNat]
@[reducible] def k0_t3_loop : Scf.Loop 32 :=
  let c0_i32_30 : BitVec 32 := 0#32
  let c10_i32 : BitVec 32 := 10#32
  let v81 : BitVec 32 := Scalar.addi c0_i32_30 c10_i32
  let c1_i32_31 : BitVec 32 := 1#32
  ⟨c0_i32_30, v81, c1_i32_31⟩
def k0_cond2 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c32_i32_38 : BitVec 32 := 32#32
  let v90 : BitVec 32 := Scalar.addi v89 c32_i32_38
  let c625_i32_39 : BitVec 32 := 625#32
  let v91 : BitVec 1 := Scalar.cmpi .slt v90 c625_i32_39
  let v92 : BitVec 32 := Scalar.extui v91
  let c0_i32_40 : BitVec 32 := 0#32
  let v93 : BitVec 1 := Scalar.cmpi .ne v92 c0_i32_40
  v93

def k0_off5 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c32_i32_51 : BitVec 32 := 32#32
  let v108 : BitVec 32 := Scalar.addi v89 c32_i32_51
  let c80_i32 : BitVec 32 := 80#32
  let v109 : BitVec 32 := Scalar.muli v108 c80_i32
  let c0_i32_54 : BitVec 32 := 0#32
  ![v109.toNat, 0]
def k0_off6 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c32_i32_51 : BitVec 32 := 32#32
  let v108 : BitVec 32 := Scalar.addi v89 c32_i32_51
  let c80_i32_65 : BitVec 32 := 80#32
  let v123 : BitVec 32 := Scalar.muli v108 c80_i32_65
  ![v123.toNat]
def k0_cond3 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c625_i32_41 : BitVec 32 := 625#32
  let v94 : BitVec 1 := Scalar.cmpi .slt v89 c625_i32_41
  let v95 : BitVec 32 := Scalar.extui v94
  let c0_i32_42 : BitVec 32 := 0#32
  let v96 : BitVec 1 := Scalar.cmpi .ne v95 c0_i32_42
  v96

def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c80_i32 : BitVec 32 := 80#32
  let v108 : BitVec 32 := Scalar.muli v89 c80_i32
  let c0_i32_53 : BitVec 32 := 0#32
  ![v108.toNat, 0]
def k0_off8 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_36 : BitVec 32 := 2#32
  let v86 : BitVec 32 := Scalar.muli arg25 c2_i32_36
  let c0_i32_37 : BitVec 32 := 0#32
  let v87 : BitVec 32 := Scalar.addi v86 c0_i32_37
  let c32_i32 : BitVec 32 := 32#32
  let v88 : BitVec 32 := Scalar.muli v87 c32_i32
  let v89 : BitVec 32 := Scalar.addi v1 v88
  let c80_i32_64 : BitVec 32 := 80#32
  let v122 : BitVec 32 := Scalar.muli v89 c80_i32_64
  ![v122.toNat]
@[reducible] def k0_t4_loop : Scf.Loop 32 :=
  let c0_i32_68 : BitVec 32 := 0#32
  let c80_i32_69 : BitVec 32 := 80#32
  let v129 : BitVec 32 := Scalar.addi c0_i32_68 c80_i32_69
  let c1_i32_70 : BitVec 32 := 1#32
  ⟨c0_i32_68, v129, c1_i32_70⟩
def k0_off9 (k0_t4 : Fin k0_t4_loop.trips) : Fin 2 → Nat :=
  let c0_i32_74 : BitVec 32 := 0#32
  let v132 : Index := Scalar.indexCast c0_i32_74
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v133 : Index := Scalar.indexCast v131
  ![0, v133.toNat]
def k0_off10 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v140 : Index := Scalar.indexCast v131
  let c0_77 : Index := 0#32
  ![v140.toNat, 0]
def k0_off11 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v145 : Index := Scalar.indexCast v131
  let c16_80 : Index := 16#32
  ![v145.toNat, 16]
def k0_off12 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v150 : Index := Scalar.indexCast v131
  let c32_83 : Index := 32#32
  ![v150.toNat, 32]
def k0_off13 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v155 : Index := Scalar.indexCast v131
  let c48_86 : Index := 48#32
  ![v155.toNat, 48]
def k0_off14 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v160 : Index := Scalar.indexCast v131
  let c64_89 : Index := 64#32
  ![v160.toNat, 64]
def k0_off15 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v165 : Index := Scalar.indexCast v131
  let c80_92 : Index := 80#32
  ![v165.toNat, 80]
def k0_off16 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v170 : Index := Scalar.indexCast v131
  let c96_95 : Index := 96#32
  ![v170.toNat, 96]
def k0_off17 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v175 : Index := Scalar.indexCast v131
  let c112_98 : Index := 112#32
  ![v175.toNat, 112]
def k0_off18 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v180 : Index := Scalar.indexCast v131
  let c128_101 : Index := 128#32
  ![v180.toNat, 128]
def k0_off19 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v185 : Index := Scalar.indexCast v131
  let c144_104 : Index := 144#32
  ![v185.toNat, 144]
def k0_off20 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v190 : Index := Scalar.indexCast v131
  let c160_107 : Index := 160#32
  ![v190.toNat, 160]
def k0_off21 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v195 : Index := Scalar.indexCast v131
  let c176_110 : Index := 176#32
  ![v195.toNat, 176]
def k0_off22 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v200 : Index := Scalar.indexCast v131
  let c192_113 : Index := 192#32
  ![v200.toNat, 192]
def k0_off23 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v205 : Index := Scalar.indexCast v131
  let c208_116 : Index := 208#32
  ![v205.toNat, 208]
def k0_off24 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v210 : Index := Scalar.indexCast v131
  let c224_119 : Index := 224#32
  ![v210.toNat, 224]
def k0_off25 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v215 : Index := Scalar.indexCast v131
  let c240_122 : Index := 240#32
  ![v215.toNat, 240]
def k0_off26 (v137 : BitVec 32) : Fin 1 → Nat :=
  let c16_i32 : BitVec 32 := 16#32
  let v270 : BitVec 32 := Scalar.muli v137 c16_i32
  let v271 : Index := Scalar.indexCast v270
  ![v271.toNat]

def k0_off27 (v137 : BitVec 32) (c0_i32_127 : BitVec 32) : Fin 1 → Nat :=
  let c256_i32 : BitVec 32 := 256#32
  let v279 : BitVec 32 := Scalar.muli v137 c256_i32
  let v280 : BitVec 32 := Scalar.addi v279 c0_i32_127
  let v281 : Index := Scalar.indexCast v280
  ![v281.toNat]

def k0_chk5 (i : grid0.Coords) (k0_t3 : Fin k0_t3_loop.trips) (v137 : BitVec 32) : Prop :=
  (∀ (k0_h3 : k0_cond3 i k0_t3 = 1#1), ∀ a, (k0_off26 v137) a + S16.size a ≤ S1024.size a) ∧
  (∀ (k0_h3 : k0_cond3 i k0_t3 = 1#1), ∀ (r : Fin 16), ∀ a, (k0_off27 v137 (BitVec.ofNat 32 (16 * r.val))) a + S16.size a ≤ S16384.size a)
theorem k0_off26_inb : ∀ (i : grid0.Coords) (k0_t3 : Fin k0_t3_loop.trips) (v137 : BitVec 32) (k0_hw5 : k0_chk5 i k0_t3 v137), ∀ (k0_h3 : k0_cond3 i k0_t3 = 1#1), ∀ a, (k0_off26 v137) a + S16.size a ≤ S1024.size a := fun i k0_t3 v137 k0_hw5 k0_h3 => k0_hw5.1 k0_h3
theorem k0_off27_inb : ∀ (i : grid0.Coords) (k0_t3 : Fin k0_t3_loop.trips) (v137 : BitVec 32) (k0_hw5 : k0_chk5 i k0_t3 v137), ∀ (k0_h3 : k0_cond3 i k0_t3 = 1#1), ∀ (r : Fin 16), ∀ a, (k0_off27 v137 (BitVec.ofNat 32 (16 * r.val))) a + S16.size a ≤ S16384.size a := fun i k0_t3 v137 k0_hw5 k0_h3 r => k0_hw5.2 k0_h3 r

def k0_off28 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v457 : Index := Scalar.indexCast v131
  let c0_149 : Index := 0#32
  ![v457.toNat, 0]
def k0_off29 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v462 : Index := Scalar.indexCast v131
  let c16_152 : Index := 16#32
  ![v462.toNat, 16]
def k0_off30 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v467 : Index := Scalar.indexCast v131
  let c32_155 : Index := 32#32
  ![v467.toNat, 32]
def k0_off31 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v472 : Index := Scalar.indexCast v131
  let c48_158 : Index := 48#32
  ![v472.toNat, 48]
def k0_off32 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v477 : Index := Scalar.indexCast v131
  let c64_161 : Index := 64#32
  ![v477.toNat, 64]
def k0_off33 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v482 : Index := Scalar.indexCast v131
  let c80_164 : Index := 80#32
  ![v482.toNat, 80]
def k0_off34 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v487 : Index := Scalar.indexCast v131
  let c96_167 : Index := 96#32
  ![v487.toNat, 96]
def k0_off35 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v492 : Index := Scalar.indexCast v131
  let c112_170 : Index := 112#32
  ![v492.toNat, 112]
def k0_off36 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v497 : Index := Scalar.indexCast v131
  let c128_173 : Index := 128#32
  ![v497.toNat, 128]
def k0_off37 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v502 : Index := Scalar.indexCast v131
  let c144_176 : Index := 144#32
  ![v502.toNat, 144]
def k0_off38 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v507 : Index := Scalar.indexCast v131
  let c160_179 : Index := 160#32
  ![v507.toNat, 160]
def k0_off39 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v512 : Index := Scalar.indexCast v131
  let c176_182 : Index := 176#32
  ![v512.toNat, 176]
def k0_off40 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v517 : Index := Scalar.indexCast v131
  let c192_185 : Index := 192#32
  ![v517.toNat, 192]
def k0_off41 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v522 : Index := Scalar.indexCast v131
  let c208_188 : Index := 208#32
  ![v522.toNat, 208]
def k0_off42 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v527 : Index := Scalar.indexCast v131
  let c224_191 : Index := 224#32
  ![v527.toNat, 224]
def k0_off43 (k0_t4 : Fin k0_t4_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t4
  let c1_i32_72 : BitVec 32 := 1#32
  let v130 : BitVec 32 := Scalar.muli arg26 c1_i32_72
  let v131 : BitVec 32 := Scalar.addi c0_i32_73 v130
  let v532 : Index := Scalar.indexCast v131
  let c240_194 : Index := 240#32
  ![v532.toNat, 240]
def k0_cond4 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c32_i32_46 : BitVec 32 := 32#32
  let v101 : BitVec 32 := Scalar.addi v100 c32_i32_46
  let c625_i32_47 : BitVec 32 := 625#32
  let v102 : BitVec 1 := Scalar.cmpi .slt v101 c625_i32_47
  let v103 : BitVec 32 := Scalar.extui v102
  let c0_i32_48 : BitVec 32 := 0#32
  let v104 : BitVec 1 := Scalar.cmpi .ne v103 c0_i32_48
  v104

def k0_off44 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c32_i32_51 : BitVec 32 := 32#32
  let v108 : BitVec 32 := Scalar.addi v100 c32_i32_51
  let c80_i32 : BitVec 32 := 80#32
  let v109 : BitVec 32 := Scalar.muli v108 c80_i32
  let c0_i32_54 : BitVec 32 := 0#32
  ![v109.toNat, 0]
def k0_off45 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c32_i32_51 : BitVec 32 := 32#32
  let v108 : BitVec 32 := Scalar.addi v100 c32_i32_51
  let c80_i32_65 : BitVec 32 := 80#32
  let v123 : BitVec 32 := Scalar.muli v108 c80_i32_65
  ![v123.toNat]
def k0_cond5 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c625_i32_49 : BitVec 32 := 625#32
  let v105 : BitVec 1 := Scalar.cmpi .slt v100 c625_i32_49
  let v106 : BitVec 32 := Scalar.extui v105
  let c0_i32_50 : BitVec 32 := 0#32
  let v107 : BitVec 1 := Scalar.cmpi .ne v106 c0_i32_50
  v107

def k0_off46 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c80_i32 : BitVec 32 := 80#32
  let v108 : BitVec 32 := Scalar.muli v100 c80_i32
  let c0_i32_53 : BitVec 32 := 0#32
  ![v108.toNat, 0]
def k0_off47 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c1_i32_31 : BitVec 32 := 1#32
  let arg25 : BitVec 32 := Scf.iv c0_i32_30 c1_i32_31 k0_t3
  let c2_i32_43 : BitVec 32 := 2#32
  let v97 : BitVec 32 := Scalar.muli arg25 c2_i32_43
  let c1_i32_44 : BitVec 32 := 1#32
  let v98 : BitVec 32 := Scalar.addi v97 c1_i32_44
  let c32_i32_45 : BitVec 32 := 32#32
  let v99 : BitVec 32 := Scalar.muli v98 c32_i32_45
  let v100 : BitVec 32 := Scalar.addi v1 v99
  let c80_i32_64 : BitVec 32 := 80#32
  let v122 : BitVec 32 := Scalar.muli v100 c80_i32_64
  ![v122.toNat]
@[reducible] def k0_t5_loop : Scf.Loop 32 :=
  let c0_i32_68 : BitVec 32 := 0#32
  let c80_i32_69 : BitVec 32 := 80#32
  let v129 : BitVec 32 := Scalar.addi c0_i32_68 c80_i32_69
  let c1_i32_70 : BitVec 32 := 1#32
  ⟨c0_i32_68, v129, c1_i32_70⟩
def k0_off48 (k0_t5 : Fin k0_t5_loop.trips) : Fin 2 → Nat :=
  let c1_i32_74 : BitVec 32 := 1#32
  let v132 : Index := Scalar.indexCast c1_i32_74
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v133 : Index := Scalar.indexCast v131
  ![1, v133.toNat]
def k0_off49 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v140 : Index := Scalar.indexCast v131
  let c0_77 : Index := 0#32
  ![v140.toNat, 0]
def k0_off50 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v145 : Index := Scalar.indexCast v131
  let c16_80 : Index := 16#32
  ![v145.toNat, 16]
def k0_off51 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v150 : Index := Scalar.indexCast v131
  let c32_83 : Index := 32#32
  ![v150.toNat, 32]
def k0_off52 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v155 : Index := Scalar.indexCast v131
  let c48_86 : Index := 48#32
  ![v155.toNat, 48]
def k0_off53 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v160 : Index := Scalar.indexCast v131
  let c64_89 : Index := 64#32
  ![v160.toNat, 64]
def k0_off54 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v165 : Index := Scalar.indexCast v131
  let c80_92 : Index := 80#32
  ![v165.toNat, 80]
def k0_off55 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v170 : Index := Scalar.indexCast v131
  let c96_95 : Index := 96#32
  ![v170.toNat, 96]
def k0_off56 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v175 : Index := Scalar.indexCast v131
  let c112_98 : Index := 112#32
  ![v175.toNat, 112]
def k0_off57 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v180 : Index := Scalar.indexCast v131
  let c128_101 : Index := 128#32
  ![v180.toNat, 128]
def k0_off58 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v185 : Index := Scalar.indexCast v131
  let c144_104 : Index := 144#32
  ![v185.toNat, 144]
def k0_off59 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v190 : Index := Scalar.indexCast v131
  let c160_107 : Index := 160#32
  ![v190.toNat, 160]
def k0_off60 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v195 : Index := Scalar.indexCast v131
  let c176_110 : Index := 176#32
  ![v195.toNat, 176]
def k0_off61 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v200 : Index := Scalar.indexCast v131
  let c192_113 : Index := 192#32
  ![v200.toNat, 192]
def k0_off62 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v205 : Index := Scalar.indexCast v131
  let c208_116 : Index := 208#32
  ![v205.toNat, 208]
def k0_off63 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v210 : Index := Scalar.indexCast v131
  let c224_119 : Index := 224#32
  ![v210.toNat, 224]
def k0_off64 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v215 : Index := Scalar.indexCast v131
  let c240_122 : Index := 240#32
  ![v215.toNat, 240]
def k0_off65 (v137 : BitVec 32) : Fin 1 → Nat :=
  let c16_i32 : BitVec 32 := 16#32
  let v270 : BitVec 32 := Scalar.muli v137 c16_i32
  let v271 : Index := Scalar.indexCast v270
  ![v271.toNat]

def k0_off66 (v137 : BitVec 32) (c0_i32_127 : BitVec 32) : Fin 1 → Nat :=
  let c256_i32 : BitVec 32 := 256#32
  let v279 : BitVec 32 := Scalar.muli v137 c256_i32
  let v280 : BitVec 32 := Scalar.addi v279 c0_i32_127
  let v281 : Index := Scalar.indexCast v280
  ![v281.toNat]

def k0_chk6 (i : grid0.Coords) (k0_t3 : Fin k0_t3_loop.trips) (v137 : BitVec 32) : Prop :=
  (∀ (k0_h5 : k0_cond5 i k0_t3 = 1#1), ∀ a, (k0_off65 v137) a + S16.size a ≤ S1024.size a) ∧
  (∀ (k0_h5 : k0_cond5 i k0_t3 = 1#1), ∀ (r : Fin 16), ∀ a, (k0_off66 v137 (BitVec.ofNat 32 (16 * r.val))) a + S16.size a ≤ S16384.size a)
theorem k0_off65_inb : ∀ (i : grid0.Coords) (k0_t3 : Fin k0_t3_loop.trips) (v137 : BitVec 32) (k0_hw6 : k0_chk6 i k0_t3 v137), ∀ (k0_h5 : k0_cond5 i k0_t3 = 1#1), ∀ a, (k0_off65 v137) a + S16.size a ≤ S1024.size a := fun i k0_t3 v137 k0_hw6 k0_h5 => k0_hw6.1 k0_h5
theorem k0_off66_inb : ∀ (i : grid0.Coords) (k0_t3 : Fin k0_t3_loop.trips) (v137 : BitVec 32) (k0_hw6 : k0_chk6 i k0_t3 v137), ∀ (k0_h5 : k0_cond5 i k0_t3 = 1#1), ∀ (r : Fin 16), ∀ a, (k0_off66 v137 (BitVec.ofNat 32 (16 * r.val))) a + S16.size a ≤ S16384.size a := fun i k0_t3 v137 k0_hw6 k0_h5 r => k0_hw6.2 k0_h5 r

def k0_off67 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v457 : Index := Scalar.indexCast v131
  let c0_149 : Index := 0#32
  ![v457.toNat, 0]
def k0_off68 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v462 : Index := Scalar.indexCast v131
  let c16_152 : Index := 16#32
  ![v462.toNat, 16]
def k0_off69 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v467 : Index := Scalar.indexCast v131
  let c32_155 : Index := 32#32
  ![v467.toNat, 32]
def k0_off70 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v472 : Index := Scalar.indexCast v131
  let c48_158 : Index := 48#32
  ![v472.toNat, 48]
def k0_off71 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v477 : Index := Scalar.indexCast v131
  let c64_161 : Index := 64#32
  ![v477.toNat, 64]
def k0_off72 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v482 : Index := Scalar.indexCast v131
  let c80_164 : Index := 80#32
  ![v482.toNat, 80]
def k0_off73 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v487 : Index := Scalar.indexCast v131
  let c96_167 : Index := 96#32
  ![v487.toNat, 96]
def k0_off74 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v492 : Index := Scalar.indexCast v131
  let c112_170 : Index := 112#32
  ![v492.toNat, 112]
def k0_off75 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v497 : Index := Scalar.indexCast v131
  let c128_173 : Index := 128#32
  ![v497.toNat, 128]
def k0_off76 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v502 : Index := Scalar.indexCast v131
  let c144_176 : Index := 144#32
  ![v502.toNat, 144]
def k0_off77 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v507 : Index := Scalar.indexCast v131
  let c160_179 : Index := 160#32
  ![v507.toNat, 160]
def k0_off78 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v512 : Index := Scalar.indexCast v131
  let c176_182 : Index := 176#32
  ![v512.toNat, 176]
def k0_off79 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v517 : Index := Scalar.indexCast v131
  let c192_185 : Index := 192#32
  ![v517.toNat, 192]
def k0_off80 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v522 : Index := Scalar.indexCast v131
  let c208_188 : Index := 208#32
  ![v522.toNat, 208]
def k0_off81 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v527 : Index := Scalar.indexCast v131
  let c224_191 : Index := 224#32
  ![v527.toNat, 224]
def k0_off82 (k0_t5 : Fin k0_t5_loop.trips) : Fin 2 → Nat :=
  let c0_i32_73 : BitVec 32 := 0#32
  let c0_i32_68 : BitVec 32 := 0#32
  let c1_i32_70 : BitVec 32 := 1#32
  let arg26 : BitVec 32 := Scf.iv c0_i32_68 c1_i32_70 k0_t5
  let c1_i32_72 : BitVec 32 := 1#32
  let v130 : BitVec 32 := Scalar.muli arg26 c1_i32_72
  let v131 : BitVec 32 := Scalar.addi c0_i32_73 v130
  let v532 : Index := Scalar.indexCast v131
  let c240_194 : Index := 240#32
  ![v532.toNat, 240]

def k0_chk1 (i : grid0.Coords) (v71 : IVec S16 32) : Prop :=
  (∀ k0_t3 : Fin k0_t3_loop.trips, ∀ (k0_h3 : k0_cond3 i k0_t3 = 1#1), ∀ a x, ((![v71] : Fin 1 → IVec S16 32) a x).toNat < S16.size a) ∧
  (∀ k0_t3 : Fin k0_t3_loop.trips, ∀ (k0_h3 : k0_cond3 i k0_t3 = 1#1), ∀ a x, ((![v71] : Fin 1 → IVec S16 32) a x).toNat < S16.size a) ∧
  (∀ k0_t3 : Fin k0_t3_loop.trips, ∀ (k0_h5 : k0_cond5 i k0_t3 = 1#1), ∀ a x, ((![v71] : Fin 1 → IVec S16 32) a x).toNat < S16.size a) ∧
  (∀ k0_t3 : Fin k0_t3_loop.trips, ∀ (k0_h5 : k0_cond5 i k0_t3 = 1#1), ∀ a x, ((![v71] : Fin 1 → IVec S16 32) a x).toNat < S16.size a)
theorem k0_idx1_inb : ∀ (i : grid0.Coords) (v71 : IVec S16 32) (k0_hw1 : k0_chk1 i v71) (k0_t3 : Fin k0_t3_loop.trips), ∀ (k0_h3 : k0_cond3 i k0_t3 = 1#1), ∀ a x, ((![v71] : Fin 1 → IVec S16 32) a x).toNat < S16.size a := fun i v71 k0_hw1 k0_t3 k0_h3 => k0_hw1.1 k0_t3 k0_h3
theorem k0_idx5_inb : ∀ (i : grid0.Coords) (v71 : IVec S16 32) (k0_hw1 : k0_chk1 i v71) (k0_t3 : Fin k0_t3_loop.trips), ∀ (k0_h3 : k0_cond3 i k0_t3 = 1#1), ∀ a x, ((![v71] : Fin 1 → IVec S16 32) a x).toNat < S16.size a := fun i v71 k0_hw1 k0_t3 k0_h3 => k0_hw1.2.1 k0_t3 k0_h3
theorem k0_idx9_inb : ∀ (i : grid0.Coords) (v71 : IVec S16 32) (k0_hw1 : k0_chk1 i v71) (k0_t3 : Fin k0_t3_loop.trips), ∀ (k0_h5 : k0_cond5 i k0_t3 = 1#1), ∀ a x, ((![v71] : Fin 1 → IVec S16 32) a x).toNat < S16.size a := fun i v71 k0_hw1 k0_t3 k0_h5 => k0_hw1.2.2.1 k0_t3 k0_h5
theorem k0_idx13_inb : ∀ (i : grid0.Coords) (v71 : IVec S16 32) (k0_hw1 : k0_chk1 i v71) (k0_t3 : Fin k0_t3_loop.trips), ∀ (k0_h5 : k0_cond5 i k0_t3 = 1#1), ∀ a x, ((![v71] : Fin 1 → IVec S16 32) a x).toNat < S16.size a := fun i v71 k0_hw1 k0_t3 k0_h5 => k0_hw1.2.2.2 k0_t3 k0_h5

def k0_chk2 (i : grid0.Coords) (v73 : IVec S16 32) : Prop :=
  (∀ k0_t3 : Fin k0_t3_loop.trips, ∀ (k0_h3 : k0_cond3 i k0_t3 = 1#1), ∀ a x, ((![v73] : Fin 1 → IVec S16 32) a x).toNat < S16.size a) ∧
  (∀ k0_t3 : Fin k0_t3_loop.trips, ∀ (k0_h3 : k0_cond3 i k0_t3 = 1#1), ∀ a x, ((![v73] : Fin 1 → IVec S16 32) a x).toNat < S16.size a) ∧
  (∀ k0_t3 : Fin k0_t3_loop.trips, ∀ (k0_h5 : k0_cond5 i k0_t3 = 1#1), ∀ a x, ((![v73] : Fin 1 → IVec S16 32) a x).toNat < S16.size a) ∧
  (∀ k0_t3 : Fin k0_t3_loop.trips, ∀ (k0_h5 : k0_cond5 i k0_t3 = 1#1), ∀ a x, ((![v73] : Fin 1 → IVec S16 32) a x).toNat < S16.size a)
theorem k0_idx2_inb : ∀ (i : grid0.Coords) (v73 : IVec S16 32) (k0_hw2 : k0_chk2 i v73) (k0_t3 : Fin k0_t3_loop.trips), ∀ (k0_h3 : k0_cond3 i k0_t3 = 1#1), ∀ a x, ((![v73] : Fin 1 → IVec S16 32) a x).toNat < S16.size a := fun i v73 k0_hw2 k0_t3 k0_h3 => k0_hw2.1 k0_t3 k0_h3
theorem k0_idx6_inb : ∀ (i : grid0.Coords) (v73 : IVec S16 32) (k0_hw2 : k0_chk2 i v73) (k0_t3 : Fin k0_t3_loop.trips), ∀ (k0_h3 : k0_cond3 i k0_t3 = 1#1), ∀ a x, ((![v73] : Fin 1 → IVec S16 32) a x).toNat < S16.size a := fun i v73 k0_hw2 k0_t3 k0_h3 => k0_hw2.2.1 k0_t3 k0_h3
theorem k0_idx10_inb : ∀ (i : grid0.Coords) (v73 : IVec S16 32) (k0_hw2 : k0_chk2 i v73) (k0_t3 : Fin k0_t3_loop.trips), ∀ (k0_h5 : k0_cond5 i k0_t3 = 1#1), ∀ a x, ((![v73] : Fin 1 → IVec S16 32) a x).toNat < S16.size a := fun i v73 k0_hw2 k0_t3 k0_h5 => k0_hw2.2.2.1 k0_t3 k0_h5
theorem k0_idx14_inb : ∀ (i : grid0.Coords) (v73 : IVec S16 32) (k0_hw2 : k0_chk2 i v73) (k0_t3 : Fin k0_t3_loop.trips), ∀ (k0_h5 : k0_cond5 i k0_t3 = 1#1), ∀ a x, ((![v73] : Fin 1 → IVec S16 32) a x).toNat < S16.size a := fun i v73 k0_hw2 k0_t3 k0_h5 => k0_hw2.2.2.2 k0_t3 k0_h5

def k0_chk3 (i : grid0.Coords) (v75 : IVec S16 32) : Prop :=
  (∀ k0_t3 : Fin k0_t3_loop.trips, ∀ (k0_h3 : k0_cond3 i k0_t3 = 1#1), ∀ a x, ((![v75] : Fin 1 → IVec S16 32) a x).toNat < S16.size a) ∧
  (∀ k0_t3 : Fin k0_t3_loop.trips, ∀ (k0_h3 : k0_cond3 i k0_t3 = 1#1), ∀ a x, ((![v75] : Fin 1 → IVec S16 32) a x).toNat < S16.size a) ∧
  (∀ k0_t3 : Fin k0_t3_loop.trips, ∀ (k0_h5 : k0_cond5 i k0_t3 = 1#1), ∀ a x, ((![v75] : Fin 1 → IVec S16 32) a x).toNat < S16.size a) ∧
  (∀ k0_t3 : Fin k0_t3_loop.trips, ∀ (k0_h5 : k0_cond5 i k0_t3 = 1#1), ∀ a x, ((![v75] : Fin 1 → IVec S16 32) a x).toNat < S16.size a)
theorem k0_idx3_inb : ∀ (i : grid0.Coords) (v75 : IVec S16 32) (k0_hw3 : k0_chk3 i v75) (k0_t3 : Fin k0_t3_loop.trips), ∀ (k0_h3 : k0_cond3 i k0_t3 = 1#1), ∀ a x, ((![v75] : Fin 1 → IVec S16 32) a x).toNat < S16.size a := fun i v75 k0_hw3 k0_t3 k0_h3 => k0_hw3.1 k0_t3 k0_h3
theorem k0_idx7_inb : ∀ (i : grid0.Coords) (v75 : IVec S16 32) (k0_hw3 : k0_chk3 i v75) (k0_t3 : Fin k0_t3_loop.trips), ∀ (k0_h3 : k0_cond3 i k0_t3 = 1#1), ∀ a x, ((![v75] : Fin 1 → IVec S16 32) a x).toNat < S16.size a := fun i v75 k0_hw3 k0_t3 k0_h3 => k0_hw3.2.1 k0_t3 k0_h3
theorem k0_idx11_inb : ∀ (i : grid0.Coords) (v75 : IVec S16 32) (k0_hw3 : k0_chk3 i v75) (k0_t3 : Fin k0_t3_loop.trips), ∀ (k0_h5 : k0_cond5 i k0_t3 = 1#1), ∀ a x, ((![v75] : Fin 1 → IVec S16 32) a x).toNat < S16.size a := fun i v75 k0_hw3 k0_t3 k0_h5 => k0_hw3.2.2.1 k0_t3 k0_h5
theorem k0_idx15_inb : ∀ (i : grid0.Coords) (v75 : IVec S16 32) (k0_hw3 : k0_chk3 i v75) (k0_t3 : Fin k0_t3_loop.trips), ∀ (k0_h5 : k0_cond5 i k0_t3 = 1#1), ∀ a x, ((![v75] : Fin 1 → IVec S16 32) a x).toNat < S16.size a := fun i v75 k0_hw3 k0_t3 k0_h5 => k0_hw3.2.2.2 k0_t3 k0_h5

def k0_chk4 (i : grid0.Coords) (v77 : IVec S16 32) : Prop :=
  (∀ k0_t3 : Fin k0_t3_loop.trips, ∀ (k0_h3 : k0_cond3 i k0_t3 = 1#1), ∀ a x, ((![v77] : Fin 1 → IVec S16 32) a x).toNat < S16.size a) ∧
  (∀ k0_t3 : Fin k0_t3_loop.trips, ∀ (k0_h3 : k0_cond3 i k0_t3 = 1#1), ∀ a x, ((![v77] : Fin 1 → IVec S16 32) a x).toNat < S16.size a) ∧
  (∀ k0_t3 : Fin k0_t3_loop.trips, ∀ (k0_h5 : k0_cond5 i k0_t3 = 1#1), ∀ a x, ((![v77] : Fin 1 → IVec S16 32) a x).toNat < S16.size a) ∧
  (∀ k0_t3 : Fin k0_t3_loop.trips, ∀ (k0_h5 : k0_cond5 i k0_t3 = 1#1), ∀ a x, ((![v77] : Fin 1 → IVec S16 32) a x).toNat < S16.size a)
theorem k0_idx4_inb : ∀ (i : grid0.Coords) (v77 : IVec S16 32) (k0_hw4 : k0_chk4 i v77) (k0_t3 : Fin k0_t3_loop.trips), ∀ (k0_h3 : k0_cond3 i k0_t3 = 1#1), ∀ a x, ((![v77] : Fin 1 → IVec S16 32) a x).toNat < S16.size a := fun i v77 k0_hw4 k0_t3 k0_h3 => k0_hw4.1 k0_t3 k0_h3
theorem k0_idx8_inb : ∀ (i : grid0.Coords) (v77 : IVec S16 32) (k0_hw4 : k0_chk4 i v77) (k0_t3 : Fin k0_t3_loop.trips), ∀ (k0_h3 : k0_cond3 i k0_t3 = 1#1), ∀ a x, ((![v77] : Fin 1 → IVec S16 32) a x).toNat < S16.size a := fun i v77 k0_hw4 k0_t3 k0_h3 => k0_hw4.2.1 k0_t3 k0_h3
theorem k0_idx12_inb : ∀ (i : grid0.Coords) (v77 : IVec S16 32) (k0_hw4 : k0_chk4 i v77) (k0_t3 : Fin k0_t3_loop.trips), ∀ (k0_h5 : k0_cond5 i k0_t3 = 1#1), ∀ a x, ((![v77] : Fin 1 → IVec S16 32) a x).toNat < S16.size a := fun i v77 k0_hw4 k0_t3 k0_h5 => k0_hw4.2.2.1 k0_t3 k0_h5
theorem k0_idx16_inb : ∀ (i : grid0.Coords) (v77 : IVec S16 32) (k0_hw4 : k0_chk4 i v77) (k0_t3 : Fin k0_t3_loop.trips), ∀ (k0_h5 : k0_cond5 i k0_t3 = 1#1), ∀ a x, ((![v77] : Fin 1 → IVec S16 32) a x).toNat < S16.size a := fun i v77 k0_hw4 k0_t3 k0_h5 => k0_hw4.2.2.2 k0_t3 k0_h5
def k0_off83 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v82 : BitVec 32 := Scalar.muli v1 c16384_i32
  ![v82.toNat]
def k0_off84 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_33 : BitVec 32 := 1024#32
  let v83 : BitVec 32 := Scalar.muli v1 c1024_i32_33
  ![v83.toNat]
abbrev grid1 : Pipeline.Grid := .none

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x5000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50x256 : Shape := ⟨2, ![50, 256]⟩
abbrev S50000x256 : Shape := ⟨2, ![50000, 256]⟩
abbrev S50000 : Shape := ⟨1, ![50000]⟩
abbrev S256x1 : Shape := ⟨2, ![256, 1]⟩
abbrev S1 : Shape := ⟨1, ![1]⟩
abbrev S50000x1 : Shape := ⟨2, ![50000, 1]⟩
abbrev S1x1 : Shape := ⟨2, ![1, 1]⟩
abbrev S50 : Shape := ⟨1, ![50]⟩
abbrev S1x50 : Shape := ⟨2, ![1, 50]⟩
abbrev S50000x50 : Shape := ⟨2, ![50000, 50]⟩
abbrev S_ : Shape := ⟨0, ![]⟩
abbrev S50x1 : Shape := ⟨2, ![50, 1]⟩
abbrev S50x2 : Shape := ⟨2, ![50, 2]⟩
abbrev S50000x2 : Shape := ⟨2, ![50000, 2]⟩

abbrev nBuf : Space → Nat
  | .hbm => 153
  | .vmem => 0
  | .smem => 0
  | _ => 0

abbrev hbmTy0_0 (i : Nat) : BufTy := match i % 128 with
  | 0 => ⟨S50x256, .f32⟩
  | 1 => ⟨S50000x256, .f32⟩
  | 2 => ⟨S50000x256, .f32⟩
  | 3 => ⟨S50000, .i32⟩
  | 4 => ⟨S256x1, .f32⟩
  | 5 => ⟨S1, .f32⟩
  | 6 => ⟨S256x1, .f32⟩
  | 7 => ⟨S1, .f32⟩
  | 8 => ⟨S50000x1, .f32⟩
  | 9 => ⟨S1x1, .f32⟩
  | 10 => ⟨S50000x1, .f32⟩
  | 11 => ⟨S50000x1, .f32⟩
  | 12 => ⟨S50000, .f32⟩
  | 13 => ⟨S50000x1, .i32⟩
  | 14 => ⟨S50, .i32⟩
  | 15 => ⟨S1x50, .i32⟩
  | 16 => ⟨S50000x50, .i32⟩
  | 17 => ⟨S50000x50, .i32⟩
  | 18 => ⟨S50000x50, .i1⟩
  | 19 => ⟨S50000x1, .f32⟩
  | 20 => ⟨S_, .f32⟩
  | 21 => ⟨S_, .f32⟩
  | 22 => ⟨S50000x50, .f32⟩
  | 23 => ⟨S50000x50, .f32⟩
  | 24 => ⟨S50000x50, .f32⟩
  | 25 => ⟨S_, .f32⟩
  | 26 => ⟨S50, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000, .f32⟩
  | 36 => ⟨S50000, .f32⟩
  | 37 => ⟨S50000, .f32⟩
  | 38 => ⟨S_, .f32⟩
  | 39 => ⟨S50, .f32⟩
  | 40 => ⟨S50000x1, .i32⟩
  | 41 => ⟨S50, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000, .f32⟩
  | 51 => ⟨S50000, .f32⟩
  | 52 => ⟨S50000x1, .f32⟩
  | 53 => ⟨S50000x256, .f32⟩
  | 54 => ⟨S50000x256, .f32⟩
  | 55 => ⟨S_, .f32⟩
  | 56 => ⟨S50x256, .f32⟩
  | 57 => ⟨S50000x1, .i32⟩
  | 58 => ⟨S50x256, .f32⟩
  | 59 => ⟨S50000x1, .f32⟩
  | 60 => ⟨S1x1, .f32⟩
  | 61 => ⟨S50000x1, .f32⟩
  | 62 => ⟨S50000x1, .f32⟩
  | 63 => ⟨S50000, .f32⟩
  | 64 => ⟨S50000x1, .i32⟩
  | 65 => ⟨S50, .i32⟩
  | 66 => ⟨S1x50, .i32⟩
  | 67 => ⟨S50000x50, .i32⟩
  | 68 => ⟨S50000x50, .i32⟩
  | 69 => ⟨S50000x50, .i1⟩
  | 70 => ⟨S50000x1, .f32⟩
  | 71 => ⟨S_, .f32⟩
  | 72 => ⟨S_, .f32⟩
  | 73 => ⟨S50000x50, .f32⟩
  | 74 => ⟨S50000x50, .f32⟩
  | 75 => ⟨S50000x50, .f32⟩
  | 76 => ⟨S_, .f32⟩
  | 77 => ⟨S50, .f32⟩
  | 78 => ⟨S_, .i32⟩
  | 79 => ⟨S50000, .i32⟩
  | 80 => ⟨S50000, .i1⟩
  | 81 => ⟨S_, .i32⟩
  | 82 => ⟨S50000, .i32⟩
  | 83 => ⟨S50000, .i32⟩
  | 84 => ⟨S50000, .i32⟩
  | 85 => ⟨S50000x1, .i32⟩
  | 86 => ⟨S50000, .f32⟩
  | 87 => ⟨S50000, .f32⟩
  | 88 => ⟨S50000, .f32⟩
  | 89 => ⟨S_, .f32⟩
  | 90 => ⟨S50, .f32⟩
  | 91 => ⟨S50000x1, .i32⟩
  | 92 => ⟨S50, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000, .f32⟩
  | 102 => ⟨S50000, .f32⟩
  | 103 => ⟨S50000x1, .f32⟩
  | 104 => ⟨S50000x256, .f32⟩
  | 105 => ⟨S50000x256, .f32⟩
  | 106 => ⟨S_, .f32⟩
  | 107 => ⟨S50x256, .f32⟩
  | 108 => ⟨S50000x1, .i32⟩
  | 109 => ⟨S50x256, .f32⟩
  | 110 => ⟨S50x256, .f32⟩
  | 111 => ⟨S_, .f32⟩
  | 112 => ⟨S50, .f32⟩
  | 113 => ⟨S50x1, .f32⟩
  | 114 => ⟨S50x256, .f32⟩
  | 115 => ⟨S_, .f32⟩
  | 116 => ⟨S50, .f32⟩
  | 117 => ⟨S50x1, .f32⟩
  | 118 => ⟨S50x2, .f32⟩
  | 119 => ⟨S_, .f32⟩
  | 120 => ⟨S50, .f32⟩
  | 121 => ⟨S_, .f32⟩
  | 122 => ⟨S50, .f32⟩
  | 123 => ⟨S50, .f32⟩
  | 124 => ⟨S50x1, .f32⟩
  | 125 => ⟨S50x2, .f32⟩
  | 126 => ⟨S50x2, .f32⟩
  | 127 => ⟨S50x2, .f32⟩
  | _ => ⟨S50x256, .f32⟩

abbrev hbmTy0_1 (i : Nat) : BufTy := match i % 128 with
  | 0 => ⟨S_, .f32⟩
  | 1 => ⟨S50, .f32⟩
  | 2 => ⟨S50x1, .f32⟩
  | 3 => ⟨S50x2, .f32⟩
  | 4 => ⟨S50x2, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000x2, .f32⟩
  | 14 => ⟨S50000x1, .f32⟩
  | 15 => ⟨S50000, .f32⟩
  | 16 => ⟨S50000x1, .f32⟩
  | 17 => ⟨S50000x256, .f32⟩
  | 18 => ⟨S50000x256, .f32⟩
  | 19 => ⟨S50000x1, .f32⟩
  | 20 => ⟨S50000, .f32⟩
  | 21 => ⟨S50000x1, .f32⟩
  | 22 => ⟨S50000x256, .f32⟩
  | 23 => ⟨S50000x256, .f32⟩
  | 24 => ⟨S50000x256, .f32⟩
  | _ => ⟨S50x256, .f32⟩

abbrev hbmTy (i : Nat) : BufTy := match i / 128 with
  | 0 => hbmTy0_0 i
  | 1 => hbmTy0_1 i
  | _ => ⟨S50x256, .f32⟩

abbrev bufTy : (tb : Table) → Fin (tcTables nBuf tb) → BufTy
  | .hbm, ⟨i, _⟩ => hbmTy i
  | _, _ => ⟨S50x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_c_8 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_19 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]
-- ==== Proof.Common.lean ====
/- The kernel of the pool as its launch sees it: the configuration, the tables of definitions, the
   ghost state, and the threads of one tile. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Batch
public import Idealize.ShloMosaic.Lib.Writes
public import Idealize.ShloMosaic.Lib.WritesUnit
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshake's rounds sit in the ghost state: its left half. -/
abbrev EH : Emb UH (MT nD τ sig (HIx 1) (Elt F) ℕ UU ℕ) := embL

/-- Where the rounds of the two kernels of the TensorCore sit: left of the counters, in its right half. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

abbrev cV (L : grid0.Coords) : Fin τ.nSC := (L 0).castLE hcore0
abbrev jV (L : grid0.Coords) : Fin τ.nSub := (L 1).castLE hsub0

/-- Programs of the vector subcore at coordinates `L`. -/
abbrev TP [FloatOps F] (L : grid0.Coords) (α : Type) : Type 1 :=
  Prog (TpuEff nD τ sig (Elt F) Λ₀ (.scVector ((L 0).castLE hcore0) ((L 1).castLE hsub0))) α

/-- Sixteen floats, one per lane. -/
abbrev V16 (F : FTy → Type) : Type := FVec F S16 .f32

end Cert.Proof.Pool
-- ==== Proof.Shape.lean ====
/- One row of a chunk, written once for both slots and both matrices. -/
module

public import proofs.«01_k».proof.Proof.Common

@[expose] public section

noncomputable section

namespace Cert.Proof.Pool

open Cert.KernelIdeal Cert.KernelIdeal.Gen
open Idealize.ShloMosaic
open Idealize.SL.Sem

variable {F : FTy → Type} [FloatOps F]

/-- The rectangle of sixteen lanes at an offset of a flat array. -/
abbrev win {n : ℕ} (o : Fin 1 → ℕ) (h : ∀ a, o a + S16.size a ≤ (⟨1, ![n]⟩ : Shape).size a) : Rect ⟨1, ![n]⟩ := Rect.unit o S16.size h
/-- Sixteen lanes of one row of a chunk. -/
abbrev rowRect (o : Fin 2 → ℕ) (h : ∀ a, o a + S1x16.size a ≤ S80x256.size a) : Rect S80x256 := Rect.unit o S1x16.size h

/-- Read sixteen lanes, add `y`, store them back. -/
def rmw (L : grid0.Coords) {n : ℕ} (m : Memref sig .scVector .vmem ⟨1, ![n]⟩ .f32) (o : Fin 1 → ℕ)
    (h : ∀ a, o a + S16.size a ≤ (⟨1, ![n]⟩ : Shape).size a) (y : V16 F) : TP (F := F) L PUnit := do
  let x : Vec F S16 .f32 ← Prog.lift (.load m (win o h).toLoadRect (View.loadsAt_vmem h_S16))
  let _z : Vec F S16 .f32 ← Prog.lift (.load m (win o h).toLoadRect (View.loadsAt_vmem h_S16))
  Prog.lift (.store m (win o h) (shapeCast S16 (addf (shapeCast S16 x shapeCasts_S16_S16) y) shapeCasts_S16_S16) Finset.univ
    (View.stores_vmem_bits_univ h_S16 rfl) (.inl rfl))

/-- Sixteen lanes of a row of a chunk. -/
def rowLoad (L : grid0.Coords) (m : Memref sig .scVector .vmem S80x256 .f32) (o : Fin 2 → ℕ)
    (h : ∀ a, o a + S1x16.size a ≤ S80x256.size a) : TP (F := F) L (V16 F) := do
  let x : Vec F S1x16 .f32 ← Prog.lift (.load m (rowRect o h).toLoadRect (View.loadsAt_vmem h_S1x16))
  pure (shapeCast S16 x shapeCasts_S1x16_S16)

/-- `v` plus `v` with its lanes taken at `I`, through the scratch of sixteen lanes. -/
def lanesAdd (L : grid0.Coords) (ln : Memref sig .scVector .vmem S16 .f32) (v : V16 F) (I : IVec S16 32)
    (h : ∀ (a : Fin 1) (x : S16.Idx), ((![I] : Fin 1 → IVec S16 32) a x).toNat < S16.size a) : TP (F := F) L (V16 F) := do
  let _z : Vec F S16 .f32 ← Prog.lift (.load ln (Rect.unit (s := S16) ![0] S16.size inb_S16_S16_0).toLoadRect (View.loadsAt_vmem h_S16))
  Prog.lift (.store ln (Rect.unit (s := S16) ![0] S16.size inb_S16_S16_0) (shapeCast S16 v shapeCasts_S16_S16) Finset.univ
    (View.stores_vmem_bits_univ h_S16 rfl) (.inl rfl))
  let x : Vec F S16 .f32 ← SparseCore.vectorLoadIdx ln ![I] h (View.loads_vmem h_S16)
  pure (addf v x)

/-- The sum of the sixteen products, in the kernel's order. -/
def dot16 (a b : Fin 16 → V16 F) : V16 F :=
  addf (addf (addf (addf (addf (addf (addf (addf (addf (addf (addf (addf (addf (addf (addf (mulf (a 0) (b 0)) (mulf (a 1) (b 1))) (mulf (a 2) (b 2))) (mulf (a 3) (b 3)))
    (mulf (a 4) (b 4))) (mulf (a 5) (b 5))) (mulf (a 6) (b 6))) (mulf (a 7) (b 7))) (mulf (a 8) (b 8))) (mulf (a 9) (b 9))) (mulf (a 10) (b 10)))
    (mulf (a 11) (b 11))) (mulf (a 12) (b 12))) (mulf (a 13) (b 13))) (mulf (a 14) (b 14))) (mulf (a 15) (b 15))

/-- What the lane indices must satisfy to be taken. -/
abbrev Lanes (I : Fin 4 → IVec S16 32) : Prop :=
  ∀ (k : Fin 4) (a : Fin 1) (x : S16.Idx), ((![I k] : Fin 1 → IVec S16 32) a x).toNat < S16.size a

/-- One row for one matrix: its sixteen slices, the gate's exponential in every lane, and the two accumulators. -/
def feat (L : grid0.Coords) (m : Memref sig .scVector .vmem S80x256 .f32) (o : Fin 16 → Fin 2 → ℕ)
    (h : ∀ j a, o j a + S1x16.size a ≤ S80x256.size a) (w : Fin 16 → V16 F) (ln : Memref sig .scVector .vmem S16 .f32)
    (I : Fin 4 → IVec S16 32) (hI : Lanes I)
    (nm : Memref sig .scVector .vmem S16384 .f32) (dm : Memref sig .scVector .vmem S1024 .f32)
    (od : Fin 1 → ℕ) (hd : ∀ a, od a + S16.size a ≤ S1024.size a)
    (on : Fin 16 → Fin 1 → ℕ) (hn : ∀ j a, on j a + S16.size a ≤ S16384.size a) : TP (F := F) L PUnit := do
  let s0 ← rowLoad L m (o 0) (h 0)
  let s1 ← rowLoad L m (o 1) (h 1)
  let s2 ← rowLoad L m (o 2) (h 2)
  let s3 ← rowLoad L m (o 3) (h 3)
  let s4 ← rowLoad L m (o 4) (h 4)
  let s5 ← rowLoad L m (o 5) (h 5)
  let s6 ← rowLoad L m (o 6) (h 6)
  let s7 ← rowLoad L m (o 7) (h 7)
  let s8 ← rowLoad L m (o 8) (h 8)
  let s9 ← rowLoad L m (o 9) (h 9)
  let s10 ← rowLoad L m (o 10) (h 10)
  let s11 ← rowLoad L m (o 11) (h 11)
  let s12 ← rowLoad L m (o 12) (h 12)
  let s13 ← rowLoad L m (o 13) (h 13)
  let s14 ← rowLoad L m (o 14) (h 14)
  let s15 ← rowLoad L m (o 15) (h 15)
  let v1 ← lanesAdd L ln (dot16 ![s0, s1, s2, s3, s4, s5, s6, s7, s8, s9, s10, s11, s12, s13, s14, s15] w) (I 0) (hI 0)
  let v2 ← lanesAdd L ln v1 (I 1) (hI 1)
  let v3 ← lanesAdd L ln v2 (I 2) (hI 2)
  let v4 ← lanesAdd L ln v3 (I 3) (hI 3)
  rmw L dm od hd (exp v4)
  rmw L nm (on 0) (hn 0) (mulf s0 (exp v4))
  rmw L nm (on 1) (hn 1) (mulf s1 (exp v4))
  rmw L nm (on 2) (hn 2) (mulf s2 (exp v4))
  rmw L nm (on 3) (hn 3) (mulf s3 (exp v4))
  rmw L nm (on 4) (hn 4) (mulf s4 (exp v4))
  rmw L nm (on 5) (hn 5) (mulf s5 (exp v4))
  rmw L nm (on 6) (hn 6) (mulf s6 (exp v4))
  rmw L nm (on 7) (hn 7) (mulf s7 (exp v4))
  rmw L nm (on 8) (hn 8) (mulf s8 (exp v4))
  rmw L nm (on 9) (hn 9) (mulf s9 (exp v4))
  rmw L nm (on 10) (hn 10) (mulf s10 (exp v4))
  rmw L nm (on 11) (hn 11) (mulf s11 (exp v4))
  rmw L nm (on 12) (hn 12) (mulf s12 (exp v4))
  rmw L nm (on 13) (hn 13) (mulf s13 (exp v4))
  rmw L nm (on 14) (hn 14) (mulf s14 (exp v4))
  rmw L nm (on 15) (hn 15) (mulf s15 (exp v4))

/-- One row: its segment word, the check of the word, and the two matrices' parts. -/
def row (L : grid0.Coords) (sg : Memref sig .scVector .vmem S2x96 .i32) (o : Fin 2 → ℕ) (h : ∀ a, o a + S1x16.size a ≤ S2x96.size a)
    (P : BitVec 32 → Prop) (dP : ∀ v, Decidable (P v)) (f1 f2 : ∀ v, P v → TP (F := F) L PUnit) : TP (F := F) L PUnit := do
  let x : Vec F S1x16 .i32 ← Prog.lift (.load sg (Rect.unit (s := S2x96) o S1x16.size h).toLoadRect (View.loadsAt_vmem h_S1x16))
  let v : BitVec 32 := extractAt ![0] (extractStridedSlice S1 ![0] (shapeCast S16 x shapeCasts_S1x16_S16) slices_S16_o0_S1) inpos_S1_p0
  have hv : P v := (← Prog.lift (TpuEff.assume (P v) (dP v))).down
  f1 v hv
  f2 v hv

end Cert.Proof.Pool
-- ==== Proof.Body.lean ====
/- The tile's program, with the two slots and the two matrices told apart by arguments. -/
module

public import proofs.«01_k».proof.Proof.Shape

@[expose] public section

noncomputable section

namespace Cert.Proof.Pool

open Cert.KernelIdeal Cert.KernelIdeal.Gen
open Idealize.ShloMosaic
open Idealize.SL.Sem

variable {F : FTy → Type} [FloatOps F]

/-! ## The tile's memory -/

abbrev hM1 : Memref sig .scVector .hbm S50000x256 .f32 := Memref.whole main_arg1_scv
abbrev hM2 : Memref sig .scVector .hbm S50000x256 .f32 := Memref.whole main_arg2_scv
abbrev hSg : Memref sig .scVector .hbm S50000 .i32 := Memref.whole main_arg3_scv
abbrev hW1 : Memref sig .scVector .hbm S256 .f32 := Memref.whole main_v0_scv
abbrev hW2 : Memref sig .scVector .hbm S256 .f32 := Memref.whole main_v1_scv
abbrev hN1 : Memref sig .scVector .hbm S524288 .f32 := Memref.whole main_v2_0_scv
abbrev hD1 : Memref sig .scVector .hbm S32768 .f32 := Memref.whole main_v2_1_scv
abbrev hN2 : Memref sig .scVector .hbm S524288 .f32 := Memref.whole main_v2_2_scv
abbrev hD2 : Memref sig .scVector .hbm S32768 .f32 := Memref.whole main_v2_3_scv
abbrev bM1 : Memref sig .scVector .vmem S2x80x256 .f32 := Memref.whole cc0_scratch0
abbrev bM2 : Memref sig .scVector .vmem S2x80x256 .f32 := Memref.whole cc0_scratch1
abbrev bSg : Memref sig .scVector .vmem S2x96 .i32 := Memref.whole cc0_scratch2
abbrev bW1 : Memref sig .scVector .vmem S256 .f32 := Memref.whole cc0_scratch3
abbrev bW2 : Memref sig .scVector .vmem S256 .f32 := Memref.whole cc0_scratch4
abbrev bN1 : Memref sig .scVector .vmem S16384 .f32 := Memref.whole cc0_scratch5
abbrev bD1 : Memref sig .scVector .vmem S1024 .f32 := Memref.whole cc0_scratch6
abbrev bN2 : Memref sig .scVector .vmem S16384 .f32 := Memref.whole cc0_scratch7
abbrev bD2 : Memref sig .scVector .vmem S1024 .f32 := Memref.whole cc0_scratch8
abbrev bLn : Memref sig .scVector .vmem S16 .f32 := Memref.whole cc0_scratch9

/-- Slot 0 of a two-slot chunk buffer. -/
abbrev slot0 (a : Memref sig .scVector .vmem S2x80x256 .f32) : Memref sig .scVector .vmem S80x256 .f32 :=
  (a.slice (Rect.unit (s := S2x80x256) ![0, 0, 0] S1x80x256.size inb_S2x80x256_S1x80x256_0_0_0) (fun _ => rfl)).squeeze S80x256 squeezes_S1x80x256_S80x256
/-- Slot 1 of a two-slot chunk buffer. -/
abbrev slot1 (a : Memref sig .scVector .vmem S2x80x256 .f32) : Memref sig .scVector .vmem S80x256 .f32 :=
  (a.slice (Rect.unit (s := S2x80x256) ![1, 0, 0] S1x80x256.size inb_S2x80x256_S1x80x256_1_0_0) (fun _ => rfl)).squeeze S80x256 squeezes_S1x80x256_S80x256
/-- The eighty segment words of slot 0. -/
abbrev seg0 : Memref sig .scVector .vmem S80 .i32 :=
  (bSg.slice (Rect.unit (s := S2x96) ![0, 0] S1x80.size inb_S2x96_S1x80_0_0) (fun _ => rfl)).squeeze S80 squeezes_S1x80_S80
/-- The eighty segment words of slot 1. -/
abbrev seg1 : Memref sig .scVector .vmem S80 .i32 :=
  (bSg.slice (Rect.unit (s := S2x96) ![1, 0] S1x80.size inb_S2x96_S1x80_1_0) (fun _ => rfl)).squeeze S80 squeezes_S1x80_S80

/-- Eighty rows of a matrix in HBM. -/
abbrev chunkM (a : Memref sig .scVector .hbm S50000x256 .f32) (o : Fin 2 → ℕ) (h : ∀ x, o x + S80x256.size x ≤ S50000x256.size x) : Memref sig .scVector .hbm S80x256 .f32 :=
  a.slice (Rect.unit (s := S50000x256) o S80x256.size h) (fun _ => rfl)
/-- Eighty segment words in HBM. -/
abbrev chunkS (o : Fin 1 → ℕ) (h : ∀ x, o x + S80.size x ≤ S50000.size x) : Memref sig .scVector .hbm S80 .i32 :=
  hSg.slice (Rect.unit (s := S50000) o S80.size h) (fun _ => rfl)

/-! ## The pieces -/

/-- A chunk's three copies, started. -/
def fetch (L : grid0.Coords) (s1 s2 : Memref sig .scVector .hbm S80x256 .f32) (s3 : Memref sig .scVector .hbm S80 .i32)
    (d1 d2 : Memref sig .scVector .vmem S80x256 .f32) (d3 : Memref sig .scVector .vmem S80 .i32) (a b : DmaSems sig S_) : TP (F := F) L PUnit := do
  Prog.lift (.enqueueDma s1 (.here d1) (.dma a.sem) (View.wordExact_bits rfl) (View.wordExact_bits rfl) ⟨Or.inl rfl, trivial⟩)
  Prog.lift (.enqueueDma s2 (.here d2) (.dma a.sem) (View.wordExact_bits rfl) (View.wordExact_bits rfl) ⟨Or.inl rfl, trivial⟩)
  Prog.lift (.enqueueDma s3 (.here d3) (.dma b.sem) (View.wordExact_bits rfl) (View.wordExact_bits rfl) ⟨Or.inl rfl, trivial⟩)

/-- A chunk's three copies, waited for. -/
def drain (L : grid0.Coords) (s1 s2 : Memref sig .scVector .hbm S80x256 .f32) (s3 : Memref sig .scVector .hbm S80 .i32)
    (d1 d2 : Memref sig .scVector .vmem S80x256 .f32) (d3 : Memref sig .scVector .vmem S80 .i32) (a b : DmaSems sig S_) : TP (F := F) L PUnit := do
  Prog.lift (.waitDma2 a.sem s1 d1 (View.wordExact_bits rfl) (View.wordExact_bits rfl))
  Prog.lift (.waitDma2 a.sem s2 d2 (View.wordExact_bits rfl) (View.wordExact_bits rfl))
  Prog.lift (.waitDma2 b.sem s3 d3 (View.wordExact_bits rfl) (View.wordExact_bits rfl))

/-- Where the rows of slot 0 lie for the first matrix, slice by slice. -/
abbrev offA (t : Fin k0_t4_loop.trips) : Fin 16 → Fin 2 → ℕ :=
  ![k0_off10 t, k0_off11 t, k0_off12 t, k0_off13 t, k0_off14 t, k0_off15 t, k0_off16 t, k0_off17 t, k0_off18 t, k0_off19 t, k0_off20 t, k0_off21 t, k0_off22 t, k0_off23 t, k0_off24 t, k0_off25 t]
/-- The same for the second matrix. -/
abbrev offB (t : Fin k0_t4_loop.trips) : Fin 16 → Fin 2 → ℕ :=
  ![k0_off28 t, k0_off29 t, k0_off30 t, k0_off31 t, k0_off32 t, k0_off33 t, k0_off34 t, k0_off35 t, k0_off36 t, k0_off37 t, k0_off38 t, k0_off39 t, k0_off40 t, k0_off41 t, k0_off42 t, k0_off43 t]
/-- Where the rows of slot 1 lie for the first matrix. -/
abbrev offC (t : Fin k0_t5_loop.trips) : Fin 16 → Fin 2 → ℕ :=
  ![k0_off49 t, k0_off50 t, k0_off51 t, k0_off52 t, k0_off53 t, k0_off54 t, k0_off55 t, k0_off56 t, k0_off57 t, k0_off58 t, k0_off59 t, k0_off60 t, k0_off61 t, k0_off62 t, k0_off63 t, k0_off64 t]
/-- The same for the second matrix. -/
abbrev offD (t : Fin k0_t5_loop.trips) : Fin 16 → Fin 2 → ℕ :=
  ![k0_off67 t, k0_off68 t, k0_off69 t, k0_off70 t, k0_off71 t, k0_off72 t, k0_off73 t, k0_off74 t, k0_off75 t, k0_off76 t, k0_off77 t, k0_off78 t, k0_off79 t, k0_off80 t, k0_off81 t, k0_off82 t]

/-- The sixteen slices of row `t` start at lanes `0, 16, …`. -/
theorem offA_eq (t : Fin k0_t4_loop.trips) (j : Fin 16) : offA t j = ![t.val, 16 * j.val] := by
  fin_cases j
  exacts [k0_off10_eq t, k0_off11_eq t, k0_off12_eq t, k0_off13_eq t, k0_off14_eq t, k0_off15_eq t, k0_off16_eq t, k0_off17_eq t,
    k0_off18_eq t, k0_off19_eq t, k0_off20_eq t, k0_off21_eq t, k0_off22_eq t, k0_off23_eq t, k0_off24_eq t, k0_off25_eq t]
theorem offB_eq (t : Fin k0_t4_loop.trips) (j : Fin 16) : offB t j = ![t.val, 16 * j.val] := by
  fin_cases j
  exacts [k0_off28_eq t, k0_off29_eq t, k0_off30_eq t, k0_off31_eq t, k0_off32_eq t, k0_off33_eq t, k0_off34_eq t, k0_off35_eq t,
    k0_off36_eq t, k0_off37_eq t, k0_off38_eq t, k0_off39_eq t, k0_off40_eq t, k0_off41_eq t, k0_off42_eq t, k0_off43_eq t]
theorem offC_eq (t : Fin k0_t5_loop.trips) (j : Fin 16) : offC t j = ![t.val, 16 * j.val] := by
  fin_cases j
  exacts [k0_off49_eq t, k0_off50_eq t, k0_off51_eq t, k0_off52_eq t, k0_off53_eq t, k0_off54_eq t, k0_off55_eq t, k0_off56_eq t,
    k0_off57_eq t, k0_off58_eq t, k0_off59_eq t, k0_off60_eq t, k0_off61_eq t, k0_off62_eq t, k0_off63_eq t, k0_off64_eq t]
theorem offD_eq (t : Fin k0_t5_loop.trips) (j : Fin 16) : offD t j = ![t.val, 16 * j.val] := by
  fin_cases j
  exacts [k0_off67_eq t, k0_off68_eq t, k0_off69_eq t, k0_off70_eq t, k0_off71_eq t, k0_off72_eq t, k0_off73_eq t, k0_off74_eq t,
    k0_off75_eq t, k0_off76_eq t, k0_off77_eq t, k0_off78_eq t, k0_off79_eq t, k0_off80_eq t, k0_off81_eq t, k0_off82_eq t]

theorem trips4 : k0_t4_loop.trips = 80 := by decide
theorem trips5 : k0_t5_loop.trips = 80 := by decide

theorem row_inb {t j : ℕ} (ht : t < 80) (hj : j < 16) : ∀ a, (![t, 16 * j] : Fin 2 → ℕ) a + S1x16.size a ≤ S80x256.size a := by
  intro a; fin_cases a
  · show t + 1 ≤ 80; omega
  · show 16 * j + 16 ≤ 256; omega

theorem offA_inb (t : Fin k0_t4_loop.trips) (j : Fin 16) : ∀ a, offA t j a + S1x16.size a ≤ S80x256.size a := by
  rw [offA_eq]; exact row_inb (trips4 ▸ t.isLt) j.isLt
theorem offB_inb (t : Fin k0_t4_loop.trips) (j : Fin 16) : ∀ a, offB t j a + S1x16.size a ≤ S80x256.size a := by
  rw [offB_eq]; exact row_inb (trips4 ▸ t.isLt) j.isLt
theorem offC_inb (t : Fin k0_t5_loop.trips) (j : Fin 16) : ∀ a, offC t j a + S1x16.size a ≤ S80x256.size a := by
  rw [offC_eq]; exact row_inb (trips5 ▸ t.isLt) j.isLt
theorem offD_inb (t : Fin k0_t5_loop.trips) (j : Fin 16) : ∀ a, offD t j a + S1x16.size a ≤ S80x256.size a := by
  rw [offD_eq]; exact row_inb (trips5 ▸ t.isLt) j.isLt

/-- Row `t` of slot 0. -/
def row0 (L : grid0.Coords) (w1 w2 : Fin 16 → V16 F) (I : Fin 4 → IVec S16 32) (hI : Lanes I) (t3 : Fin k0_t3_loop.trips)
    (h3 : k0_cond3 L t3 = 1#1) (t : Fin k0_t4_loop.trips) : TP (F := F) L PUnit :=
  row L bSg (k0_off9 t) (k0_off9_inb L t3 t h3) (k0_chk5 L t3) (k0_chk5.dec L t3)
    (fun v hv => feat L (slot0 bM1) (offA t) (offA_inb t) w1 bLn I hI bN1 bD1 (k0_off26 v) (hv.1 h3)
      (fun j => k0_off27 v (BitVec.ofNat 32 (16 * j.val))) (hv.2 h3))
    (fun v hv => feat L (slot0 bM2) (offB t) (offB_inb t) w2 bLn I hI bN2 bD2 (k0_off26 v) (hv.1 h3)
      (fun j => k0_off27 v (BitVec.ofNat 32 (16 * j.val))) (hv.2 h3))

/-- Row `t` of slot 1. -/
def row1 (L : grid0.Coords) (w1 w2 : Fin 16 → V16 F) (I : Fin 4 → IVec S16 32) (hI : Lanes I) (t3 : Fin k0_t3_loop.trips)
    (h5 : k0_cond5 L t3 = 1#1) (t : Fin k0_t5_loop.trips) : TP (F := F) L PUnit :=
  row L bSg (k0_off48 t) (k0_off48_inb L t3 t h5) (k0_chk6 L t3) (k0_chk6.dec L t3)
    (fun v hv => feat L (slot1 bM1) (offC t) (offC_inb t) w1 bLn I hI bN1 bD1 (k0_off65 v) (hv.1 h5)
      (fun j => k0_off66 v (BitVec.ofNat 32 (16 * j.val))) (hv.2 h5))
    (fun v hv => feat L (slot1 bM2) (offD t) (offD_inb t) w2 bLn I hI bN2 bD2 (k0_off65 v) (hv.1 h5)
      (fun j => k0_off66 v (BitVec.ofNat 32 (16 * j.val))) (hv.2 h5))

/-- The pair of chunks `t3`: slot 1's copies started, slot 0's chunk used, slot 0's next started, slot 1's used. -/
def pair (L : grid0.Coords) (w1 w2 : Fin 16 → V16 F) (I : Fin 4 → IVec S16 32) (hI : Lanes I) (t3 : Fin k0_t3_loop.trips) : TP (F := F) L PUnit := do
  if h2 : k0_cond2 L t3 = 1#1 then do
    fetch L (chunkM hM1 (k0_off5 L t3) (k0_off5_inb L t3 h2)) (chunkM hM2 (k0_off5 L t3) (k0_off5_inb L t3 h2)) (chunkS (k0_off6 L t3) (k0_off6_inb L t3 h2))
      (slot1 bM1) (slot1 bM2) seg1 cc0_scratch11 cc0_scratch13
    pure ⟨⟩
  else do
    pure ⟨⟩
  if h3 : k0_cond3 L t3 = 1#1 then do
    drain L (chunkM hM1 (k0_off7 L t3) (k0_off7_inb L t3 h3)) (chunkM hM2 (k0_off7 L t3) (k0_off7_inb L t3 h3)) (chunkS (k0_off8 L t3) (k0_off8_inb L t3 h3))
      (slot0 bM1) (slot0 bM2) seg0 cc0_scratch10 cc0_scratch12
    Scf.Loop.for k0_t4_loop (k0_t4_ok L t3 h3) ⟨⟩ fun t _ => row0 L w1 w2 I hI t3 h3 t
    pure ⟨⟩
  else do
    pure ⟨⟩
  if h4 : k0_cond4 L t3 = 1#1 then do
    fetch L (chunkM hM1 (k0_off44 L t3) (k0_off44_inb L t3 h4)) (chunkM hM2 (k0_off44 L t3) (k0_off44_inb L t3 h4)) (chunkS (k0_off45 L t3) (k0_off45_inb L t3 h4))
      (slot0 bM1) (slot0 bM2) seg0 cc0_scratch10 cc0_scratch12
    pure ⟨⟩
  else do
    pure ⟨⟩
  if h5 : k0_cond5 L t3 = 1#1 then do
    drain L (chunkM hM1 (k0_off46 L t3) (k0_off46_inb L t3 h5)) (chunkM hM2 (k0_off46 L t3) (k0_off46_inb L t3 h5)) (chunkS (k0_off47 L t3) (k0_off47_inb L t3 h5))
      (slot1 bM1) (slot1 bM2) seg1 cc0_scratch11 cc0_scratch13
    Scf.Loop.for k0_t5_loop (k0_t5_ok L t3 h5) ⟨⟩ fun t _ => row1 L w1 w2 I hI t3 h5 t
    pure ⟨⟩
  else do
    pure ⟨⟩
  pure ⟨⟩

/-- Store `v` over sixteen lanes. -/
def put16 (L : grid0.Coords) {n : ℕ} (m : Memref sig .scVector .vmem ⟨1, ![n]⟩ .f32) (o : Fin 1 → ℕ)
    (h : ∀ a, o a + S16.size a ≤ (⟨1, ![n]⟩ : Shape).size a) (v : V16 F) : TP (F := F) L PUnit := do
  let _z : Vec F S16 .f32 ← Prog.lift (.load m (win o h).toLoadRect (View.loadsAt_vmem h_S16))
  Prog.lift (.store m (win o h) (shapeCast S16 v shapeCasts_S16_S16) Finset.univ (View.stores_vmem_bits_univ h_S16 rfl) (.inl rfl))

/-- Sixteen lanes of a gate's weights. -/
def wload (L : grid0.Coords) (m : Memref sig .scVector .vmem S256 .f32) (o : Fin 1 → ℕ) (h : ∀ a, o a + S16.size a ≤ S256.size a) : TP (F := F) L (V16 F) := do
  let x : Vec F S16 .f32 ← Prog.lift (.load m (Rect.unit (s := S256) o S16.size h).toLoadRect (View.loadsAt_vmem h_S16))
  pure (shapeCast S16 x shapeCasts_S16_S16)

/-- The first twelve sixteens of a gate's weights. -/
def weightsHead (L : grid0.Coords) (m : Memref sig .scVector .vmem S256 .f32) : TP (F := F) L (Fin 12 → V16 F) := do
  let a0 ← wload L m ![0] inb_S256_S16_0
  let a1 ← wload L m ![16] inb_S256_S16_16
  let a2 ← wload L m ![32] inb_S256_S16_32
  let a3 ← wload L m ![48] inb_S256_S16_48
  let a4 ← wload L m ![64] inb_S256_S16_64
  let a5 ← wload L m ![80] inb_S256_S16_80
  let a6 ← wload L m ![96] inb_S256_S16_96
  let a7 ← wload L m ![112] inb_S256_S16_112
  let a8 ← wload L m ![128] inb_S256_S16_128
  let a9 ← wload L m ![144] inb_S256_S16_144
  let a10 ← wload L m ![160] inb_S256_S16_160
  let a11 ← wload L m ![176] inb_S256_S16_176
  pure ![a0, a1, a2, a3, a4, a5, a6, a7, a8, a9, a10, a11]

/-- The last four, after the first twelve. -/
def weightsTail (L : grid0.Coords) (m : Memref sig .scVector .vmem S256 .f32) (a : Fin 12 → V16 F) : TP (F := F) L (Fin 16 → V16 F) := do
  let a12 ← wload L m ![192] inb_S256_S16_192
  let a13 ← wload L m ![208] inb_S256_S16_208
  let a14 ← wload L m ![224] inb_S256_S16_224
  let a15 ← wload L m ![240] inb_S256_S16_240
  pure ![a 0, a 1, a 2, a 3, a 4, a 5, a 6, a 7, a 8, a 9, a 10, a 11, a12, a13, a14, a15]

/-- The lane numbers with one bit flipped. -/
abbrev flip (b : BitVec 32) : IVec S16 32 := xori (iota .scVector S16 32 [0] iota_S16_d0_w32_scVector) (broadcast S16 b)

/-- The four permutations of the lanes. -/
abbrev perms : Fin 4 → IVec S16 32 := ![flip 1#32, flip 2#32, flip 4#32, flip 8#32]

theorem flip_lt (b : BitVec 32) (hb : b.toNat < 16) (a : Fin 1) (x : S16.Idx) : ((![flip b] : Fin 1 → IVec S16 32) a x).toNat < S16.size a := by
  obtain rfl : a = 0 := Subsingleton.elim _ _
  have hx : (x 0).val < 16 := (x 0).isLt
  show (BitVec.ofNat 32 (0 * 16 + (x 0).val) ^^^ b).toNat < 16
  rw [Nat.zero_mul, Nat.zero_add, BitVec.toNat_xor, BitVec.toNat_ofNat, Nat.mod_eq_of_lt (by omega)]
  exact Nat.xor_lt_two_pow (n := 4) hx hb

theorem perms_ok : Lanes perms := by
  intro k
  fin_cases k
  exacts [flip_lt _ (by decide), flip_lt _ (by decide), flip_lt _ (by decide), flip_lt _ (by decide)]

/-- Copy a gate's weights in. -/
def copyW (L : grid0.Coords) (s : Memref sig .scVector .hbm S256 .f32) (d : Memref sig .scVector .vmem S256 .f32) (a : DmaSems sig S_) : TP (F := F) L PUnit := do
  Prog.lift (.enqueueDma s (.here d) (.dma a.sem) (View.wordExact_bits rfl) (View.wordExact_bits rfl) ⟨Or.inl rfl, trivial⟩)
  Prog.lift (.waitDma2 a.sem s d (View.wordExact_bits rfl) (View.wordExact_bits rfl))

/-- Copy an accumulator out. -/
def copyOut (L : grid0.Coords) {s : Shape} (m : Memref sig .scVector .vmem s .f32) (d : Memref sig .scVector .hbm s .f32) (a : DmaSems sig S_) : TP (F := F) L PUnit := do
  Prog.lift (.enqueueDma m (.here d) (.dma a.sem) (View.wordExact_bits rfl) (View.wordExact_bits rfl) ⟨Or.inl rfl, trivial⟩)
  Prog.lift (.waitDma2 a.sem m d (View.wordExact_bits rfl) (View.wordExact_bits rfl))

/-- This tile's block of a flat array of numerators. -/
abbrev outN (L : grid0.Coords) (a : Memref sig .scVector .hbm S524288 .f32) : Memref sig .scVector .hbm S16384 .f32 :=
  a.slice (Rect.unit (s := S524288) (k0_off83 L) S16384.size (k0_off83_inb L)) (fun _ => rfl)
/-- This tile's block of a flat array of denominators. -/
abbrev outD (L : grid0.Coords) (a : Memref sig .scVector .hbm S32768 .f32) : Memref sig .scVector .hbm S1024 .f32 :=
  a.slice (Rect.unit (s := S32768) (k0_off84 L) S1024.size (k0_off84_inb L)) (fun _ => rfl)

/-- Sixteen zeros. -/
abbrev zero16 : V16 F := broadcast S16 (Scalar.ofBits (F := F) .f32 0x00000000#32)

/-- The four permutations' checks. -/
def checks (L : grid0.Coords) : TP (F := F) L PUnit := do
  have _h1 := (← Prog.lift (TpuEff.assume (k0_chk1 L (flip 1#32)) (k0_chk1.dec L (flip 1#32)))).down
  have _h2 := (← Prog.lift (TpuEff.assume (k0_chk2 L (flip 2#32)) (k0_chk2.dec L (flip 2#32)))).down
  have _h3 := (← Prog.lift (TpuEff.assume (k0_chk3 L (flip 4#32)) (k0_chk3.dec L (flip 4#32)))).down
  have _h4 := (← Prog.lift (TpuEff.assume (k0_chk4 L (flip 8#32)) (k0_chk4.dec L (flip 8#32)))).down
  pure ⟨⟩

/-- The weights copied in, the accumulators zeroed, and the first loads of the weights. -/
def poolStart (L : grid0.Coords) : TP (F := F) L (Fin 12 → V16 F) := do
  copyW L hW1 bW1 cc0_scoped0
  copyW L hW2 bW2 cc0_scoped1
  Scf.Loop.for k0_t1_loop k0_t1_ok ⟨⟩ fun t _ => do
    put16 L bN1 (k0_off1 t) (k0_off1_inb t) zero16
    put16 L bN2 (k0_off1 t) (k0_off1_inb t) zero16
    pure ⟨⟩
  Scf.Loop.for k0_t2_loop k0_t2_ok ⟨⟩ fun t _ => do
    put16 L bD1 (k0_off2 t) (k0_off2_inb t) zero16
    put16 L bD2 (k0_off2 t) (k0_off2_inb t) zero16
    pure ⟨⟩
  weightsHead L bW1

/-- The chunks, and the first three copies out. -/
def poolMain (L : grid0.Coords) (w1 w2 : Fin 16 → V16 F) : TP (F := F) L (BitVec 32) := do
  checks L
  if h1 : k0_cond1 L = 1#1 then do
    fetch L (chunkM hM1 (k0_off3 L) (k0_off3_inb L h1)) (chunkM hM2 (k0_off3 L) (k0_off3_inb L h1)) (chunkS (k0_off4 L) (k0_off4_inb L h1))
      (slot0 bM1) (slot0 bM2) seg0 cc0_scratch10 cc0_scratch12
    pure ⟨⟩
  else do
    pure ⟨⟩
  Scf.Loop.for k0_t3_loop k0_t3_ok ⟨⟩ fun t3 _ => pair L w1 w2 perms perms_ok t3
  copyOut L bN1 (outN L hN1) cc0_scoped2
  copyOut L bD1 (outD L hD1) cc0_scoped3
  copyOut L bN2 (outN L hN2) cc0_scoped4
  pure 1024#32

/-- The tile's task. -/
def pool (L : grid0.Coords) : TP (F := F) L PUnit := do
  let a ← poolStart L
  let w1 ← weightsTail L bW1 a
  let b ← weightsHead L bW2
  let w2 ← weightsTail L bW2 b
  let _ ← poolMain L w1 w2
  copyOut L bD2 (outD L hD2) cc0_scoped5

/-- The printed task, on the arrays and scratch the launch gives it. -/
abbrev poolPrinted (L : grid0.Coords) : TP (F := F) L PUnit :=
  cc0__sc_pool_body L hM1 (Memref.isWhole_whole _) hM2 (Memref.isWhole_whole _) hSg (Memref.isWhole_whole _) hW1 (Memref.isWhole_whole _) hW2 (Memref.isWhole_whole _)
    hN1 (Memref.isWhole_whole _) hD1 (Memref.isWhole_whole _) hN2 (Memref.isWhole_whole _) hD2 (Memref.isWhole_whole _)
    bM1 (Memref.isWhole_whole _) bM2 (Memref.isWhole_whole _) bSg (Memref.isWhole_whole _) bW1 (Memref.isWhole_whole _) bW2 (Memref.isWhole_whole _)
    bN1 (Memref.isWhole_whole _) bD1 (Memref.isWhole_whole _) bN2 (Memref.isWhole_whole _) bD2 (Memref.isWhole_whole _) bLn (Memref.isWhole_whole _)
    cc0_scratch10 cc0_scratch11 cc0_scratch12 cc0_scratch13 cc0_scoped0 cc0_scoped1 cc0_scoped2 cc0_scoped3 cc0_scoped4 cc0_scoped5

end Cert.Proof.Pool
-- ==== Proof.Step.lean ====
/- What one piece of a row does to the memory it touches: each memref is held by what is read through it. -/
module

public import proofs.«01_k».proof.Proof.Body

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The thread of the tile at `L`. -/
abbrev th (d : Dev nD) (L : grid0.Coords) : Thread nD τ := V d (cV L) (jV L)

/-- The weakest precondition of a tile's program. -/
abbrev WP (d : Dev nD) (L : grid0.Coords) {α : Type} (p : TP (F := F) L α) (Q : α → sProp 𝕄) : sProp 𝕄 :=
  wp frame (wpE (defs₀ (F := F)) 𝒱₀ (th d L) none) Set.univ p Q

/-- The memref's elements are the tile's, and `X` is what is read through it. -/
def Own (d : Dev nD) (L : grid0.Coords) {sp : Space} {s : Shape} {e : EltTy} (m : Memref sig .scVector sp s e) (X : s.Idx → Elt F e) : sProp 𝕄 :=
  iprop(∃ f, ⌜m.view.read (Elt F) f = X⌝ ∗ (m.view.loc (th d L) ↦[m.view.set]{fullShare} f))

section Rules

variable (d : Dev nD) (L : grid0.Coords)

theorem own_load {cs : CoreSpace} {s : Shape} {e : EltTy} {m : Memref sig .scVector cs s e} {X : s.Idx → Elt F e} {r : Rect s} {hl : m.view.LoadsAt r} {α : Type}
    {k : (r.shape.Idx → Elt F e) → TP (F := F) L α} {Q : α → sProp 𝕄} :
    Own d L m X ⊢ iprop((Own d L m X -∗ WP d L (k fun x => X (r.emb x)) Q) -∗ WP d L (.op (.load m r hl) k) Q) := by
  unfold Own
  iintro ⟨%f, %hf, H⟩ Hk
  iapply (wp_load_rect 𝒱₀ (th d L) none Set.univ (m := m) (r := r) (S := m.view.set) (q := fullShare) (View.set_slice_subset m.view r)) $$ H
  iintro H
  rw [show (m.access r).read (Elt F) f = fun x => X (r.emb x) from by rw [← hf]; rfl]
  iapply Hk
  iexists f
  isplitr
  · ipureintro; exact hf
  · iexact H

theorem own_store {cs : CoreSpace} {s : Shape} {e : EltTy} {m : Memref sig .scVector cs s e} {X : s.Idx → Elt F e} {r : Rect s} {w : r.shape.Idx → Elt F e}
    {hx : (m.access r).Stores Finset.univ} {hm : Finset.univ = Finset.univ ∨ ∀ a, r.stride a = 1} {α : Type}
    {k : PUnit → TP (F := F) L α} {Q : α → sProp 𝕄} (X' : s.Idx → Elt F e) (h1 : ∀ x, X' (r.emb x) = w x) (h2 : ∀ y, (∀ x, r.emb x ≠ y) → X' y = X y) :
    Own d L m X ⊢ iprop((Own d L m X' -∗ WP d L (k ⟨⟩) Q) -∗ WP d L (.op (.store m r w Finset.univ hx hm) k) Q) := by
  unfold Own
  iintro ⟨%f, %hf, H⟩ Hk
  iapply (wp_store 𝒱₀ (th d L) none Set.univ (m := m) (r := r) (w := w) (Mk := Finset.univ) (S := m.view.set)
    (View.set_slice_subset m.view r)) $$ H
  iintro H
  iapply Hk
  iexists _
  isplitr
  rotate_left
  · iexact H
  · ipureintro
    funext y
    by_cases hy : ∃ x, r.emb x = y
    · obtain ⟨x, rfl⟩ := hy
      rw [h1]
      exact View.read_slice_write_emb r f w (Finset.mem_univ x)
    · rw [h2 y fun x hx => hy ⟨x, hx⟩, ← hf]
      exact View.read_slice_write_of_not_mem r f w Finset.univ (fun h => hy (by
        obtain ⟨x, -, hx⟩ := Finset.mem_map.mp h; exact ⟨x, hx⟩))

end Rules

/-! ## Sixteen lanes of a flat array -/

/-- A lane's index. -/
abbrev lane (k : ℕ) (h : k < 16) : S16.Idx := fun a => ⟨k, by obtain rfl : a = 0 := Subsingleton.elim _ _; exact h⟩

/-- `X` with `w` over the sixteen elements from `o`. -/
def putAt {n : ℕ} (o : ℕ) (w : V16 F) (X : (⟨1, ![n]⟩ : Shape).Idx → Elt F .f32) : (⟨1, ![n]⟩ : Shape).Idx → Elt F .f32 :=
  fun z => if h : o ≤ (z 0).val ∧ (z 0).val < o + 16 then w (lane ((z 0).val - o) (by omega)) else X z

/-- `X` with `y` added to the sixteen elements from `o`. -/
def accAt {n : ℕ} (o : ℕ) (y : V16 F) (X : (⟨1, ![n]⟩ : Shape).Idx → Elt F .f32) : (⟨1, ![n]⟩ : Shape).Idx → Elt F .f32 :=
  fun z => if h : o ≤ (z 0).val ∧ (z 0).val < o + 16 then addf (s := S16) (fun _ => X z) y (lane ((z 0).val - o) (by omega)) else X z

theorem win_emb {n : ℕ} (o : Fin 1 → ℕ) (h : ∀ a, o a + S16.size a ≤ (⟨1, ![n]⟩ : Shape).size a) (x : S16.Idx) :
    (((win o h).emb x) 0).val = o 0 + (x 0).val := by
  show o 0 + 1 * (x 0).val = _
  rw [Nat.one_mul]

theorem putAt_emb {n : ℕ} (o : Fin 1 → ℕ) (h : ∀ a, o a + S16.size a ≤ (⟨1, ![n]⟩ : Shape).size a) (w : V16 F) (X : (⟨1, ![n]⟩ : Shape).Idx → Elt F .f32) (x : S16.Idx) :
    putAt (o 0) w X ((win o h).emb x) = w x := by
  have hx : (x 0).val < 16 := (x 0).isLt
  have he := win_emb o h x
  unfold putAt
  rw [dif_pos ⟨by omega, by omega⟩]
  congr 1
  funext a
  obtain rfl : a = 0 := Subsingleton.elim _ _
  apply Fin.ext
  show (((win o h).emb x) 0).val - o 0 = (x 0).val
  omega

theorem putAt_off {n : ℕ} (o : Fin 1 → ℕ) (h : ∀ a, o a + S16.size a ≤ (⟨1, ![n]⟩ : Shape).size a) (w : V16 F) (X : (⟨1, ![n]⟩ : Shape).Idx → Elt F .f32)
    (y : (⟨1, ![n]⟩ : Shape).Idx) (hy : ∀ x, (win o h).emb x ≠ y) : putAt (o 0) w X y = X y := by
  unfold putAt
  rw [dif_neg]
  rintro ⟨h1, h2⟩
  refine hy (lane ((y 0).val - o 0) (by omega)) ?_
  funext a
  obtain rfl : a = 0 := Subsingleton.elim _ _
  apply Fin.ext
  rw [win_emb]
  show o 0 + ((y 0).val - o 0) = _
  omega

theorem putAt_acc {n : ℕ} (o : Fin 1 → ℕ) (h : ∀ a, o a + S16.size a ≤ (⟨1, ![n]⟩ : Shape).size a) (y : V16 F) (X : (⟨1, ![n]⟩ : Shape).Idx → Elt F .f32) :
    putAt (o 0) (addf (fun x => X ((win o h).emb x)) y) X = accAt (o 0) y X := by
  funext z
  unfold putAt accAt
  split
  · rename_i hz
    have : (win o h).emb (lane ((z 0).val - o 0) (by omega)) = z := by
      funext a
      obtain rfl : a = 0 := Subsingleton.elim _ _
      apply Fin.ext
      rw [win_emb]
      show o 0 + ((z 0).val - o 0) = _
      omega
    show FloatOps.addf (X _) _ = FloatOps.addf (X z) _
    rw [this]
  · rfl

end Cert.Proof.Pool
-- ==== Proof.Row.lean ====
/- One row of a chunk: what it loads, the gate it computes, and what it adds to the two accumulators. -/
module

public import proofs.«01_k».proof.Proof.Step

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Values -/

/-- Sixteen lanes of a row, as loaded. -/
def rowAt (X : S80x256.Idx → Elt F .f32) (o : Fin 2 → ℕ) (h : ∀ a, o a + S1x16.size a ≤ S80x256.size a) : V16 F :=
  shapeCast S16 (fun x => X ((rowRect o h).emb x)) shapeCasts_S1x16_S16

/-- A vector plus itself with its lanes taken at `I`. -/
def lanesVal (v : V16 F) (I : IVec S16 32) (h : ∀ (a : Fin 1) (x : S16.Idx), ((![I] : Fin 1 → IVec S16 32) a x).toNat < S16.size a) : V16 F :=
  addf v (loadIdx (F := F) (s := S16) (e := .f32) v ![I] h)

/-- The exponential of the gate, in every lane. -/
def gateV (s w : Fin 16 → V16 F) (I : Fin 4 → IVec S16 32) (hI : Lanes I) : V16 F :=
  exp (lanesVal (lanesVal (lanesVal (lanesVal (dot16 s w) (I 0) (hI 0)) (I 1) (hI 1)) (I 2) (hI 2)) (I 3) (hI 3))

/-- `N` with the first `k` sixteens of a row's products added from `o`. -/
def accPart {n : ℕ} (k : ℕ) (o : ℕ) (s : Fin 16 → V16 F) (e : V16 F) (N : (⟨1, ![n]⟩ : Shape).Idx → Elt F .f32) : (⟨1, ![n]⟩ : Shape).Idx → Elt F .f32 :=
  fun z => if h : (o ≤ (z 0).val ∧ (z 0).val < o + 16 * k) ∧ k ≤ 16 then
    addf (s := S16) (fun _ => N z) (mulf (s ⟨((z 0).val - o) / 16, by omega⟩) e) (lane (((z 0).val - o) % 16) (Nat.mod_lt _ (by omega))) else N z

theorem accPart_zero {n : ℕ} (o : ℕ) (s : Fin 16 → V16 F) (e : V16 F) (N : (⟨1, ![n]⟩ : Shape).Idx → Elt F .f32) : accPart 0 o s e N = N := by
  funext z
  unfold accPart
  rw [dif_neg (by omega)]

theorem accPart_succ {n : ℕ} (k : Fin 16) (o : ℕ) (s : Fin 16 → V16 F) (e : V16 F) (N : (⟨1, ![n]⟩ : Shape).Idx → Elt F .f32) :
    accAt (o + 16 * k.val) (mulf (s k) e) (accPart k.val o s e N) = accPart (k.val + 1) o s e N := by
  funext z
  have hk := k.isLt
  unfold accAt
  split
  · rename_i hz
    have h0 : accPart k.val o s e N z = N z := by
      unfold accPart
      rw [dif_neg (by omega)]
    unfold accPart
    rw [dif_neg (show ¬((o ≤ (z 0).val ∧ (z 0).val < o + 16 * k.val) ∧ k.val ≤ 16) by omega), dif_pos (by omega)]
    have hd : (⟨((z 0).val - o) / 16, by omega⟩ : Fin 16) = k := Fin.ext (by show ((z 0).val - o) / 16 = k.val; omega)
    have hl : lane ((z 0).val - (o + 16 * k.val)) (by omega) = lane (((z 0).val - o) % 16) (Nat.mod_lt _ (by omega)) := by
      funext a
      exact Fin.ext (by show (z 0).val - (o + 16 * k.val) = ((z 0).val - o) % 16; omega)
    rw [hd, hl]
  · rename_i hz
    unfold accPart
    by_cases h : (o ≤ (z 0).val ∧ (z 0).val < o + 16 * k.val)
    · rw [dif_pos ⟨h, by omega⟩, dif_pos (by omega)]
    · rw [dif_neg (by omega), dif_neg (by omega)]

theorem cast16 {α : Type} (v : S16.Idx → α) (h : S16.ShapeCasts S16) : shapeCast S16 v h = v :=
  funext fun i => congrArg v (Shape.reshapeEquiv_self _ i)

/-! ## Rules -/

section Rules

variable (d : Dev nD) (L : grid0.Coords)

theorem own_rmw {n : ℕ} {m : Memref sig .scVector .vmem ⟨1, ![n]⟩ .f32} {X : (⟨1, ![n]⟩ : Shape).Idx → Elt F .f32} {o : Fin 1 → ℕ}
    {h : ∀ a, o a + S16.size a ≤ (⟨1, ![n]⟩ : Shape).size a} {y : V16 F} {α : Type} {k : PUnit → TP (F := F) L α} {Q : α → sProp 𝕄}
    (X' : (⟨1, ![n]⟩ : Shape).Idx → Elt F .f32) (hX : accAt (o 0) y X = X') :
    Own d L m X ⊢ iprop((Own d L m X' -∗ WP d L (k ⟨⟩) Q) -∗ WP d L (rmw L m o h y >>= k) Q) := by
  subst hX
  unfold rmw
  simp only [Prog.lift, Prog.bind_op, Prog.bind_ret, Prog.pure_eq_ret, bind_assoc, cast16]
  iintro H Hk
  iapply (own_load d L (m := m)) $$ H
  iintro H
  iapply (own_load d L (m := m)) $$ H
  iintro H
  iapply (own_store d L (m := m) (r := win o h) (accAt (o 0) y X) (fun x => by rw [← putAt_acc o h]; exact putAt_emb o h _ _ x)
    (fun z hz => by rw [← putAt_acc o h]; exact putAt_off o h _ _ z hz)) $$ H
  iintro H
  iapply Hk $$ H

theorem own_rowLoad {m : Memref sig .scVector .vmem S80x256 .f32} {X : S80x256.Idx → Elt F .f32} {o : Fin 2 → ℕ}
    {h : ∀ a, o a + S1x16.size a ≤ S80x256.size a} {α : Type} {k : V16 F → TP (F := F) L α} {Q : α → sProp 𝕄}
    (v : V16 F) (hv : rowAt X o h = v) :
    Own d L m X ⊢ iprop((Own d L m X -∗ WP d L (k v) Q) -∗ WP d L (rowLoad L m o h >>= k) Q) := by
  subst hv
  unfold rowLoad
  simp only [Prog.lift, Prog.bind_op, Prog.bind_ret, Prog.pure_eq_ret, bind_assoc]
  iintro H Hk
  iapply (own_load d L (m := m)) $$ H
  iintro H
  iapply Hk $$ H

theorem own_lanesAdd {ln : Memref sig .scVector .vmem S16 .f32} {v : V16 F} {I : IVec S16 32}
    {h : ∀ (a : Fin 1) (x : S16.Idx), ((![I] : Fin 1 → IVec S16 32) a x).toNat < S16.size a} {α : Type} {k : V16 F → TP (F := F) L α} {Q : α → sProp 𝕄}
    {X : S16.Idx → Elt F .f32} :
    Own d L ln X ⊢ iprop((Own d L ln v -∗ WP d L (k (lanesVal v I h)) Q) -∗ WP d L (lanesAdd L ln v I h >>= k) Q) := by
  unfold lanesAdd
  simp only [Prog.lift, Prog.bind_op, Prog.bind_ret, Prog.pure_eq_ret, bind_assoc, cast16]
  iintro H Hk
  iapply (own_load d L (m := ln)) $$ H
  iintro H
  iapply (own_store d L (m := ln) v (fun x => by congr 1; funext a; obtain rfl : a = 0 := Subsingleton.elim _ _; exact Fin.ext (by show 0 + 1 * (x 0).val = _; omega))
    (fun y hy => absurd (by funext a; obtain rfl : a = 0 := Subsingleton.elim _ _; exact Fin.ext (by show 0 + 1 * (y 0).val = _; omega)) (hy y))) $$ H
  iintro H
  unfold SparseCore.vectorLoadIdx
  simp only [Prog.bind_op, Prog.bind_ret]
  iapply (own_load d L (m := ln)) $$ H
  iintro H
  rw [show (fun x => v ((Rect.whole S16).emb x)) = v from by funext x; congr 1; funext a; exact Fin.ext (by show 0 + 1 * (x a).val = _; omega)]
  iapply Hk $$ H

/-- One row for one matrix: the denominators take the gate's exponential at `ov`'s sixteen, the numerators the row's products. -/
theorem own_feat {m : Memref sig .scVector .vmem S80x256 .f32} {X : S80x256.Idx → Elt F .f32} {o : Fin 16 → Fin 2 → ℕ}
    {h : ∀ j a, o j a + S1x16.size a ≤ S80x256.size a} {w : Fin 16 → V16 F} {ln : Memref sig .scVector .vmem S16 .f32}
    {I : Fin 4 → IVec S16 32} {hI : Lanes I} {nm : Memref sig .scVector .vmem S16384 .f32} {dm : Memref sig .scVector .vmem S1024 .f32}
    {od : Fin 1 → ℕ} {hd : ∀ a, od a + S16.size a ≤ S1024.size a} {on : Fin 16 → Fin 1 → ℕ} {hn : ∀ j a, on j a + S16.size a ≤ S16384.size a}
    {N : S16384.Idx → Elt F .f32} {C : S1024.Idx → Elt F .f32} {Z : S16.Idx → Elt F .f32}
    {α : Type} {k : PUnit → TP (F := F) L α} {Q : α → sProp 𝕄}
    (s : Fin 16 → V16 F) (hs : ∀ j, rowAt X (o j) (h j) = s j) (e : V16 F) (he : gateV s w I hI = e) (v : ℕ) (hon : ∀ j : Fin 16, on j 0 = v + 16 * j.val) :
    iprop(Own d L m X ∗ Own d L ln Z ∗ Own d L nm N ∗ Own d L dm C) ⊢
      iprop((iprop(Own d L m X ∗ (∃ Z', Own d L ln Z') ∗ Own d L nm (accPart 16 v s e N) ∗ Own d L dm (accAt (od 0) e C)) -∗ WP d L (k ⟨⟩) Q) -∗
        WP d L (feat L m o h w ln I hI nm dm od hd on hn >>= k) Q) := by
  unfold feat
  simp only [bind_assoc]
  iintro ⟨HX, HZ, HN, HC⟩ Hk
  iapply (own_rowLoad d L (m := m) (s 0) (hs 0)) $$ HX
  iintro HX
  iapply (own_rowLoad d L (m := m) (s 1) (hs 1)) $$ HX
  iintro HX
  iapply (own_rowLoad d L (m := m) (s 2) (hs 2)) $$ HX
  iintro HX
  iapply (own_rowLoad d L (m := m) (s 3) (hs 3)) $$ HX
  iintro HX
  iapply (own_rowLoad d L (m := m) (s 4) (hs 4)) $$ HX
  iintro HX
  iapply (own_rowLoad d L (m := m) (s 5) (hs 5)) $$ HX
  iintro HX
  iapply (own_rowLoad d L (m := m) (s 6) (hs 6)) $$ HX
  iintro HX
  iapply (own_rowLoad d L (m := m) (s 7) (hs 7)) $$ HX
  iintro HX
  iapply (own_rowLoad d L (m := m) (s 8) (hs 8)) $$ HX
  iintro HX
  iapply (own_rowLoad d L (m := m) (s 9) (hs 9)) $$ HX
  iintro HX
  iapply (own_rowLoad d L (m := m) (s 10) (hs 10)) $$ HX
  iintro HX
  iapply (own_rowLoad d L (m := m) (s 11) (hs 11)) $$ HX
  iintro HX
  iapply (own_rowLoad d L (m := m) (s 12) (hs 12)) $$ HX
  iintro HX
  iapply (own_rowLoad d L (m := m) (s 13) (hs 13)) $$ HX
  iintro HX
  iapply (own_rowLoad d L (m := m) (s 14) (hs 14)) $$ HX
  iintro HX
  iapply (own_rowLoad d L (m := m) (s 15) (hs 15)) $$ HX
  iintro HX
  rw [show dot16 ![s 0, s 1, s 2, s 3, s 4, s 5, s 6, s 7, s 8, s 9, s 10, s 11, s 12, s 13, s 14, s 15] w = dot16 s w from rfl]
  iapply (own_lanesAdd d L (ln := ln)) $$ HZ
  iintro HZ
  iapply (own_lanesAdd d L (ln := ln)) $$ HZ
  iintro HZ
  iapply (own_lanesAdd d L (ln := ln)) $$ HZ
  iintro HZ
  iapply (own_lanesAdd d L (ln := ln)) $$ HZ
  iintro HZ
  rw [show exp (lanesVal (lanesVal (lanesVal (lanesVal (dot16 s w) (I 0) (hI 0)) (I 1) (hI 1)) (I 2) (hI 2)) (I 3) (hI 3)) = e from he]
  iapply (own_rmw d L (m := dm) _ rfl) $$ HC
  iintro HC
  iapply (own_rmw d L (m := nm) (accPart 1 v s e N) (by have h0 := accPart_succ 0 v s e N; rw [hon]; rwa [show accPart ((0 : Fin 16) : ℕ) v s e N = N from accPart_zero v s e N] at h0)) $$ HN
  iintro HN
  iapply (own_rmw d L (m := nm) (accPart 2 v s e N) (by rw [hon]; exact accPart_succ 1 v s e N)) $$ HN
  iintro HN
  iapply (own_rmw d L (m := nm) (accPart 3 v s e N) (by rw [hon]; exact accPart_succ 2 v s e N)) $$ HN
  iintro HN
  iapply (own_rmw d L (m := nm) (accPart 4 v s e N) (by rw [hon]; exact accPart_succ 3 v s e N)) $$ HN
  iintro HN
  iapply (own_rmw d L (m := nm) (accPart 5 v s e N) (by rw [hon]; exact accPart_succ 4 v s e N)) $$ HN
  iintro HN
  iapply (own_rmw d L (m := nm) (accPart 6 v s e N) (by rw [hon]; exact accPart_succ 5 v s e N)) $$ HN
  iintro HN
  iapply (own_rmw d L (m := nm) (accPart 7 v s e N) (by rw [hon]; exact accPart_succ 6 v s e N)) $$ HN
  iintro HN
  iapply (own_rmw d L (m := nm) (accPart 8 v s e N) (by rw [hon]; exact accPart_succ 7 v s e N)) $$ HN
  iintro HN
  iapply (own_rmw d L (m := nm) (accPart 9 v s e N) (by rw [hon]; exact accPart_succ 8 v s e N)) $$ HN
  iintro HN
  iapply (own_rmw d L (m := nm) (accPart 10 v s e N) (by rw [hon]; exact accPart_succ 9 v s e N)) $$ HN
  iintro HN
  iapply (own_rmw d L (m := nm) (accPart 11 v s e N) (by rw [hon]; exact accPart_succ 10 v s e N)) $$ HN
  iintro HN
  iapply (own_rmw d L (m := nm) (accPart 12 v s e N) (by rw [hon]; exact accPart_succ 11 v s e N)) $$ HN
  iintro HN
  iapply (own_rmw d L (m := nm) (accPart 13 v s e N) (by rw [hon]; exact accPart_succ 12 v s e N)) $$ HN
  iintro HN
  iapply (own_rmw d L (m := nm) (accPart 14 v s e N) (by rw [hon]; exact accPart_succ 13 v s e N)) $$ HN
  iintro HN
  iapply (own_rmw d L (m := nm) (accPart 15 v s e N) (by rw [hon]; exact accPart_succ 14 v s e N)) $$ HN
  iintro HN
  iapply (own_rmw d L (m := nm) (accPart 16 v s e N) (by rw [hon]; exact accPart_succ 15 v s e N)) $$ HN
  iintro HN
  iapply Hk
  isplitl [HX]
  · iexact HX
  isplitl [HZ]
  · iexists _
    iexact HZ
  isplitl [HN]
  · iexact HN
  · iexact HC

end Rules

end Cert.Proof.Pool
-- ==== Proof.Words.lean ====
/- The words the kernel computes: its offsets from a segment word, and its conditions, in closed form. -/
module

public import proofs.«01_k».proof.Proof.Row

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile's number. -/
abbrev wid (L : grid0.Coords) : ℕ := 2 * (L 1).val + (L 0).val

theorem off26_eq : ∀ n : Fin 64, k0_off26 (BitVec.ofNat 32 n.val) = ![16 * n.val] := by decide +kernel
theorem off65_eq : ∀ n : Fin 64, k0_off65 (BitVec.ofNat 32 n.val) = ![16 * n.val] := by decide +kernel
theorem off27_eq : ∀ (n : Fin 64) (r : Fin 16), k0_off27 (BitVec.ofNat 32 n.val) (BitVec.ofNat 32 (16 * r.val)) = ![256 * n.val + 16 * r.val] := by decide +kernel
theorem off66_eq : ∀ (n : Fin 64) (r : Fin 16), k0_off66 (BitVec.ofNat 32 n.val) (BitVec.ofNat 32 (16 * r.val)) = ![256 * n.val + 16 * r.val] := by decide +kernel

theorem cond1_iff : ∀ L : grid0.Coords, k0_cond1 L = 1#1 := by decide +kernel
theorem cond2_iff : ∀ (L : grid0.Coords) (t : Fin k0_t3_loop.trips), k0_cond2 L t = 1#1 ↔ wid L + 64 * t.val + 32 < 625 := by decide +kernel
theorem cond3_iff : ∀ (L : grid0.Coords) (t : Fin k0_t3_loop.trips), k0_cond3 L t = 1#1 ↔ wid L + 64 * t.val < 625 := by decide +kernel
theorem cond4_iff : ∀ (L : grid0.Coords) (t : Fin k0_t3_loop.trips), k0_cond4 L t = 1#1 ↔ wid L + 64 * t.val + 64 < 625 := by decide +kernel
theorem cond5_iff : ∀ (L : grid0.Coords) (t : Fin k0_t3_loop.trips), k0_cond5 L t = 1#1 ↔ wid L + 64 * t.val + 32 < 625 := by decide +kernel

theorem trips1 : k0_t1_loop.trips = 1024 := by decide +kernel
theorem trips2 : k0_t2_loop.trips = 64 := by decide +kernel
theorem trips3 : k0_t3_loop.trips = 10 := by decide +kernel

theorem word_ofNat (v : BitVec 32) : v = BitVec.ofNat 32 v.toNat :=
  BitVec.eq_of_toNat_eq (by rw [BitVec.toNat_ofNat, Nat.mod_eq_of_lt v.isLt])

theorem off26_of {v : BitVec 32} (h : v.toNat < 64) : k0_off26 v = ![16 * v.toNat] := by
  conv_lhs => rw [word_ofNat v]
  exact off26_eq ⟨v.toNat, h⟩
theorem off65_of {v : BitVec 32} (h : v.toNat < 64) : k0_off65 v = ![16 * v.toNat] := by
  conv_lhs => rw [word_ofNat v]
  exact off65_eq ⟨v.toNat, h⟩
theorem off27_of {v : BitVec 32} (h : v.toNat < 64) (r : Fin 16) : k0_off27 v (BitVec.ofNat 32 (16 * r.val)) = ![256 * v.toNat + 16 * r.val] := by
  conv_lhs => rw [word_ofNat v]
  exact off27_eq ⟨v.toNat, h⟩ r
theorem off66_of {v : BitVec 32} (h : v.toNat < 64) (r : Fin 16) : k0_off66 v (BitVec.ofNat 32 (16 * r.val)) = ![256 * v.toNat + 16 * r.val] := by
  conv_lhs => rw [word_ofNat v]
  exact off66_eq ⟨v.toNat, h⟩ r

theorem chk5_of (L : grid0.Coords) (t : Fin k0_t3_loop.trips) {v : BitVec 32} (h : v.toNat < 64) : k0_chk5 L t v := by
  refine ⟨fun _ a => ?_, fun _ r a => ?_⟩
  · rw [off26_of h]; obtain rfl : a = 0 := Subsingleton.elim _ _; show 16 * v.toNat + 16 ≤ 1024; omega
  · rw [off27_of h]; obtain rfl : a = 0 := Subsingleton.elim _ _; have := r.isLt; show 256 * v.toNat + 16 * r.val + 16 ≤ 16384; omega
theorem chk6_of (L : grid0.Coords) (t : Fin k0_t3_loop.trips) {v : BitVec 32} (h : v.toNat < 64) : k0_chk6 L t v := by
  refine ⟨fun _ a => ?_, fun _ r a => ?_⟩
  · rw [off65_of h]; obtain rfl : a = 0 := Subsingleton.elim _ _; show 16 * v.toNat + 16 ≤ 1024; omega
  · rw [off66_of h]; obtain rfl : a = 0 := Subsingleton.elim _ _; have := r.isLt; show 256 * v.toNat + 16 * r.val + 16 ≤ 16384; omega

end Cert.Proof.Pool
-- ==== Proof.Copy.lean ====
/- Copies between HBM and the tile's memory, their waits, and what lands. -/
module

public import proofs.«01_k».proof.Proof.Words

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (Batch batch_alloc' wp_dmaBatch wp_waitBatchO wp_waitBatchLastO)

/-- Where the copies' counters sit in the ghost state. -/
abbrev EC : UEmb Counters (MT nD τ sig (HIx 1) (Elt F) ℕ UU ℕ) := Idealize.ShloMosaic.countersEmb (U := UU)

/-- A family of two. -/
def two (P Q : sProp 𝕄) : Fin 2 → sProp 𝕄 := fun t => if t = 0 then P else Q

instance two_storable (P Q : sProp 𝕄) [BI.Storable (upEmb : UEmb _ 𝕄) P] [BI.Storable (upEmb : UEmb _ 𝕄) Q] (t : Fin 2) :
    BI.Storable (upEmb : UEmb _ 𝕄) (two P Q t) := by
  unfold two; split <;> infer_instance

theorem bigSep_two (P Q : sProp 𝕄) : bigSep Finset.univ (two P Q) = iprop(P ∗ Q) := by
  rw [show (Finset.univ : Finset (Fin 2)) = insert 0 {1} from rfl, bigSep_insert (by decide), bigSep_singleton]
  rfl

/-- What a copy hands back: the destination at what was read, and the source. -/
def Landed (d : Dev nD) (L : grid0.Coords) {sp sp' : Space} {s : Shape} {e : EltTy} (src : Memref sig .scVector sp s e) (dst : Memref sig .scVector sp' s e)
    (q : PosShare TreeShare) (fs : Buf (Elt F) (src.view.loc (th d L))) : sProp 𝕄 :=
  iprop(Own d L dst (src.view.read (Elt F) fs) ∗ (src.view.loc (th d L) ↦[src.view.set]{q} fs))

instance Own_storable (d : Dev nD) (L : grid0.Coords) {sp : Space} {s : Shape} {e : EltTy} (m : Memref sig .scVector sp s e) (X : s.Idx → Elt F e) :
    BI.Storable (upEmb : UEmb _ 𝕄) (Own d L m X) := by
  unfold Own; infer_instance

instance Landed_storable (d : Dev nD) (L : grid0.Coords) {sp sp' : Space} {s : Shape} {e : EltTy} (src : Memref sig .scVector sp s e) (dst : Memref sig .scVector sp' s e)
    (q : PosShare TreeShare) (fs : Buf (Elt F) (src.view.loc (th d L))) : BI.Storable (upEmb : UEmb _ 𝕄) (Landed d L src dst q fs) := by
  unfold Landed; infer_instance

section Rules

variable (d : Dev nD) (L : grid0.Coords)

theorem own_issue {n : ℕ} {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (τ := τ) (p := .scVector ((L 0).castLE hcore0) ((L 1).castLE hsub0)) sp sm (.here dst)} {α : Type}
    {k : PUnit → TP (F := F) L α} {Q : α → sProp 𝕄} {q : PosShare TreeShare} {fs : Buf (Elt F) (src.view.loc (th d L))} {X : s.Idx → Elt F e}
    {Dl : Fin n → sProp 𝕄} {j u : ℕ} (N : ℕ) (hN : dst.view.amount sm = N) (hj : j < n) (hu : u ≤ j * N) (hD : Dl ⟨j, hj⟩ = Landed d L src dst q fs) :
    iprop((src.view.loc (th d L) ↦[src.view.set]{q} fs) ∗ Own d L dst X ∗ Batch EC (th d L) sm none N Dl j u) ⊢
      iprop((Batch EC (th d L) sm none N Dl (j + 1) u -∗ WP d L (k ⟨⟩) Q) -∗ WP d L (.op (.enqueueDma src (.here dst) sm hsrc hdst hsem) k) Q) := by
  unfold Own
  iintro ⟨Hs, ⟨%fd, %hfd, Hd⟩, HB⟩ Hk
  iapply (wp_dmaBatch EC 𝒱₀ (th d L) none (via := ReadAs.same) (Sd := dst.view.set) (fd := fd) (fs := fs) (q := q) (D := Dl) none N hN (le_refl _) hj hu ?hd) $$ [Hs Hd HB]
  case hd =>
    rw [hD]
    unfold Landed Own
    iintro ⟨Hd, Hs⟩
    isplitl [Hd]
    · iexists _
      isplitr
      rotate_left
      · iexact Hd
      · ipureintro
        exact View.read_write_univ _ _
    · iexact Hs
  · isplitl [Hs]
    · iexact Hs
    isplitl [Hd]
    · iexact Hd
    · iexact HB
  · iexact Hk

/-- What a tile may wait for, and what it has waited for. -/
def Waiting (O : CellTallies nD τ sig (HIx 1)) (W : Waits sig (HIx 1)) : sProp 𝕄 :=
  iprop(Transfers.MayWaits (th d L) none O ∗ ∃ W', ⌜∀ p ∈ W', p ∈ W ∨ p.2 = none⌝ ∗ owes (th d L) O W')

variable {O : CellTallies nD τ sig (HIx 1)} {W : Waits sig (HIx 1)}

theorem own_wait {n : ℕ} {sp sp' : Space} {s s' : Shape} {e e' : EltTy} {κ' : Kind} {srcw : Memref sig .scVector sp' s' e'} {dstw : Memref sig κ' sp s e} {sem : DmaSem sig}
    {hsrc : srcw.view.WordExact} {hdst : dstw.view.WordExact} {α : Type}
    {k : PUnit → TP (F := F) L α} {Q : α → sProp 𝕄} {Dl : Fin n → sProp 𝕄} {u : ℕ} {N : ℕ} (hN : dstw.view.dmaCredit = N) (hu : u + N < N * n) :
    iprop(Batch EC (th d L) (.dma sem) none N Dl n u ∗ Waiting d L O W) ⊢
      iprop((iprop(Batch EC (th d L) (.dma sem) none N Dl n (u + N) ∗ Waiting d L O W) -∗ WP d L (k ⟨⟩) Q) -∗ WP d L (.op (.waitDma2 sem srcw dstw hsrc hdst) k) Q) := by
  unfold Waiting
  iintro ⟨HB, #Hmw, ⟨%W', %hW, HO⟩⟩ Hk
  iapply (wp_waitBatchO EC 𝒱₀ (th d L) none none hN hu (O := O) (W := W')) $$ [HB HO]
  · isplitl [HB]
    · iexact HB
    isplitl [HO]
    · iexact HO
    · iapply (Transfers.MayWaits.elim (SemLoc.dma sem)) $$ Hmw
  · iintro ⟨HB, HO⟩
    iapply Hk
    isplitl [HB]
    · iexact HB
    isplitr
    · iexact Hmw
    iexists _
    isplitr
    rotate_left
    · iexact HO
    · ipureintro
      intro p hp
      rcases Finset.mem_insert.mp hp with rfl | hp
      · exact .inr rfl
      · exact hW p hp

theorem own_waitLast {n : ℕ} {sp sp' : Space} {s s' : Shape} {e e' : EltTy} {κ' : Kind} {srcw : Memref sig .scVector sp' s' e'} {dstw : Memref sig κ' sp s e} {sem : DmaSem sig}
    {hsrc : srcw.view.WordExact} {hdst : dstw.view.WordExact} {α : Type}
    {k : PUnit → TP (F := F) L α} {Q : α → sProp 𝕄} {Dl : Fin n → sProp 𝕄} {u : ℕ} {N : ℕ} (hN : dstw.view.dmaCredit = N) (hN0 : 0 < N) (hu : u + N = N * n) :
    iprop(Batch EC (th d L) (.dma sem) none N Dl n u ∗ Waiting d L O W) ⊢
      iprop((iprop(bigSep Finset.univ Dl ∗ semVal (th d L, .dma sem) 0 ∗ Waiting d L O W) -∗ WP d L (k ⟨⟩) Q) -∗ WP d L (.op (.waitDma2 sem srcw dstw hsrc hdst) k) Q) := by
  unfold Waiting
  iintro ⟨HB, #Hmw, ⟨%W', %hW, HO⟩⟩ Hk
  iapply (wp_waitBatchLastO EC 𝒱₀ (th d L) none none hN hN0 hu (O := O) (W := W')) $$ [HB HO]
  · isplitl [HB]
    · iexact HB
    isplitl [HO]
    · iexact HO
    · iapply (Transfers.MayWaits.elim (SemLoc.dma sem)) $$ Hmw
  · iintro ⟨HB, Hv, HO⟩
    iapply Hk
    isplitl [HB]
    · iexact HB
    isplitl [Hv]
    · iexact Hv
    isplitr
    · iexact Hmw
    iexists _
    isplitr
    rotate_left
    · iexact HO
    · ipureintro
      intro p hp
      rcases Finset.mem_insert.mp hp with rfl | hp
      · exact .inr rfl
      · exact hW p hp

/-- A copy and its wait. -/
theorem own_copy {sp sp' : Space} {s : Shape} {e : EltTy} {src : Memref sig .scVector sp s e} {dst : Memref sig .scVector sp' s e} {sem : DmaSem sig}
    {hsrc hsrc' : src.view.WordExact} {hdst hdst' : dst.view.WordExact} {hsem : DmaTarget.Typed (nD := nD) (τ := τ) (p := .scVector ((L 0).castLE hcore0) ((L 1).castLE hsub0)) sp (.dma sem) (.here dst)} {α : Type}
    {k : PUnit → TP (F := F) L α} {Q : α → sProp 𝕄} {q : PosShare TreeShare} {fs : Buf (Elt F) (src.view.loc (th d L))} {X : s.Idx → Elt F e}
    (N : ℕ) (hN : dst.view.amount (.dma sem) = N) (hN' : dst.view.dmaCredit = N) (hN0 : 0 < N) :
    iprop((src.view.loc (th d L) ↦[src.view.set]{q} fs) ∗ Own d L dst X ∗ semVal (th d L, .dma sem) 0 ∗ Waiting d L O W) ⊢
      iprop((iprop(Own d L dst (src.view.read (Elt F) fs) ∗ (src.view.loc (th d L) ↦[src.view.set]{q} fs) ∗ semVal (th d L, .dma sem) 0 ∗ Waiting d L O W) -∗ WP d L (k ⟨⟩) Q) -∗
        WP d L (.op (.enqueueDma src (.here dst) (.dma sem) hsrc hdst hsem) fun _ => .op (.waitDma2 sem src dst hsrc' hdst') k) Q) := by
  iintro ⟨Hs, Hd, Hv, HW⟩ Hk
  imod (batch_alloc' (Lvl := ℕ) EC (th d L) none N (fun _ : Fin 1 => Landed d L src dst q fs) (sm := .dma sem) (E := Set.univ)) $$ Hv with HB
  iapply (own_issue d L (n := 1) (j := 0) (u := 0) (q := q) (fs := fs) (Dl := fun _ : Fin 1 => Landed d L src dst q fs) N hN (by omega) (by omega) rfl) $$ [Hs Hd HB]
  · isplitl [Hs]
    · iexact Hs
    isplitl [Hd]
    · iexact Hd
    · iexact HB
  iintro HB
  iapply (own_waitLast d L (u := 0) (n := 1) (N := N) hN' hN0 (by omega)) $$ [HB HW]
  · isplitl [HB]
    · iexact HB
    · iexact HW
  rw [show (Finset.univ : Finset (Fin 1)) = {0} from rfl, bigSep_singleton]
  unfold Landed
  iintro ⟨⟨Hd, Hs⟩, Hv, HW⟩
  iapply Hk
  isplitl [Hd]
  · iexact Hd
  isplitl [Hs]
  · iexact Hs
  isplitl [Hv]
  · iexact Hv
  · iexact HW

end Rules

end Cert.Proof.Pool
-- ==== Proof.Seg.lean ====
/- The two rows of segment words: what a row of the buffer holds, and the word a row of a chunk reads. -/
module

public import proofs.«01_k».proof.Proof.Copy
public import Idealize.ShloMosaic.Lib.ValueIdxCore

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-- Row `b` of the segment words. -/
def segRow (b : Fin 2) : Finset S2x96.Idx := Finset.univ.filter fun i => (i 0).val = b.val
/-- Its words past the eighty copied. -/
def segTail (b : Fin 2) : Finset S2x96.Idx := Finset.univ.filter fun i => (i 0).val = b.val ∧ 80 ≤ (i 1).val
/-- The eighty. -/
def segHead (b : Fin 2) : Finset S2x96.Idx := Finset.univ.filter fun i => (i 0).val = b.val ∧ (i 1).val < 80

theorem segRow_eq (b : Fin 2) : segHead b ∪ segTail b = segRow b := by
  ext i
  simp only [segHead, segTail, segRow, Finset.mem_union, Finset.mem_filter, Finset.mem_univ, _root_.true_and]
  constructor
  · rintro (h | h) <;> exact h.1
  · intro h
    rcases Nat.lt_or_ge (i 1).val 80 with h1 | h1
    · exact .inl ⟨h, h1⟩
    · exact .inr ⟨h, h1⟩

theorem segHead_disj (b : Fin 2) : Disjoint (segHead b) (segTail b) := by
  rw [Finset.disjoint_left]
  intro i h h'
  simp only [segHead, segTail, Finset.mem_filter, Finset.mem_univ, _root_.true_and] at h h'
  omega

theorem seg_emb {b : Fin 2} (h : ∀ a, (![b.val, 0] : Fin 2 → ℕ) a + S1x80.size a ≤ S2x96.size a) (x : S80.Idx) :
    (((bSg.slice (Rect.unit (s := S2x96) ![b.val, 0] S1x80.size h) (fun _ => rfl)).squeeze S80 squeezes_S1x80_S80).view.emb x : S2x96.Idx)
      = ix2 b ⟨(x 0).val, Nat.lt_of_lt_of_le (x 0).isLt (by decide)⟩ := by
  have e : (Shape.reshapeEquiv (s := S1x80) (s' := S80) squeezes_S1x80_S80.numel_eq x) = (ix2 (0 : Fin 1) (x 0) : S1x80.Idx) := by
    apply Shape.reshapeEquiv_eq_of_rowMajor
    rw [Shape.rowMajor_val_one, Shape.rowMajor_val_two]
    show 0 * 80 + (x 0).val = (x 0).val
    omega
  show (Rect.unit (s := S2x96) ![b.val, 0] S1x80.size h).emb (Shape.reshapeEquiv (s := S1x80) (s' := S80) squeezes_S1x80_S80.numel_eq x) = _
  rw [e]
  funext a
  fin_cases a
  · exact Fin.ext (by show b.val + 1 * 0 = b.val; omega)
  · exact Fin.ext (by show 0 + 1 * (x 0).val = (x 0).val; omega)

theorem seg_set {b : Fin 2} (h : ∀ a, (![b.val, 0] : Fin 2 → ℕ) a + S1x80.size a ≤ S2x96.size a) :
    ((bSg.slice (Rect.unit (s := S2x96) ![b.val, 0] S1x80.size h) (fun _ => rfl)).squeeze S80 squeezes_S1x80_S80).view.set = (segHead b : Finset S2x96.Idx) := by
  ext i
  constructor
  · intro hi
    obtain ⟨x, -, rfl⟩ := Finset.mem_map.mp hi
    rw [seg_emb h x]
    simp only [segHead, Finset.mem_filter, Finset.mem_univ, _root_.true_and]
    exact (x 0).isLt
  · intro hi
    simp only [segHead, Finset.mem_filter, Finset.mem_univ, _root_.true_and] at hi
    refine Finset.mem_map.mpr ⟨ix1 ⟨(i 1).val, hi.2⟩, Finset.mem_univ _, ?_⟩
    refine (seg_emb h _).trans ?_
    funext a
    fin_cases a
    · exact Fin.ext hi.1.symm
    · rfl

/-- Row `b`'s tail, at any contents. -/
def SegTail (d : Dev nD) (L : grid0.Coords) (b : Fin 2) : sProp 𝕄 :=
  iprop(∃ f, (bSg.view.loc (th d L) ↦[segTail b]{fullShare} f))

/-- Row `b`, its eighty words `G`. -/
def SegOwn (d : Dev nD) (L : grid0.Coords) (b : Fin 2) (G : S80.Idx → BitVec 32) : sProp 𝕄 :=
  iprop(∃ f : S2x96.Idx → BitVec 32, ⌜∀ t : Fin 80, f (ix2 b ⟨t.val, Nat.lt_of_lt_of_le t.isLt (by decide)⟩) = G (ix1 t)⌝ ∗ (bSg.view.loc (th d L) ↦[segRow b]{fullShare} f))

section Rules

variable (d : Dev nD) (L : grid0.Coords)

theorem seg_join {b : Fin 2} (h : ∀ a, (![b.val, 0] : Fin 2 → ℕ) a + S1x80.size a ≤ S2x96.size a) (G : S80.Idx → BitVec 32) :
    iprop(Own (F := F) d L ((bSg.slice (Rect.unit (s := S2x96) ![b.val, 0] S1x80.size h) (fun _ => rfl)).squeeze S80 squeezes_S1x80_S80) G ∗ SegTail d L b) ⊢ SegOwn d L b G := by
  unfold Own SegTail SegOwn
  iintro ⟨⟨%f, %hf, H⟩, ⟨%g, Hg⟩⟩
  rw [seg_set h]
  ihave H' := (pointsTo_join (f := f) (g := g) (segHead_disj b)) $$ [H Hg]
  · isplitl [H]
    · iexact H
    · iexact Hg
  rw [segRow_eq]
  iexists _
  isplitr
  rotate_left
  · iexact H'
  · ipureintro
    intro t
    rw [Finset.piecewise_eq_of_notMem]
    · rw [← hf, View.read_apply, seg_emb h (ix1 t)]
      rfl
    · simp only [segTail, Finset.mem_filter, Finset.mem_univ, _root_.true_and, not_and, not_le]
      first | exact t.isLt | exact fun _ => t.isLt

theorem seg_split {b : Fin 2} (h : ∀ a, (![b.val, 0] : Fin 2 → ℕ) a + S1x80.size a ≤ S2x96.size a) (G : S80.Idx → BitVec 32) :
    SegOwn (F := F) d L b G ⊢ iprop((∃ X, Own d L ((bSg.slice (Rect.unit (s := S2x96) ![b.val, 0] S1x80.size h) (fun _ => rfl)).squeeze S80 squeezes_S1x80_S80) X) ∗ SegTail d L b) := by
  unfold Own SegTail SegOwn
  iintro ⟨%f, %hf, H⟩
  rw [← segRow_eq]
  ihave H' := (pointsTo_union (f := f) (segHead_disj b)).1 $$ H
  icases H' with ⟨H1, H2⟩
  isplitl [H1]
  · iexists _, f
    isplitr
    · ipureintro; rfl
    · rw [seg_set h]
      iexact H1
  · iexists f
    iexact H2

/-- The word of a row: the first of the sixteen loaded. -/
theorem word_eq (x : Vec F S1x16 .i32) :
    extractAt ![0] (extractStridedSlice S1 ![0] (shapeCast S16 x shapeCasts_S1x16_S16) slices_S16_o0_S1) inpos_S1_p0 = x (ix2 0 0) := by
  show x (Shape.reshapeEquiv (s := S1x16) (s' := S16) _ _) = _
  congr 1
  apply Shape.reshapeEquiv_eq_of_rowMajor
  rw [Shape.rowMajor_val_one, Shape.rowMajor_val_two]
  rfl

theorem seg_load {b : Fin 2} {G : S80.Idx → BitVec 32} {o : Fin 2 → ℕ} {h : ∀ a, o a + S1x16.size a ≤ S2x96.size a}
    {hl : bSg.view.LoadsAt (Rect.unit (s := S2x96) o S1x16.size h).toLoadRect} {α : Type}
    {k : Vec F S1x16 .i32 → TP (F := F) L α} {Q : α → sProp 𝕄} (t : Fin 80) (ho : o = ![b.val, t.val]) :
    SegOwn d L b G ⊢ iprop((SegOwn d L b G -∗ iprop(∀ x : Vec F S1x16 .i32, ⌜x (ix2 0 0) = G (ix1 t)⌝ -∗ WP d L (k x) Q)) -∗
      WP d L (.op (.load bSg (Rect.unit (s := S2x96) o S1x16.size h).toLoadRect hl) k) Q) := by
  subst ho
  unfold SegOwn
  iintro ⟨%f, %hf, H⟩ Hk
  have hS : (bSg.access (Rect.unit (s := S2x96) ![b.val, t.val] S1x16.size h)).set ⊆ (segRow b : Finset S2x96.Idx) := by
    intro i hi
    obtain ⟨x, -, rfl⟩ := Finset.mem_map.mp hi
    simp only [segRow, Finset.mem_filter, Finset.mem_univ, _root_.true_and]
    have hx : (x 0).val < 1 := (x 0).isLt
    show b.val + 1 * (x 0).val = b.val
    omega
  iapply (wp_load_rect 𝒱₀ (th d L) none Set.univ (m := bSg) (r := Rect.unit (s := S2x96) ![b.val, t.val] S1x16.size h) (S := segRow b) (q := fullShare) hS) $$ H
  iintro H
  ihave Hk' := Hk $$ [H]
  · iexists f
    isplitr
    · ipureintro; exact hf
    · iexact H
  iapply Hk'
  ipureintro
  rw [← hf t]
  show f ((Rect.unit (s := S2x96) ![b.val, t.val] S1x16.size h).emb (ix2 0 0)) = _
  congr 1
  funext a
  fin_cases a
  · exact Fin.ext (by show b.val + 1 * 0 = b.val; omega)
  · exact Fin.ext (by show t.val + 1 * 0 = t.val; omega)

/-- A row: its word is `G`'s, the check holds of it, and the two parts follow. -/
theorem own_row {b : Fin 2} {G : S80.Idx → BitVec 32} {o : Fin 2 → ℕ} {h : ∀ a, o a + S1x16.size a ≤ S2x96.size a}
    {P : BitVec 32 → Prop} {dP : ∀ v, Decidable (P v)} {f1 f2 : ∀ v, P v → TP (F := F) L PUnit} {α : Type}
    {k : PUnit → TP (F := F) L α} {Q : α → sProp 𝕄} (t : Fin 80) (ho : o = ![b.val, t.val]) (hP : P (G (ix1 t))) :
    SegOwn d L b G ⊢ iprop((SegOwn d L b G -∗ WP d L (f1 (G (ix1 t)) hP >>= fun _ => f2 (G (ix1 t)) hP >>= k) Q) -∗
      WP d L (row L bSg o h P dP f1 f2 >>= k) Q) := by
  unfold row
  simp only [Prog.lift, Prog.bind_op, Prog.bind_ret, Prog.pure_eq_ret, bind_assoc]
  iintro H Hk
  iapply (seg_load d L t ho) $$ H
  iintro H %x %hx
  have hw := word_eq x
  rw [hx] at hw
  have hP' := hP
  rw [← hw] at hP'
  iapply (wp_assume 𝒱₀ (th d L) none Set.univ hP')
  ihave Hk' := Hk $$ H
  have key : ∀ (v : BitVec 32) (hv : P v) (e : v = G (ix1 t)), (f1 v hv >>= fun _ => f2 v hv >>= k) = (f1 (G (ix1 t)) hP >>= fun _ => f2 (G (ix1 t)) hP >>= k) := by
    intro v hv e; subst e; rfl
  rw [key _ hP' hw]
  iexact Hk'

end Rules

end Cert.Proof.Pool
-- ==== Proof.Chunk.lean ====
/- A chunk's eighty rows: the four accumulators take each row in turn. -/
module

public import proofs.«01_k».proof.Proof.Seg

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## Values -/

/-- The four accumulators of a tile. -/
structure Acc (F : FTy → Type) where
  n1 : S16384.Idx → Elt F .f32
  d1 : S1024.Idx → Elt F .f32
  n2 : S16384.Idx → Elt F .f32
  d2 : S1024.Idx → Elt F .f32

/-- The sixteen sixteens of row `t`. -/
def rowSlice (X : S80x256.Idx → Elt F .f32) (t : Fin 80) (j : Fin 16) : V16 F := rowAt X ![t.val, 16 * j.val] (row_inb t.isLt j.isLt)

/-- The exponential of row `t`'s gate, in every lane. -/
def rowGate (X : S80x256.Idx → Elt F .f32) (w : Fin 16 → V16 F) (t : Fin 80) : V16 F := gateV (rowSlice X t) w perms perms_ok

/-- One row added. -/
def Acc.row (w1 w2 : Fin 16 → V16 F) (X1 X2 : S80x256.Idx → Elt F .f32) (G : S80.Idx → BitVec 32) (t : Fin 80) (A : Acc F) : Acc F where
  n1 := accPart 16 (256 * (G (ix1 t)).toNat) (rowSlice X1 t) (rowGate X1 w1 t) A.n1
  d1 := accAt (16 * (G (ix1 t)).toNat) (rowGate X1 w1 t) A.d1
  n2 := accPart 16 (256 * (G (ix1 t)).toNat) (rowSlice X2 t) (rowGate X2 w2 t) A.n2
  d2 := accAt (16 * (G (ix1 t)).toNat) (rowGate X2 w2 t) A.d2

/-- The first `t` rows added. -/
def Acc.rows (w1 w2 : Fin 16 → V16 F) (X1 X2 : S80x256.Idx → Elt F .f32) (G : S80.Idx → BitVec 32) (A : Acc F) : ℕ → Acc F
  | 0 => A
  | t + 1 => if h : t < 80 then (Acc.rows w1 w2 X1 X2 G A t).row w1 w2 X1 X2 G ⟨t, h⟩ else Acc.rows w1 w2 X1 X2 G A t

theorem rowAt_congr {X : S80x256.Idx → Elt F .f32} {o o' : Fin 2 → ℕ} (e : o = o') (h : ∀ a, o a + S1x16.size a ≤ S80x256.size a) (h' : ∀ a, o' a + S1x16.size a ≤ S80x256.size a) :
    rowAt X o h = rowAt X o' h' := by
  subst e; rfl

/-- The accumulators and the lanes' scratch. -/
def AccOwn (d : Dev nD) (L : grid0.Coords) (A : Acc F) : sProp 𝕄 :=
  iprop(Own d L bN1 A.n1 ∗ Own d L bD1 A.d1 ∗ Own d L bN2 A.n2 ∗ Own d L bD2 A.d2 ∗ ∃ Z, Own d L bLn Z)

/-- A chunk in its slot, and the accumulators. -/
def ChunkOwn (d : Dev nD) (L : grid0.Coords) (b : Fin 2) (m1 m2 : Memref sig .scVector .vmem S80x256 .f32) (G : S80.Idx → BitVec 32) (X1 X2 : S80x256.Idx → Elt F .f32) (A : Acc F) : sProp 𝕄 :=
  iprop(SegOwn d L b G ∗ Own d L m1 X1 ∗ Own d L m2 X2 ∗ AccOwn d L A)

section Rules

variable (d : Dev nD) (L : grid0.Coords)

/-- A counted loop that carries nothing, by what each trip does. -/
theorem own_loop {w : ℕ} {l : Scf.Loop w} {ok : l.OK} {body : Fin l.trips → PUnit → TP (F := F) L PUnit} (I : ℕ → sProp 𝕄)
    (hbody : ∀ (t : Fin l.trips) (k : PUnit → TP (F := F) L PUnit) (Q : PUnit → sProp 𝕄), I t.val ⊢ iprop((I (t.val + 1) -∗ WP d L (k ⟨⟩) Q) -∗ WP d L (body t ⟨⟩ >>= k) Q))
    {α : Type} {k : PUnit → TP (F := F) L α} {Q : α → sProp 𝕄} {n : ℕ} (hn : l.trips = n) :
    I 0 ⊢ iprop((I n -∗ WP d L (k ⟨⟩) Q) -∗ WP d L (Scf.Loop.for l ok ⟨⟩ body >>= k) Q) := by
  subst hn
  iintro H Hk
  iapply (Scf.wp_for_bind Idealize.ShloMosaic.frame (wpE (defs₀ (F := F)) 𝒱₀ (th d L) none) Set.univ l.lb l.ub l.st ok ⟨⟩ body (fun t _ => I t) ?hb) $$ H
  case hb =>
    intro t a
    have h := hbody t pure (fun _ => I (t.val + 1))
    rw [bind_pure] at h
    iintro H
    iapply h $$ H
    iintro H
    unfold WP
    sl_step
    iexact H
  iintro %_ H
  iapply Hk $$ H

theorem own_row0 {w1 w2 : Fin 16 → V16 F} {t3 : Fin k0_t3_loop.trips} {hc : k0_cond3 L t3 = 1#1} (t : Fin k0_t4_loop.trips)
    {G : S80.Idx → BitVec 32} (hG : ∀ i, (G i).toNat < 64) {X1 X2 : S80x256.Idx → Elt F .f32} {A : Acc F} {α : Type}
    {k : PUnit → TP (F := F) L α} {Q : α → sProp 𝕄} :
    ChunkOwn d L 0 (slot0 bM1) (slot0 bM2) G X1 X2 A ⊢
      iprop((ChunkOwn d L 0 (slot0 bM1) (slot0 bM2) G X1 X2 (A.row w1 w2 X1 X2 G ⟨t.val, trips4 ▸ t.isLt⟩) -∗ WP d L (k ⟨⟩) Q) -∗
        WP d L (row0 L w1 w2 perms perms_ok t3 hc t >>= k) Q) := by
  unfold row0
  have ht : t.val < 80 := trips4 ▸ t.isLt
  have hv := hG (ix1 (⟨t.val, ht⟩ : Fin 80))
  unfold ChunkOwn AccOwn
  iintro ⟨HS, H1, H2, HN1, HD1, HN2, HD2, ⟨%Z, HZ⟩⟩ Hk
  iapply (own_row d L (b := 0) (⟨t.val, ht⟩ : Fin 80) (k0_off9_eq t) (chk5_of L t3 hv)) $$ HS
  iintro HS
  iapply (own_feat d L (m := slot0 bM1) (rowSlice X1 ⟨t.val, ht⟩) (fun j => rowAt_congr (offA_eq t j) _ _) (rowGate X1 w1 ⟨t.val, ht⟩) rfl
    (256 * (G (ix1 (⟨t.val, ht⟩ : Fin 80))).toNat) (fun j => congrFun (off27_of hv j) 0)) $$ [H1 HZ HN1 HD1]
  · isplitl [H1]
    · iexact H1
    isplitl [HZ]
    · iexact HZ
    isplitl [HN1]
    · iexact HN1
    · iexact HD1
  iintro ⟨H1, ⟨%Z1, HZ⟩, HN1, HD1⟩
  iapply (own_feat d L (m := slot0 bM2) (rowSlice X2 ⟨t.val, ht⟩) (fun j => rowAt_congr (offB_eq t j) _ _) (rowGate X2 w2 ⟨t.val, ht⟩) rfl
    (256 * (G (ix1 (⟨t.val, ht⟩ : Fin 80))).toNat) (fun j => congrFun (off27_of hv j) 0)) $$ [H2 HZ HN2 HD2]
  · isplitl [H2]
    · iexact H2
    isplitl [HZ]
    · iexact HZ
    isplitl [HN2]
    · iexact HN2
    · iexact HD2
  iintro ⟨H2, HZ, HN2, HD2⟩
  rw [show k0_off26 (G (ix1 (⟨t.val, ht⟩ : Fin 80))) 0 = 16 * (G (ix1 (⟨t.val, ht⟩ : Fin 80))).toNat from congrFun (off26_of hv) 0]
  iapply Hk
  isplitl [HS]
  · iexact HS
  isplitl [H1]
  · iexact H1
  isplitl [H2]
  · iexact H2
  isplitl [HN1]
  · iexact HN1
  isplitl [HD1]
  · iexact HD1
  isplitl [HN2]
  · iexact HN2
  isplitl [HD2]
  · iexact HD2
  · iexact HZ

/-- The eighty rows of slot 0. -/
theorem own_rows0 {w1 w2 : Fin 16 → V16 F} {t3 : Fin k0_t3_loop.trips} {hc : k0_cond3 L t3 = 1#1}
    {G : S80.Idx → BitVec 32} (hG : ∀ i, (G i).toNat < 64) {X1 X2 : S80x256.Idx → Elt F .f32} {A : Acc F} {α : Type}
    {k : PUnit → TP (F := F) L α} {Q : α → sProp 𝕄} :
    ChunkOwn d L 0 (slot0 bM1) (slot0 bM2) G X1 X2 A ⊢
      iprop((ChunkOwn d L 0 (slot0 bM1) (slot0 bM2) G X1 X2 (Acc.rows w1 w2 X1 X2 G A 80) -∗ WP d L (k ⟨⟩) Q) -∗
        WP d L (Scf.Loop.for k0_t4_loop (k0_t4_ok L t3 hc) ⟨⟩ (fun t _ => row0 L w1 w2 perms perms_ok t3 hc t) >>= k) Q) := by
  show ChunkOwn d L 0 (slot0 bM1) (slot0 bM2) G X1 X2 (Acc.rows w1 w2 X1 X2 G A 0) ⊢ _
  iintro H Hk
  iapply (own_loop d L (fun t => ChunkOwn d L 0 (slot0 bM1) (slot0 bM2) G X1 X2 (Acc.rows w1 w2 X1 X2 G A t)) ?hb trips4) $$ H
  case hb =>
    intro t k Q
    have ht : t.val < 80 := trips4 ▸ t.isLt
    have h := own_row0 d L (w1 := w1) (w2 := w2) (hc := hc) t hG (X1 := X1) (X2 := X2) (A := Acc.rows w1 w2 X1 X2 G A t) (k := k) (Q := Q)
    simp only [Acc.rows, dif_pos ht]
    exact h
  iexact Hk

theorem own_row1 {w1 w2 : Fin 16 → V16 F} {t3 : Fin k0_t3_loop.trips} {hc : k0_cond5 L t3 = 1#1} (t : Fin k0_t5_loop.trips)
    {G : S80.Idx → BitVec 32} (hG : ∀ i, (G i).toNat < 64) {X1 X2 : S80x256.Idx → Elt F .f32} {A : Acc F} {α : Type}
    {k : PUnit → TP (F := F) L α} {Q : α → sProp 𝕄} :
    ChunkOwn d L 1 (slot1 bM1) (slot1 bM2) G X1 X2 A ⊢
      iprop((ChunkOwn d L 1 (slot1 bM1) (slot1 bM2) G X1 X2 (A.row w1 w2 X1 X2 G ⟨t.val, trips5 ▸ t.isLt⟩) -∗ WP d L (k ⟨⟩) Q) -∗
        WP d L (row1 L w1 w2 perms perms_ok t3 hc t >>= k) Q) := by
  unfold row1
  have ht : t.val < 80 := trips5 ▸ t.isLt
  have hv := hG (ix1 (⟨t.val, ht⟩ : Fin 80))
  unfold ChunkOwn AccOwn
  iintro ⟨HS, H1, H2, HN1, HD1, HN2, HD2, ⟨%Z, HZ⟩⟩ Hk
  iapply (own_row d L (b := 1) (⟨t.val, ht⟩ : Fin 80) (k0_off48_eq t) (chk6_of L t3 hv)) $$ HS
  iintro HS
  iapply (own_feat d L (m := slot1 bM1) (rowSlice X1 ⟨t.val, ht⟩) (fun j => rowAt_congr (offC_eq t j) _ _) (rowGate X1 w1 ⟨t.val, ht⟩) rfl
    (256 * (G (ix1 (⟨t.val, ht⟩ : Fin 80))).toNat) (fun j => congrFun (off66_of hv j) 0)) $$ [H1 HZ HN1 HD1]
  · isplitl [H1]
    · iexact H1
    isplitl [HZ]
    · iexact HZ
    isplitl [HN1]
    · iexact HN1
    · iexact HD1
  iintro ⟨H1, ⟨%Z1, HZ⟩, HN1, HD1⟩
  iapply (own_feat d L (m := slot1 bM2) (rowSlice X2 ⟨t.val, ht⟩) (fun j => rowAt_congr (offD_eq t j) _ _) (rowGate X2 w2 ⟨t.val, ht⟩) rfl
    (256 * (G (ix1 (⟨t.val, ht⟩ : Fin 80))).toNat) (fun j => congrFun (off66_of hv j) 0)) $$ [H2 HZ HN2 HD2]
  · isplitl [H2]
    · iexact H2
    isplitl [HZ]
    · iexact HZ
    isplitl [HN2]
    · iexact HN2
    · iexact HD2
  iintro ⟨H2, HZ, HN2, HD2⟩
  rw [show k0_off65 (G (ix1 (⟨t.val, ht⟩ : Fin 80))) 0 = 16 * (G (ix1 (⟨t.val, ht⟩ : Fin 80))).toNat from congrFun (off65_of hv) 0]
  iapply Hk
  isplitl [HS]
  · iexact HS
  isplitl [H1]
  · iexact H1
  isplitl [H2]
  · iexact H2
  isplitl [HN1]
  · iexact HN1
  isplitl [HD1]
  · iexact HD1
  isplitl [HN2]
  · iexact HN2
  isplitl [HD2]
  · iexact HD2
  · iexact HZ

/-- The eighty rows of slot 1. -/
theorem own_rows1 {w1 w2 : Fin 16 → V16 F} {t3 : Fin k0_t3_loop.trips} {hc : k0_cond5 L t3 = 1#1}
    {G : S80.Idx → BitVec 32} (hG : ∀ i, (G i).toNat < 64) {X1 X2 : S80x256.Idx → Elt F .f32} {A : Acc F} {α : Type}
    {k : PUnit → TP (F := F) L α} {Q : α → sProp 𝕄} :
    ChunkOwn d L 1 (slot1 bM1) (slot1 bM2) G X1 X2 A ⊢
      iprop((ChunkOwn d L 1 (slot1 bM1) (slot1 bM2) G X1 X2 (Acc.rows w1 w2 X1 X2 G A 80) -∗ WP d L (k ⟨⟩) Q) -∗
        WP d L (Scf.Loop.for k0_t5_loop (k0_t5_ok L t3 hc) ⟨⟩ (fun t _ => row1 L w1 w2 perms perms_ok t3 hc t) >>= k) Q) := by
  show ChunkOwn d L 1 (slot1 bM1) (slot1 bM2) G X1 X2 (Acc.rows w1 w2 X1 X2 G A 0) ⊢ _
  iintro H Hk
  iapply (own_loop d L (fun t => ChunkOwn d L 1 (slot1 bM1) (slot1 bM2) G X1 X2 (Acc.rows w1 w2 X1 X2 G A t)) ?hb trips5) $$ H
  case hb =>
    intro t k Q
    have ht : t.val < 80 := trips5 ▸ t.isLt
    have h := own_row1 d L (w1 := w1) (w2 := w2) (hc := hc) t hG (X1 := X1) (X2 := X2) (A := Acc.rows w1 w2 X1 X2 G A t) (k := k) (Q := Q)
    simp only [Acc.rows, dif_pos ht]
    exact h
  iexact Hk

end Rules

end Cert.Proof.Pool
-- ==== Proof.Pair.lean ====
/- A slot's life: idle, a chunk's copies in flight, the chunk used; and the pair of chunks of one trip. -/
module

public import proofs.«01_k».proof.Proof.Chunk

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

open Idealize.ShloMosaic.Transfers (Batch batch_alloc')

theorem chunk_inb {c : ℕ} (hc : c < 625) : ∀ x, (![80 * c, 0] : Fin 2 → ℕ) x + S80x256.size x ≤ S50000x256.size x := by
  intro a; fin_cases a
  · show 80 * c + 80 ≤ 50000; omega
  · show 0 + 256 ≤ 256; omega

theorem chunkS_inb {c : ℕ} (hc : c < 625) : ∀ x, (![80 * c] : Fin 1 → ℕ) x + S80.size x ≤ S50000.size x := by
  intro a; fin_cases a
  show 80 * c + 80 ≤ 50000; omega

/-- What one copy of a matrix's chunk pays its semaphore. -/
abbrev NM : ℕ := (slot0 bM1).view.dmaCredit
/-- What one copy of segment words pays its semaphore. -/
abbrev NS : ℕ := seg0.view.dmaCredit

section Slots

variable (d : Dev nD) (L : grid0.Coords)

/-- A slot's memrefs and semaphores: its chunk of either matrix, its segment words, and the semaphores of the two. -/
structure SlotRefs where
  b : Fin 2
  m1 : Memref sig .scVector .vmem S80x256 .f32
  m2 : Memref sig .scVector .vmem S80x256 .f32
  sg : Memref sig .scVector .vmem S80 .i32
  a : DmaSems sig S_
  s : DmaSems sig S_

/-- Slot 0's. -/
abbrev refs0 : SlotRefs := ⟨0, slot0 bM1, slot0 bM2, seg0, cc0_scratch10, cc0_scratch12⟩
/-- Slot 1's. -/
abbrev refs1 : SlotRefs := ⟨1, slot1 bM1, slot1 bM2, seg1, cc0_scratch11, cc0_scratch13⟩

/-- What the copies out of HBM read: the two matrices and the segment words. -/
structure Sources where
  a1 : Buf (Elt F) (hM1.view.loc (th d L))
  a2 : Buf (Elt F) (hM2.view.loc (th d L))
  ag : Buf (Elt F) (hSg.view.loc (th d L))

variable {d L} in
/-- Chunk `c` of the first matrix. -/
def Sources.x1 (A : Sources (F := F) d L) {c : ℕ} (hc : c < 625) : S80x256.Idx → Elt F .f32 := (chunkM hM1 ![80 * c, 0] (chunk_inb hc)).view.read (Elt F) A.a1
variable {d L} in
/-- Chunk `c` of the second. -/
def Sources.x2 (A : Sources (F := F) d L) {c : ℕ} (hc : c < 625) : S80x256.Idx → Elt F .f32 := (chunkM hM2 ![80 * c, 0] (chunk_inb hc)).view.read (Elt F) A.a2
variable {d L} in
/-- Chunk `c`'s segment words. -/
def Sources.g (A : Sources (F := F) d L) {c : ℕ} (hc : c < 625) : S80.Idx → BitVec 32 := (chunkS ![80 * c] (chunkS_inb hc)).view.read (Elt F) A.ag

/-- The read shares of the three arrays. -/
def Shares (q : PosShare TreeShare) (A : Sources (F := F) d L) : sProp 𝕄 :=
  iprop((hM1.view.loc (th d L) ↦[Finset.univ]{q} A.a1) ∗ (hM2.view.loc (th d L) ↦[Finset.univ]{q} A.a2) ∗ (hSg.view.loc (th d L) ↦[Finset.univ]{q} A.ag))

/-- What is left of them while chunk `c` is in flight. -/
def SharesRest (q : PosShare TreeShare) (A : Sources (F := F) d L) {c : ℕ} (hc : c < 625) : sProp 𝕄 :=
  iprop((hM1.view.loc (th d L) ↦[Finset.univ \ (chunkM hM1 ![80 * c, 0] (chunk_inb hc)).view.set]{q} A.a1)
    ∗ (hM2.view.loc (th d L) ↦[Finset.univ \ (chunkM hM2 ![80 * c, 0] (chunk_inb hc)).view.set]{q} A.a2)
    ∗ (hSg.view.loc (th d L) ↦[Finset.univ \ (chunkS ![80 * c] (chunkS_inb hc)).view.set]{q} A.ag))

/-- A slot with nothing in flight. -/
def Idle (R : SlotRefs) (q : PosShare TreeShare) (A : Sources (F := F) d L) : sProp 𝕄 :=
  iprop((∃ X, Own d L R.m1 X) ∗ (∃ X, Own d L R.m2 X) ∗ (∃ X, Own d L R.sg X) ∗ SegTail d L R.b ∗ semVal (th d L, .dma R.a.sem) 0 ∗ semVal (th d L, .dma R.s.sem) 0 ∗ Shares d L q A)

/-- A slot's three copies in flight, out of `s1`, `s2`, `s3`. -/
def Copies (R : SlotRefs) (q : PosShare TreeShare) (s1 s2 : Memref sig .scVector .hbm S80x256 .f32) (s3 : Memref sig .scVector .hbm S80 .i32)
    (f1 : Buf (Elt F) (s1.view.loc (th d L))) (f2 : Buf (Elt F) (s2.view.loc (th d L))) (f3 : Buf (Elt F) (s3.view.loc (th d L))) : sProp 𝕄 :=
  iprop(Batch EC (th d L) (.dma R.a.sem) none NM (two (Landed d L s1 R.m1 q f1) (Landed d L s2 R.m2 q f2)) 2 0
    ∗ Batch EC (th d L) (.dma R.s.sem) none NS (fun _ : Fin 1 => Landed d L s3 R.sg q f3) 1 0)

/-- A slot with chunk `c`'s three copies in flight. -/
def Flight (R : SlotRefs) (q : PosShare TreeShare) (A : Sources (F := F) d L) {c : ℕ} (hc : c < 625) : sProp 𝕄 :=
  iprop(Copies d L R q (chunkM hM1 ![80 * c, 0] (chunk_inb hc)) (chunkM hM2 ![80 * c, 0] (chunk_inb hc)) (chunkS ![80 * c] (chunkS_inb hc)) A.a1 A.a2 A.ag
    ∗ SegTail d L R.b ∗ SharesRest d L q A hc)

/-- A slot with chunk `c` landed. -/
def Landing (R : SlotRefs) (q : PosShare TreeShare) (A : Sources (F := F) d L) {c : ℕ} (hc : c < 625) : sProp 𝕄 :=
  iprop(Own d L R.m1 (A.x1 hc) ∗ Own d L R.m2 (A.x2 hc) ∗ Own d L R.sg (A.g hc) ∗ SegTail d L R.b ∗ semVal (th d L, .dma R.a.sem) 0 ∗ semVal (th d L, .dma R.s.sem) 0 ∗ Shares d L q A)

/-- A slot before chunk `c` is used. -/
def Slot (R : SlotRefs) (q : PosShare TreeShare) (A : Sources (F := F) d L) (c : ℕ) : sProp 𝕄 :=
  if hc : c < 625 then Flight d L R q A hc else Idle d L R q A

theorem shares_split (q : PosShare TreeShare) (A : Sources (F := F) d L) {c : ℕ} (hc : c < 625) :
    Shares d L q A ⊣⊢ iprop(((chunkM hM1 ![80 * c, 0] (chunk_inb hc)).view.loc (th d L) ↦[(chunkM hM1 ![80 * c, 0] (chunk_inb hc)).view.set]{q} A.a1)
      ∗ ((chunkM hM2 ![80 * c, 0] (chunk_inb hc)).view.loc (th d L) ↦[(chunkM hM2 ![80 * c, 0] (chunk_inb hc)).view.set]{q} A.a2)
      ∗ ((chunkS ![80 * c] (chunkS_inb hc)).view.loc (th d L) ↦[(chunkS ![80 * c] (chunkS_inb hc)).view.set]{q} A.ag) ∗ SharesRest d L q A hc) := by
  have e1 : (hM1.view.loc (th d L) ↦[Finset.univ]{q} A.a1) ⊣⊢ (iprop((hM1.view.loc (th d L) ↦[(chunkM hM1 ![80 * c, 0] (chunk_inb hc)).view.set]{q} A.a1) ∗ (hM1.view.loc (th d L) ↦[Finset.univ \ (chunkM hM1 ![80 * c, 0] (chunk_inb hc)).view.set]{q} A.a1)) : sProp 𝕄) :=
    pointsTo_split_subset (Finset.subset_univ _)
  have e2 : (hM2.view.loc (th d L) ↦[Finset.univ]{q} A.a2) ⊣⊢ (iprop((hM2.view.loc (th d L) ↦[(chunkM hM2 ![80 * c, 0] (chunk_inb hc)).view.set]{q} A.a2) ∗ (hM2.view.loc (th d L) ↦[Finset.univ \ (chunkM hM2 ![80 * c, 0] (chunk_inb hc)).view.set]{q} A.a2)) : sProp 𝕄) :=
    pointsTo_split_subset (Finset.subset_univ _)
  have e3 : (hSg.view.loc (th d L) ↦[Finset.univ]{q} A.ag) ⊣⊢ (iprop((hSg.view.loc (th d L) ↦[(chunkS ![80 * c] (chunkS_inb hc)).view.set]{q} A.ag) ∗ (hSg.view.loc (th d L) ↦[Finset.univ \ (chunkS ![80 * c] (chunkS_inb hc)).view.set]{q} A.ag)) : sProp 𝕄) :=
    pointsTo_split_subset (Finset.subset_univ _)
  unfold Shares SharesRest
  constructor
  · iintro ⟨H1, H2, H3⟩
    ihave H1' := e1.1 $$ H1
    ihave H2' := e2.1 $$ H2
    ihave H3' := e3.1 $$ H3
    icases H1' with ⟨H1, R1⟩
    icases H2' with ⟨H2, R2⟩
    icases H3' with ⟨H3, R3⟩
    isplitl [H1]
    · iexact H1
    isplitl [H2]
    · iexact H2
    isplitl [H3]
    · iexact H3
    isplitl [R1]
    · iexact R1
    isplitl [R2]
    · iexact R2
    · iexact R3
  · iintro ⟨H1, H2, H3, R1, R2, R3⟩
    isplitl [H1 R1]
    · iapply e1.2
      isplitl [H1]
      · iexact H1
      · iexact R1
    isplitl [H2 R2]
    · iapply e2.2
      isplitl [H2]
      · iexact H2
      · iexact R2
    · iapply e3.2
      isplitl [H3]
      · iexact H3
      · iexact R3

/-- What the rules need of a slot's sizes. -/
structure SlotRefs.Sized (R : SlotRefs) : Prop where
  n1 : R.m1.view.amount (.dma R.a.sem) = NM
  n2 : R.m2.view.amount (.dma R.a.sem) = NM
  n3 : R.sg.view.amount (.dma R.s.sem) = NS
  c1 : R.m1.view.dmaCredit = NM
  c2 : R.m2.view.dmaCredit = NM
  c3 : R.sg.view.dmaCredit = NS

theorem NM_pos : 0 < NM := by decide
theorem NS_pos : 0 < NS := by decide
theorem sized0 : refs0.Sized := ⟨rfl, rfl, rfl, rfl, rfl, rfl⟩
theorem sized1 : refs1.Sized := ⟨rfl, rfl, rfl, rfl, rfl, rfl⟩

variable {O : CellTallies nD τ sig (HIx 1)} {W : Waits sig (HIx 1)}

theorem two_zero {P Q : sProp 𝕄} {h : 0 < 2} : two P Q ⟨0, h⟩ = P := rfl
theorem two_one {P Q : sProp 𝕄} {h : 1 < 2} : two P Q ⟨1, h⟩ = Q := rfl

/-- A slot's copies started. -/
theorem own_fetch3 {R : SlotRefs} (hR : R.Sized) {q : PosShare TreeShare} {s1 s2 : Memref sig .scVector .hbm S80x256 .f32} {s3 : Memref sig .scVector .hbm S80 .i32}
    {f1 : Buf (Elt F) (s1.view.loc (th d L))} {f2 : Buf (Elt F) (s2.view.loc (th d L))} {f3 : Buf (Elt F) (s3.view.loc (th d L))}
    {α : Type} {k : PUnit → TP (F := F) L α} {Q : α → sProp 𝕄} :
    iprop((∃ X, Own d L R.m1 X) ∗ (∃ X, Own d L R.m2 X) ∗ (∃ X, Own d L R.sg X) ∗ semVal (th d L, .dma R.a.sem) 0 ∗ semVal (th d L, .dma R.s.sem) 0
        ∗ (s1.view.loc (th d L) ↦[s1.view.set]{q} f1) ∗ (s2.view.loc (th d L) ↦[s2.view.set]{q} f2) ∗ (s3.view.loc (th d L) ↦[s3.view.set]{q} f3)) ⊢
      iprop((Copies d L R q s1 s2 s3 f1 f2 f3 -∗ WP d L (k ⟨⟩) Q) -∗ WP d L (fetch L s1 s2 s3 R.m1 R.m2 R.sg R.a R.s >>= k) Q) := by
  unfold Copies fetch
  simp only [Prog.lift, Prog.bind_op, Prog.bind_ret, Prog.pure_eq_ret, bind_assoc]
  iintro ⟨⟨%X1, H1⟩, ⟨%X2, H2⟩, ⟨%X3, H3⟩, HA, HS, Q1, Q2, Q3⟩ Hk
  imod (batch_alloc' (Lvl := ℕ) EC (th d L) none NM (two (Landed d L s1 R.m1 q f1) (Landed d L s2 R.m2 q f2))
    (sm := .dma R.a.sem) (E := Set.univ)) $$ HA with HB
  imod (batch_alloc' (Lvl := ℕ) EC (th d L) none NS (fun _ : Fin 1 => Landed d L s3 R.sg q f3)
    (sm := .dma R.s.sem) (E := Set.univ)) $$ HS with HC
  iapply (own_issue d L (n := 2) (j := 0) (u := 0) (q := q) (fs := f1) (Dl := two (Landed d L s1 R.m1 q f1) (Landed d L s2 R.m2 q f2))
    NM hR.n1 (by omega) (Nat.zero_le _) two_zero) $$ [Q1 H1 HB]
  · isplitl [Q1]
    · iexact Q1
    isplitl [H1]
    · iexact H1
    · iexact HB
  iintro HB
  iapply (own_issue d L (n := 2) (j := 1) (u := 0) (q := q) (fs := f2) (Dl := two (Landed d L s1 R.m1 q f1) (Landed d L s2 R.m2 q f2))
    NM hR.n2 (by omega) (Nat.zero_le _) two_one) $$ [Q2 H2 HB]
  · isplitl [Q2]
    · iexact Q2
    isplitl [H2]
    · iexact H2
    · iexact HB
  iintro HB
  iapply (own_issue d L (n := 1) (j := 0) (u := 0) (q := q) (fs := f3) (Dl := fun _ : Fin 1 => Landed d L s3 R.sg q f3)
    NS hR.n3 (by omega) (Nat.zero_le _) rfl) $$ [Q3 H3 HC]
  · isplitl [Q3]
    · iexact Q3
    isplitl [H3]
    · iexact H3
    · iexact HC
  iintro HC
  iapply Hk
  isplitl [HB]
  · iexact HB
  · iexact HC

/-- A slot's copies waited for. -/
theorem own_drain3 {R : SlotRefs} (hR : R.Sized) {q : PosShare TreeShare} {s1 s2 t1 t2 : Memref sig .scVector .hbm S80x256 .f32} {s3 t3 : Memref sig .scVector .hbm S80 .i32}
    {f1 : Buf (Elt F) (s1.view.loc (th d L))} {f2 : Buf (Elt F) (s2.view.loc (th d L))} {f3 : Buf (Elt F) (s3.view.loc (th d L))}
    {α : Type} {k : PUnit → TP (F := F) L α} {Q : α → sProp 𝕄} :
    iprop(Copies d L R q s1 s2 s3 f1 f2 f3 ∗ Waiting d L O W) ⊢
      iprop((iprop(Landed d L s1 R.m1 q f1 ∗ Landed d L s2 R.m2 q f2 ∗ Landed d L s3 R.sg q f3 ∗ semVal (th d L, .dma R.a.sem) 0 ∗ semVal (th d L, .dma R.s.sem) 0 ∗ Waiting d L O W) -∗
        WP d L (k ⟨⟩) Q) -∗ WP d L (drain L t1 t2 t3 R.m1 R.m2 R.sg R.a R.s >>= k) Q) := by
  unfold Copies drain
  simp only [Prog.lift, Prog.bind_op, Prog.bind_ret, Prog.pure_eq_ret, bind_assoc]
  iintro ⟨⟨HB, HC⟩, HW⟩ Hk
  iapply (own_wait d L (n := 2) (u := 0) (N := NM) hR.c1 (by have := NM_pos; omega)) $$ [HB HW]
  · isplitl [HB]
    · iexact HB
    · iexact HW
  iintro ⟨HB, HW⟩
  iapply (own_waitLast d L (n := 2) (u := 0 + NM) (N := NM) hR.c2 NM_pos (by omega)) $$ [HB HW]
  · isplitl [HB]
    · iexact HB
    · iexact HW
  rw [bigSep_two]
  iintro ⟨⟨H1, H2⟩, HA, HW⟩
  iapply (own_waitLast d L (n := 1) (u := 0) (N := NS) hR.c3 NS_pos (by omega)) $$ [HC HW]
  · isplitl [HC]
    · iexact HC
    · iexact HW
  rw [show (Finset.univ : Finset (Fin 1)) = {0} from rfl, bigSep_singleton]
  iintro ⟨H3, HS, HW⟩
  iapply Hk
  isplitl [H1]
  · iexact H1
  isplitl [H2]
  · iexact H2
  isplitl [H3]
  · iexact H3
  isplitl [HA]
  · iexact HA
  isplitl [HS]
  · iexact HS
  · iexact HW

/-- Chunk `c`'s copies started. -/
theorem own_fetch {R : SlotRefs} (hR : R.Sized) {q : PosShare TreeShare} {A : Sources (F := F) d L} {o : Fin 2 → ℕ} {ho : ∀ x, o x + S80x256.size x ≤ S50000x256.size x} {o1 : Fin 1 → ℕ}
    {ho1 : ∀ x, o1 x + S80.size x ≤ S50000.size x} {c : ℕ} (hc : c < 625) (e : o = ![80 * c, 0]) (e1 : o1 = ![80 * c])
    {α : Type} {k : PUnit → TP (F := F) L α} {Q : α → sProp 𝕄} :
    Idle d L R q A ⊢ iprop((Flight d L R q A hc -∗ WP d L (k ⟨⟩) Q) -∗
      WP d L (fetch L (chunkM hM1 o ho) (chunkM hM2 o ho) (chunkS o1 ho1) R.m1 R.m2 R.sg R.a R.s >>= k) Q) := by
  subst e e1
  unfold Idle Flight
  iintro ⟨H1, H2, H3, HT, HA, HS, HQ⟩ Hk
  ihave HQ' := (shares_split d L q A hc).1 $$ HQ
  icases HQ' with ⟨Q1, Q2, Q3, QR⟩
  iapply (own_fetch3 d L hR (q := q) (f1 := A.a1) (f2 := A.a2) (f3 := A.ag)) $$ [H1 H2 H3 HA HS Q1 Q2 Q3]
  · isplitl [H1]
    · iexact H1
    isplitl [H2]
    · iexact H2
    isplitl [H3]
    · iexact H3
    isplitl [HA]
    · iexact HA
    isplitl [HS]
    · iexact HS
    isplitl [Q1]
    · iexact Q1
    isplitl [Q2]
    · iexact Q2
    · iexact Q3
  iintro HC
  iapply Hk
  isplitl [HC]
  · iexact HC
  isplitl [HT]
  · iexact HT
  · iexact QR

/-- Chunk `c`'s copies waited for. -/
theorem own_drain {R : SlotRefs} (hR : R.Sized) {q : PosShare TreeShare} {A : Sources (F := F) d L} {s1 s2 : Memref sig .scVector .hbm S80x256 .f32} {s3 : Memref sig .scVector .hbm S80 .i32}
    {c : ℕ} {hc : c < 625} {α : Type} {k : PUnit → TP (F := F) L α} {Q : α → sProp 𝕄} :
    iprop(Flight d L R q A hc ∗ Waiting d L O W) ⊢ iprop((iprop(Landing d L R q A hc ∗ Waiting d L O W) -∗ WP d L (k ⟨⟩) Q) -∗
      WP d L (drain L s1 s2 s3 R.m1 R.m2 R.sg R.a R.s >>= k) Q) := by
  unfold Flight Landing
  iintro ⟨⟨HB, HT, QR⟩, HW⟩ Hk
  iapply (own_drain3 d L hR) $$ [HB HW]
  · isplitl [HB]
    · iexact HB
    · iexact HW
  unfold Landed
  iintro ⟨⟨H1, Q1⟩, ⟨H2, Q2⟩, ⟨H3, Q3⟩, HA, HS, HW⟩
  iapply Hk
  isplitr [HW]
  · isplitl [H1]
    · iexact H1
    isplitl [H2]
    · iexact H2
    isplitl [H3]
    · iexact H3
    isplitl [HT]
    · iexact HT
    isplitl [HA]
    · iexact HA
    isplitl [HS]
    · iexact HS
    iapply (shares_split d L q A hc).2
    isplitl [Q1]
    · iexact Q1
    isplitl [Q2]
    · iexact Q2
    isplitl [Q3]
    · iexact Q3
    · iexact QR
  · iexact HW

/-! ## A trip -/

variable {d L} in
/-- Every segment word of the source is below the number of segments. -/
def Sources.Ok (A : Sources (F := F) d L) : Prop := ∀ (c : ℕ) (hc : c < 625) (i : S80.Idx), (A.g hc i).toNat < 64

variable {d L} in
/-- Chunk `c` added, where there is one. -/
def Sources.chunk (A : Sources (F := F) d L) (w1 w2 : Fin 16 → V16 F) (c : ℕ) (C : Acc F) : Acc F :=
  if hc : c < 625 then Acc.rows w1 w2 (A.x1 hc) (A.x2 hc) (A.g hc) C 80 else C

variable {d L} in
/-- The chunks of the first `t` trips added. -/
def Sources.trips (A : Sources (F := F) d L) (w1 w2 : Fin 16 → V16 F) (C : Acc F) : ℕ → Acc F
  | 0 => C
  | t + 1 => A.chunk w1 w2 (wid L + 64 * t + 32) (A.chunk w1 w2 (wid L + 64 * t) (A.trips w1 w2 C t))

/-- Before trip `t`. -/
def PairInv (O : CellTallies nD τ sig (HIx 1)) (W : Waits sig (HIx 1)) (q0 q1 : PosShare TreeShare) (A : Sources (F := F) d L) (w1 w2 : Fin 16 → V16 F) (C : Acc F) (t : ℕ) : sProp 𝕄 :=
  iprop(Slot d L refs0 q0 A (wid L + 64 * t) ∗ Idle d L refs1 q1 A ∗ AccOwn d L (A.trips w1 w2 C t) ∗ Waiting d L O W)

/-- Slot 0's chunk used, where there is one. -/
theorem own_use0 {w1 w2 : Fin 16 → V16 F} {t3 : Fin k0_t3_loop.trips} {q : PosShare TreeShare} {A : Sources (F := F) d L} (hA : A.Ok) {C : Acc F} {c : ℕ} (hcond : k0_cond3 L t3 = 1#1 ↔ c < 625)
    {α : Type} {p : TP (F := F) L α} {Q : α → sProp 𝕄} :
    iprop(Slot d L refs0 q A c ∗ AccOwn d L C ∗ Waiting d L O W) ⊢
      iprop((iprop(Idle d L refs0 q A ∗ AccOwn d L (A.chunk w1 w2 c C) ∗ Waiting d L O W) -∗ WP d L p Q) -∗
        WP d L ((if h3 : k0_cond3 L t3 = 1#1 then do
            drain L (chunkM hM1 (k0_off7 L t3) (k0_off7_inb L t3 h3)) (chunkM hM2 (k0_off7 L t3) (k0_off7_inb L t3 h3)) (chunkS (k0_off8 L t3) (k0_off8_inb L t3 h3))
              (slot0 bM1) (slot0 bM2) seg0 cc0_scratch10 cc0_scratch12
            Scf.Loop.for k0_t4_loop (k0_t4_ok L t3 h3) ⟨⟩ fun t _ => row0 L w1 w2 perms perms_ok t3 h3 t
            p
          else p : TP (F := F) L α)) Q) := by
  unfold Slot Sources.chunk
  by_cases hc : c < 625
  · have h := hcond.mpr hc
    rw [dif_pos hc, dif_pos hc, dif_pos h]
    iintro ⟨HF, HA, HW⟩ Hk
    iapply (own_drain d L (R := refs0) sized0) $$ [HF HW]
    · isplitl [HF]
      · iexact HF
      · iexact HW
    unfold Landing
    iintro ⟨⟨H1, H2, H3, HT, HSa, HSs, HQ⟩, HW⟩
    ihave HG := (seg_join d L (b := 0) inb_S2x96_S1x80_0_0 (A.g hc)) $$ [H3 HT]
    · isplitl [H3]
      · iexact H3
      · iexact HT
    iapply (own_rows0 d L (w1 := w1) (w2 := w2) (hc := h) (G := A.g hc) (hA c hc) (X1 := A.x1 hc) (X2 := A.x2 hc) (A := C)) $$ [HG H1 H2 HA]
    · unfold ChunkOwn
      isplitl [HG]
      · iexact HG
      isplitl [H1]
      · iexact H1
      isplitl [H2]
      · iexact H2
      · iexact HA
    unfold ChunkOwn Idle
    iintro ⟨HG, H1, H2, HA⟩
    ihave HG' := (seg_split d L (b := 0) inb_S2x96_S1x80_0_0 (A.g hc)) $$ HG
    icases HG' with ⟨H3, HT⟩
    iapply Hk
    isplitr [HA HW]
    · isplitl [H1]
      · iexists _
        iexact H1
      isplitl [H2]
      · iexists _
        iexact H2
      isplitl [H3]
      · iexact H3
      isplitl [HT]
      · iexact HT
      isplitl [HSa]
      · iexact HSa
      isplitl [HSs]
      · iexact HSs
      · iexact HQ
    isplitl [HA]
    · iexact HA
    · iexact HW
  · rw [dif_neg hc, dif_neg hc, dif_neg (fun h => hc (hcond.mp h))]
    iintro H Hk
    iapply Hk $$ H

/-- Slot 1's chunk used, where there is one. -/
theorem own_use1 {w1 w2 : Fin 16 → V16 F} {t3 : Fin k0_t3_loop.trips} {q : PosShare TreeShare} {A : Sources (F := F) d L} (hA : A.Ok) {C : Acc F} {c : ℕ} (hcond : k0_cond5 L t3 = 1#1 ↔ c < 625)
    {α : Type} {p : TP (F := F) L α} {Q : α → sProp 𝕄} :
    iprop(Slot d L refs1 q A c ∗ AccOwn d L C ∗ Waiting d L O W) ⊢
      iprop((iprop(Idle d L refs1 q A ∗ AccOwn d L (A.chunk w1 w2 c C) ∗ Waiting d L O W) -∗ WP d L p Q) -∗
        WP d L ((if h5 : k0_cond5 L t3 = 1#1 then do
            drain L (chunkM hM1 (k0_off46 L t3) (k0_off46_inb L t3 h5)) (chunkM hM2 (k0_off46 L t3) (k0_off46_inb L t3 h5)) (chunkS (k0_off47 L t3) (k0_off47_inb L t3 h5))
              (slot1 bM1) (slot1 bM2) seg1 cc0_scratch11 cc0_scratch13
            Scf.Loop.for k0_t5_loop (k0_t5_ok L t3 h5) ⟨⟩ fun t _ => row1 L w1 w2 perms perms_ok t3 h5 t
            p
          else p : TP (F := F) L α)) Q) := by
  unfold Slot Sources.chunk
  by_cases hc : c < 625
  · have h := hcond.mpr hc
    rw [dif_pos hc, dif_pos hc, dif_pos h]
    iintro ⟨HF, HA, HW⟩ Hk
    iapply (own_drain d L (R := refs1) sized1) $$ [HF HW]
    · isplitl [HF]
      · iexact HF
      · iexact HW
    unfold Landing
    iintro ⟨⟨H1, H2, H3, HT, HSa, HSs, HQ⟩, HW⟩
    ihave HG := (seg_join d L (b := 1) inb_S2x96_S1x80_1_0 (A.g hc)) $$ [H3 HT]
    · isplitl [H3]
      · iexact H3
      · iexact HT
    iapply (own_rows1 d L (w1 := w1) (w2 := w2) (hc := h) (G := A.g hc) (hA c hc) (X1 := A.x1 hc) (X2 := A.x2 hc) (A := C)) $$ [HG H1 H2 HA]
    · unfold ChunkOwn
      isplitl [HG]
      · iexact HG
      isplitl [H1]
      · iexact H1
      isplitl [H2]
      · iexact H2
      · iexact HA
    unfold ChunkOwn Idle
    iintro ⟨HG, H1, H2, HA⟩
    ihave HG' := (seg_split d L (b := 1) inb_S2x96_S1x80_1_0 (A.g hc)) $$ HG
    icases HG' with ⟨H3, HT⟩
    iapply Hk
    isplitr [HA HW]
    · isplitl [H1]
      · iexists _
        iexact H1
      isplitl [H2]
      · iexists _
        iexact H2
      isplitl [H3]
      · iexact H3
      isplitl [HT]
      · iexact HT
      isplitl [HSa]
      · iexact HSa
      isplitl [HSs]
      · iexact HSs
      · iexact HQ
    isplitl [HA]
    · iexact HA
    · iexact HW
  · rw [dif_neg hc, dif_neg hc, dif_neg (fun h => hc (hcond.mp h))]
    iintro H Hk
    iapply Hk $$ H

/-- A slot's next chunk started, where there is one. -/
theorem own_start {R : SlotRefs} (hR : R.Sized) {P : Prop} [Decidable P] {q : PosShare TreeShare} {A : Sources (F := F) d L} {o : Fin 2 → ℕ} {ho : P → ∀ x, o x + S80x256.size x ≤ S50000x256.size x} {o1 : Fin 1 → ℕ}
    {ho1 : P → ∀ x, o1 x + S80.size x ≤ S50000.size x} {c : ℕ} (hcond : P ↔ c < 625) (e : o = ![80 * c, 0]) (e1 : o1 = ![80 * c])
    {α : Type} {p : TP (F := F) L α} {Q : α → sProp 𝕄} :
    Idle d L R q A ⊢ iprop((Slot d L R q A c -∗ WP d L p Q) -∗
        WP d L ((if h : P then do
            fetch L (chunkM hM1 o (ho h)) (chunkM hM2 o (ho h)) (chunkS o1 (ho1 h)) R.m1 R.m2 R.sg R.a R.s
            p
          else p : TP (F := F) L α)) Q) := by
  unfold Slot
  by_cases hc : c < 625
  · rw [dif_pos hc, dif_pos (hcond.mpr hc)]
    exact own_fetch (F := F) d L hR (q := q) (A := A) hc e e1 (k := fun _ => p) (Q := Q)
  · rw [dif_neg hc, dif_neg (fun h => hc (hcond.mp h))]
    iintro H Hk
    iapply Hk $$ H

theorem WP_bind {α β : Type} (p : TP (F := F) L β) (k : β → TP (F := F) L α) (Q : α → sProp 𝕄) : WP d L (p >>= k) Q = WP d L p fun r => WP d L (k r) Q :=
  wp_bind _ _ _ p k Q

/-- The last part of a trip: slot 1's chunk used. -/
def pair5 (w1 w2 : Fin 16 → V16 F) (t3 : Fin k0_t3_loop.trips) : TP (F := F) L PUnit :=
  if h5 : k0_cond5 L t3 = 1#1 then do
    drain L (chunkM hM1 (k0_off46 L t3) (k0_off46_inb L t3 h5)) (chunkM hM2 (k0_off46 L t3) (k0_off46_inb L t3 h5)) (chunkS (k0_off47 L t3) (k0_off47_inb L t3 h5))
      (slot1 bM1) (slot1 bM2) seg1 cc0_scratch11 cc0_scratch13
    Scf.Loop.for k0_t5_loop (k0_t5_ok L t3 h5) ⟨⟩ fun t _ => row1 L w1 w2 perms perms_ok t3 h5 t
    pure ⟨⟩
  else pure ⟨⟩

/-- Slot 0's next chunk started, and the rest. -/
def pair4 (w1 w2 : Fin 16 → V16 F) (t3 : Fin k0_t3_loop.trips) : TP (F := F) L PUnit :=
  if h4 : k0_cond4 L t3 = 1#1 then do
    fetch L (chunkM hM1 (k0_off44 L t3) (k0_off44_inb L t3 h4)) (chunkM hM2 (k0_off44 L t3) (k0_off44_inb L t3 h4)) (chunkS (k0_off45 L t3) (k0_off45_inb L t3 h4))
      (slot0 bM1) (slot0 bM2) seg0 cc0_scratch10 cc0_scratch12
    pair5 L w1 w2 t3
  else pair5 L w1 w2 t3

/-- Slot 0's chunk used, and the rest. -/
def pair3 (w1 w2 : Fin 16 → V16 F) (t3 : Fin k0_t3_loop.trips) : TP (F := F) L PUnit :=
  if h3 : k0_cond3 L t3 = 1#1 then do
    drain L (chunkM hM1 (k0_off7 L t3) (k0_off7_inb L t3 h3)) (chunkM hM2 (k0_off7 L t3) (k0_off7_inb L t3 h3)) (chunkS (k0_off8 L t3) (k0_off8_inb L t3 h3))
      (slot0 bM1) (slot0 bM2) seg0 cc0_scratch10 cc0_scratch12
    Scf.Loop.for k0_t4_loop (k0_t4_ok L t3 h3) ⟨⟩ fun t _ => row0 L w1 w2 perms perms_ok t3 h3 t
    pair4 L w1 w2 t3
  else pair4 L w1 w2 t3

/-- The whole trip. -/
def pair2 (w1 w2 : Fin 16 → V16 F) (t3 : Fin k0_t3_loop.trips) : TP (F := F) L PUnit :=
  if h2 : k0_cond2 L t3 = 1#1 then do
    fetch L (chunkM hM1 (k0_off5 L t3) (k0_off5_inb L t3 h2)) (chunkM hM2 (k0_off5 L t3) (k0_off5_inb L t3 h2)) (chunkS (k0_off6 L t3) (k0_off6_inb L t3 h2))
      (slot1 bM1) (slot1 bM2) seg1 cc0_scratch11 cc0_scratch13
    pair3 L w1 w2 t3
  else pair3 L w1 w2 t3

theorem pair_eq (w1 w2 : Fin 16 → V16 F) (t3 : Fin k0_t3_loop.trips) : pair L w1 w2 perms perms_ok t3 = pair2 L w1 w2 t3 := rfl

set_option maxHeartbeats 2000000 in
/-- One trip. -/
theorem own_pair {q0 q1 : PosShare TreeShare} {A : Sources (F := F) d L} (hA : A.Ok) {w1 w2 : Fin 16 → V16 F} {C : Acc F} (t3 : Fin k0_t3_loop.trips)
    {α : Type} {k : PUnit → TP (F := F) L α} {Q : α → sProp 𝕄} :
    PairInv d L O W q0 q1 A w1 w2 C t3.val ⊢ iprop((PairInv d L O W q0 q1 A w1 w2 C (t3.val + 1) -∗ WP d L (k ⟨⟩) Q) -∗ WP d L (pair L w1 w2 perms perms_ok t3 >>= k) Q) := by
  have hw : wid L = 2 * (L 1).val + (L 0).val := rfl
  rw [WP_bind]
  rw [pair_eq]
  unfold pair2 PairInv
  iintro ⟨H0, H1, HA, HW⟩ Hk
  iapply (own_start d L sized1 (c := wid L + 64 * t3.val + 32) (cond2_iff L t3) ((k0_off5_eq L t3).trans (by congr 1; omega)) ((k0_off6_eq L t3).trans (by congr 1; omega))) $$ H1
  iintro H1
  unfold pair3
  have g3 := own_use0 d L (t3 := t3) (q := q0) (A := A) (w1 := w1) (w2 := w2) (O := O) (W := W) hA (C := A.trips w1 w2 C t3.val) (c := wid L + 64 * t3.val) (cond3_iff L t3) (p := pair4 L w1 w2 t3) (Q := fun r => WP d L (k r) Q)
  iapply g3 $$ [H0 HA HW]
  · isplitl [H0]
    · iexact H0
    isplitl [HA]
    · iexact HA
    · iexact HW
  iintro ⟨H0, HA, HW⟩
  unfold pair4
  iapply (own_start d L sized0 (c := wid L + 64 * (t3.val + 1)) ((cond4_iff L t3).trans (by omega)) ((k0_off44_eq L t3).trans (by congr 1; omega)) ((k0_off45_eq L t3).trans (by congr 1; omega))) $$ H0
  iintro H0
  unfold pair5
  have g5 := own_use1 d L (t3 := t3) (q := q1) (A := A) (w1 := w1) (w2 := w2) (O := O) (W := W) hA (C := A.chunk w1 w2 (wid L + 64 * t3.val) (A.trips w1 w2 C t3.val)) (c := wid L + 64 * t3.val + 32) (cond5_iff L t3) (p := pure ⟨⟩) (Q := fun r => WP d L (k r) Q)
  iapply g5 $$ [H1 HA HW]
  · isplitl [H1]
    · iexact H1
    isplitl [HA]
    · iexact HA
    · iexact HW
  iintro ⟨H1, HA, HW⟩
  unfold WP
  sl_step
  iapply Hk
  isplitl [H0]
  · iexact H0
  isplitl [H1]
  · iexact H1
  isplitl [HA]
  · iexact HA
  · iexact HW

end Slots

end Cert.Proof.Pool
-- ==== Proof.Parts.lean ====
/- The tile's task: the weights, the zeroed accumulators, the chunks, the copies out. -/
module

public import proofs.«01_k».proof.Proof.Pair

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## Values -/

/-- Sixteen lanes of a gate's weights. -/
def wAt (X : S256.Idx → Elt F .f32) (j : Fin 16) : V16 F := fun i => X (ix1 ⟨16 * j.val + (i 0).val, by have h : (i 0).val < 16 := (i 0).isLt; omega⟩)

/-- An accumulator whose first `16 * t` elements are zeroed. -/
def zeroTo {n : ℕ} (X : (⟨1, ![n]⟩ : Shape).Idx → Elt F .f32) (t : ℕ) : (⟨1, ![n]⟩ : Shape).Idx → Elt F .f32 :=
  fun y => if (y 0).val < 16 * t then Scalar.ofBits (F := F) .f32 0x00000000#32 else X y

/-- The accumulators, zeroed. -/
def Acc.zero : Acc F := ⟨fun _ => Scalar.ofBits (F := F) .f32 0x00000000#32, fun _ => Scalar.ofBits (F := F) .f32 0x00000000#32, fun _ => Scalar.ofBits (F := F) .f32 0x00000000#32, fun _ => Scalar.ofBits (F := F) .f32 0x00000000#32⟩

theorem zeroTo_zero {n : ℕ} (X : (⟨1, ![n]⟩ : Shape).Idx → Elt F .f32) : zeroTo X 0 = X := by
  funext y; unfold zeroTo; rw [if_neg (by omega)]

theorem zeroTo_last {n t : ℕ} (X : (⟨1, ![n]⟩ : Shape).Idx → Elt F .f32) (h : n ≤ 16 * t) : zeroTo X t = fun _ => Scalar.ofBits (F := F) .f32 0x00000000#32 := by
  funext y; unfold zeroTo; rw [if_pos (Nat.lt_of_lt_of_le (y 0).isLt h)]

theorem zeroTo_succ {n : ℕ} (X : (⟨1, ![n]⟩ : Shape).Idx → Elt F .f32) (t : ℕ) {o : ℕ} (ho : o = 16 * t) : putAt o (zero16 (F := F)) (zeroTo X t) = zeroTo X (t + 1) := by
  subst ho
  funext y
  unfold putAt zeroTo
  by_cases h : 16 * t ≤ (y 0).val ∧ (y 0).val < 16 * t + 16
  · rw [dif_pos h, if_pos (by omega)]
    rfl
  · rw [dif_neg h]
    by_cases h1 : (y 0).val < 16 * t
    · rw [if_pos h1, if_pos (by omega)]
    · rw [if_neg h1, if_neg (by omega)]

section Rules

variable (d : Dev nD) (L : grid0.Coords)

/-! ## Zeroing -/

theorem own_put16 {n : ℕ} {m : Memref sig .scVector .vmem ⟨1, ![n]⟩ .f32} {o : Fin 1 → ℕ} {h : ∀ a, o a + S16.size a ≤ (⟨1, ![n]⟩ : Shape).size a} {v : V16 F}
    {X : (⟨1, ![n]⟩ : Shape).Idx → Elt F .f32} {α : Type} {k : PUnit → TP (F := F) L α} {Q : α → sProp 𝕄} (X' : (⟨1, ![n]⟩ : Shape).Idx → Elt F .f32) (hX : putAt (o 0) v X = X') :
    Own d L m X ⊢ iprop((Own d L m X' -∗ WP d L (k ⟨⟩) Q) -∗ WP d L (put16 L m o h v >>= k) Q) := by
  subst hX
  unfold put16
  simp only [Prog.lift, Prog.bind_op, Prog.bind_ret, Prog.pure_eq_ret, bind_assoc, cast16]
  iintro H Hk
  iapply (own_load d L (m := m)) $$ H
  iintro H
  iapply (own_store d L (m := m) (putAt (o 0) v X) (putAt_emb o h v X) (putAt_off o h v X)) $$ H
  iexact Hk

theorem own_zero {n : ℕ} {m1 m2 : Memref sig .scVector .vmem ⟨1, ![n]⟩ .f32} {l : Scf.Loop 32} {ok : l.OK} {o : Fin l.trips → Fin 1 → ℕ} {h : ∀ t, ∀ a, o t a + S16.size a ≤ (⟨1, ![n]⟩ : Shape).size a}
    {X1 X2 : (⟨1, ![n]⟩ : Shape).Idx → Elt F .f32} {T : ℕ} (hT : l.trips = T) (hn : n ≤ 16 * T) (ho : ∀ t, o t 0 = 16 * t.val)
    {α : Type} {k : PUnit → TP (F := F) L α} {Q : α → sProp 𝕄} :
    iprop(Own d L m1 X1 ∗ Own d L m2 X2) ⊢ iprop((iprop(Own d L m1 (fun _ => Scalar.ofBits (F := F) .f32 0x00000000#32) ∗ Own d L m2 (fun _ => Scalar.ofBits (F := F) .f32 0x00000000#32)) -∗ WP d L (k ⟨⟩) Q) -∗
      WP d L ((Scf.Loop.for l ok ⟨⟩ fun t _ => do
        put16 L m1 (o t) (h t) zero16
        put16 L m2 (o t) (h t) zero16
        pure ⟨⟩) >>= k) Q) := by
  have hl := own_loop d L (l := l) (ok := ok) (body := fun t _ => do
        put16 L m1 (o t) (h t) zero16
        put16 L m2 (o t) (h t) zero16
        pure ⟨⟩) (fun t => iprop(Own d L m1 (zeroTo X1 t) ∗ Own d L m2 (zeroTo X2 t))) (by
    intro t k Q
    simp only [bind_assoc, pure_bind]
    iintro ⟨H1, H2⟩ Hk
    iapply (own_put16 d L (zeroTo X1 (t.val + 1)) (zeroTo_succ X1 t.val (ho t))) $$ H1
    iintro H1
    iapply (own_put16 d L (zeroTo X2 (t.val + 1)) (zeroTo_succ X2 t.val (ho t))) $$ H2
    iintro H2
    iapply Hk
    isplitl [H1]
    · iexact H1
    · iexact H2) (k := k) (Q := Q) hT
  simp only [zeroTo_zero, zeroTo_last _ hn] at hl
  exact hl

/-! ## The weights -/

theorem own_wload {m : Memref sig .scVector .vmem S256 .f32} {o : Fin 1 → ℕ} {h : ∀ a, o a + S16.size a ≤ S256.size a} {X : S256.Idx → Elt F .f32} (j : Fin 16) (ho : o = ![16 * j.val])
    {α : Type} {k : V16 F → TP (F := F) L α} {Q : α → sProp 𝕄} :
    Own d L m X ⊢ iprop((Own d L m X -∗ WP d L (k (wAt X j)) Q) -∗ WP d L (wload L m o h >>= k) Q) := by
  subst ho
  unfold wload
  simp only [Prog.lift, Prog.bind_op, Prog.bind_ret, Prog.pure_eq_ret, bind_assoc, cast16]
  iintro H Hk
  iapply (own_load d L (m := m)) $$ H
  iintro H
  have e : (fun x => X ((Rect.unit (s := S256) ![16 * j.val] S16.size h).emb x)) = wAt X j := by
    funext x
    refine congrArg X ?_
    funext a
    obtain rfl : a = 0 := Subsingleton.elim _ _
    exact Fin.ext (by show 16 * j.val + 1 * (x 0).val = 16 * j.val + (x 0).val; omega)
  ihave Hk' := Hk $$ H
  rw [← e]
  iexact Hk'

theorem own_weightsHead {m : Memref sig .scVector .vmem S256 .f32} {X : S256.Idx → Elt F .f32} {α : Type} {k : (Fin 12 → V16 F) → TP (F := F) L α} {Q : α → sProp 𝕄} :
    Own d L m X ⊢ iprop((Own d L m X -∗ WP d L (k fun j => wAt X (j.castLE (by decide))) Q) -∗ WP d L (weightsHead L m >>= k) Q) := by
  have e : (fun j : Fin 12 => wAt X (j.castLE (by decide))) = ![wAt X 0, wAt X 1, wAt X 2, wAt X 3, wAt X 4, wAt X 5, wAt X 6, wAt X 7, wAt X 8, wAt X 9, wAt X 10, wAt X 11] := by
    funext j; fin_cases j <;> rfl
  rw [e]
  unfold weightsHead
  simp only [bind_assoc, pure_bind]
  iintro H Hk
  iapply (own_wload d L (m := m) 0 rfl) $$ H
  iintro H
  iapply (own_wload d L (m := m) 1 rfl) $$ H
  iintro H
  iapply (own_wload d L (m := m) 2 rfl) $$ H
  iintro H
  iapply (own_wload d L (m := m) 3 rfl) $$ H
  iintro H
  iapply (own_wload d L (m := m) 4 rfl) $$ H
  iintro H
  iapply (own_wload d L (m := m) 5 rfl) $$ H
  iintro H
  iapply (own_wload d L (m := m) 6 rfl) $$ H
  iintro H
  iapply (own_wload d L (m := m) 7 rfl) $$ H
  iintro H
  iapply (own_wload d L (m := m) 8 rfl) $$ H
  iintro H
  iapply (own_wload d L (m := m) 9 rfl) $$ H
  iintro H
  iapply (own_wload d L (m := m) 10 rfl) $$ H
  iintro H
  iapply (own_wload d L (m := m) 11 rfl) $$ H
  iintro H
  iapply Hk $$ H

theorem own_weightsTail {m : Memref sig .scVector .vmem S256 .f32} {X : S256.Idx → Elt F .f32} {α : Type} {k : (Fin 16 → V16 F) → TP (F := F) L α} {Q : α → sProp 𝕄} :
    Own d L m X ⊢ iprop((Own d L m X -∗ WP d L (k (wAt X)) Q) -∗ WP d L (weightsTail L m (fun j => wAt X (j.castLE (by decide))) >>= k) Q) := by
  have e : wAt X = ![wAt X 0, wAt X 1, wAt X 2, wAt X 3, wAt X 4, wAt X 5, wAt X 6, wAt X 7, wAt X 8, wAt X 9, wAt X 10, wAt X 11, wAt X 12, wAt X 13, wAt X 14, wAt X 15] := by
    funext j; fin_cases j <;> rfl
  unfold weightsTail
  simp only [bind_assoc, pure_bind]
  iintro H Hk
  iapply (own_wload d L (m := m) 12 rfl) $$ H
  iintro H
  iapply (own_wload d L (m := m) 13 rfl) $$ H
  iintro H
  iapply (own_wload d L (m := m) 14 rfl) $$ H
  iintro H
  iapply (own_wload d L (m := m) 15 rfl) $$ H
  iintro H
  ihave Hk' := Hk $$ H
  rw [show k (wAt X) = k ![wAt X 0, wAt X 1, wAt X 2, wAt X 3, wAt X 4, wAt X 5, wAt X 6, wAt X 7, wAt X 8, wAt X 9, wAt X 10, wAt X 11, wAt X 12, wAt X 13, wAt X 14, wAt X 15] from congrArg k e]
  iexact Hk'

/-! ## Copies -/

variable {O : CellTallies nD τ sig (HIx 1)} {W : Waits sig (HIx 1)}

theorem own_copyW {s : Memref sig .scVector .hbm S256 .f32} {m : Memref sig .scVector .vmem S256 .f32} {a : DmaSems sig S_} {q : PosShare TreeShare} {f : Buf (Elt F) (s.view.loc (th d L))}
    (N : ℕ) (hN : m.view.amount (.dma a.sem) = N) (hN' : m.view.dmaCredit = N) (hN0 : 0 < N) {α : Type} {k : PUnit → TP (F := F) L α} {Q : α → sProp 𝕄} :
    iprop((s.view.loc (th d L) ↦[s.view.set]{q} f) ∗ (∃ X, Own d L m X) ∗ semVal (th d L, .dma a.sem) 0 ∗ Waiting d L O W) ⊢
      iprop((iprop(Own d L m (s.view.read (Elt F) f) ∗ (s.view.loc (th d L) ↦[s.view.set]{q} f) ∗ semVal (th d L, .dma a.sem) 0 ∗ Waiting d L O W) -∗ WP d L (k ⟨⟩) Q) -∗
        WP d L (copyW L s m a >>= k) Q) := by
  unfold copyW
  simp only [Prog.lift, Prog.bind_op, Prog.bind_ret, Prog.pure_eq_ret, bind_assoc]
  iintro ⟨H1, ⟨%X, H2⟩, H3, H4⟩ Hk
  iapply (own_copy d L N hN hN' hN0) $$ [H1 H2 H3 H4]
  · isplitl [H1]
    · iexact H1
    isplitl [H2]
    · iexact H2
    isplitl [H3]
    · iexact H3
    · iexact H4
  iexact Hk

theorem own_copyOut {s : Shape} {m : Memref sig .scVector .vmem s .f32} {t : Memref sig .scVector .hbm s .f32} {a : DmaSems sig S_} {X : s.Idx → Elt F .f32}
    (N : ℕ) (hN : t.view.amount (.dma a.sem) = N) (hN' : t.view.dmaCredit = N) (hN0 : 0 < N) {α : Type} {k : PUnit → TP (F := F) L α} {Q : α → sProp 𝕄} :
    iprop(Own d L m X ∗ (∃ Y, Own d L t Y) ∗ semVal (th d L, .dma a.sem) 0 ∗ Waiting d L O W) ⊢
      iprop((iprop(Own d L m X ∗ Own d L t X ∗ semVal (th d L, .dma a.sem) 0 ∗ Waiting d L O W) -∗ WP d L (k ⟨⟩) Q) -∗
        WP d L (copyOut L m t a >>= k) Q) := by
  unfold copyOut
  simp only [Prog.lift, Prog.bind_op, Prog.bind_ret, Prog.pure_eq_ret, bind_assoc]
  rw [show Own d L m X = iprop(∃ f, ⌜m.view.read (Elt F) f = X⌝ ∗ (m.view.loc (th d L) ↦[m.view.set]{fullShare} f)) from rfl]
  iintro ⟨⟨%f, %hf, H1⟩, ⟨%Y, H2⟩, H3, H4⟩ Hk
  subst hf
  iapply (own_copy d L (src := m) (dst := t) N hN hN' hN0) $$ [H1 H2 H3 H4]
  · isplitl [H1]
    · iexact H1
    isplitl [H2]
    · iexact H2
    isplitl [H3]
    · iexact H3
    · iexact H4
  iintro ⟨H2, H1, H3, H4⟩
  iapply Hk
  isplitl [H1]
  · iexists f
    isplitr
    · ipureintro; rfl
    · iexact H1
  isplitl [H2]
  · iexact H2
  isplitl [H3]
  · iexact H3
  · iexact H4

theorem own_checks {α : Type} {k : PUnit → TP (F := F) L α} {Q : α → sProp 𝕄} : WP d L (k ⟨⟩) Q ⊢ WP d L (checks L >>= k) Q := by
  have h1 : k0_chk1 L (flip 1#32) := (fun h => ⟨fun _ _ => h, fun _ _ => h, fun _ _ => h, fun _ _ => h⟩) (flip_lt 1#32 (by decide))
  have h2 : k0_chk2 L (flip 2#32) := (fun h => ⟨fun _ _ => h, fun _ _ => h, fun _ _ => h, fun _ _ => h⟩) (flip_lt 2#32 (by decide))
  have h3 : k0_chk3 L (flip 4#32) := (fun h => ⟨fun _ _ => h, fun _ _ => h, fun _ _ => h, fun _ _ => h⟩) (flip_lt 4#32 (by decide))
  have h4 : k0_chk4 L (flip 8#32) := (fun h => ⟨fun _ _ => h, fun _ _ => h, fun _ _ => h, fun _ _ => h⟩) (flip_lt 8#32 (by decide))
  unfold checks
  simp only [Prog.lift, Prog.bind_op, Prog.bind_ret, Prog.pure_eq_ret, bind_assoc]
  iintro H
  iapply (wp_assume 𝒱₀ (th d L) none Set.univ h1)
  iapply (wp_assume 𝒱₀ (th d L) none Set.univ h2)
  iapply (wp_assume 𝒱₀ (th d L) none Set.univ h3)
  iapply (wp_assume 𝒱₀ (th d L) none Set.univ h4)
  iexact H

/-! ## The chunks -/

set_option maxHeartbeats 400000 in
theorem own_chunks {q0 q1 : PosShare TreeShare} {A : Sources (F := F) d L} (hA : A.Ok) {w1 w2 : Fin 16 → V16 F} {C : Acc F}
    {α : Type} {k : PUnit → TP (F := F) L α} {Q : α → sProp 𝕄} :
    iprop(Idle d L refs0 q0 A ∗ Idle d L refs1 q1 A ∗ AccOwn d L C ∗ Waiting d L O W) ⊢
      iprop((iprop(Idle d L refs0 q0 A ∗ Idle d L refs1 q1 A ∗ AccOwn d L (A.trips w1 w2 C 10) ∗ Waiting d L O W) -∗ WP d L (k ⟨⟩) Q) -∗
        WP d L ((if h1 : k0_cond1 L = 1#1 then do
            fetch L (chunkM hM1 (k0_off3 L) (k0_off3_inb L h1)) (chunkM hM2 (k0_off3 L) (k0_off3_inb L h1)) (chunkS (k0_off4 L) (k0_off4_inb L h1))
              (slot0 bM1) (slot0 bM2) seg0 cc0_scratch10 cc0_scratch12
            Scf.Loop.for k0_t3_loop k0_t3_ok ⟨⟩ (fun t3 _ => pair L w1 w2 perms perms_ok t3) >>= k
          else Scf.Loop.for k0_t3_loop k0_t3_ok ⟨⟩ (fun t3 _ => pair L w1 w2 perms perms_ok t3) >>= k : TP (F := F) L α)) Q) := by
  have hw : wid L = 2 * (L 1).val + (L 0).val := rfl
  have h0 : (L 0).val < 2 := (L 0).isLt
  have h1 : (L 1).val < 16 := (L 1).isLt
  have h625 : wid L + 64 * 0 < 625 := by omega
  have hS : Slot d L refs0 q0 A (wid L + 64 * 10) = Idle d L refs0 q0 A := dif_neg (by omega)
  iintro ⟨H0, H1, HA, HW⟩ Hk
  iapply (own_start d L sized0 (c := wid L + 64 * 0) (iff_of_true (cond1_iff L) h625) ((k0_off3_eq L).trans (by congr 1; omega)) ((k0_off4_eq L).trans (by congr 1; omega))) $$ H0
  iintro H0
  iapply (own_loop d L (l := k0_t3_loop) (ok := k0_t3_ok) (body := fun t3 _ => pair L w1 w2 perms perms_ok t3) (fun t => PairInv d L O W q0 q1 A w1 w2 C t)
    (fun t k Q => own_pair d L (O := O) (W := W) (q0 := q0) (q1 := q1) (A := A) hA (w1 := w1) (w2 := w2) (C := C) t (k := k) (Q := Q)) trips3) $$ [H0 H1 HA HW]
  · unfold PairInv
    isplitl [H0]
    · iexact H0
    isplitl [H1]
    · iexact H1
    isplitl [HA]
    · iexact HA
    · iexact HW
  unfold PairInv
  rw [hS]
  iexact Hk

end Rules

end Cert.Proof.Pool
-- ==== Proof.Task.lean ====
/- The tile's whole task, from what it owns to what it leaves. -/
module

public import proofs.«01_k».proof.Proof.Parts

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

section Task

variable (d : Dev nD) (L : grid0.Coords)

/-- The two weight vectors in HBM. -/
structure Weights where
  f1 : Buf (Elt F) (hW1.view.loc (th d L))
  f2 : Buf (Elt F) (hW2.view.loc (th d L))

variable {d L} in
/-- What the tile's accumulators hold at the end. -/
def Sources.result (A : Sources (F := F) d L) (w : Weights (F := F) d L) : Acc F :=
  A.trips (wAt (hW1.view.read (Elt F) w.f1)) (wAt (hW2.view.read (Elt F) w.f2)) Acc.zero 10

/-- The scratch besides the slots, at any contents. -/
def Scratch : sProp 𝕄 :=
  iprop((∃ X, Own (F := F) d L bW1 X) ∗ (∃ X, Own (F := F) d L bW2 X) ∗ (∃ X, Own (F := F) d L bN1 X) ∗ (∃ X, Own (F := F) d L bD1 X) ∗ (∃ X, Own (F := F) d L bN2 X) ∗ (∃ X, Own (F := F) d L bD2 X) ∗ (∃ X, Own (F := F) d L bLn X))

/-- The scoped semaphores at zero. -/
def Sems : sProp 𝕄 :=
  iprop(semVal (th d L, .dma cc0_scoped0.sem) 0 ∗ semVal (th d L, .dma cc0_scoped1.sem) 0 ∗ semVal (th d L, .dma cc0_scoped2.sem) 0
    ∗ semVal (th d L, .dma cc0_scoped3.sem) 0 ∗ semVal (th d L, .dma cc0_scoped4.sem) 0 ∗ semVal (th d L, .dma cc0_scoped5.sem) 0)

/-- Read shares of the weights. -/
def WShares (q : PosShare TreeShare) (w : Weights (F := F) d L) : sProp 𝕄 :=
  iprop((hW1.view.loc (th d L) ↦[hW1.view.set]{q} w.f1) ∗ (hW2.view.loc (th d L) ↦[hW2.view.set]{q} w.f2))

/-- The tile's blocks of the results at any contents. -/
def OutAny : sProp 𝕄 :=
  iprop((∃ Y, Own (F := F) d L (outN L hN1) Y) ∗ (∃ Y, Own (F := F) d L (outD L hD1) Y) ∗ (∃ Y, Own (F := F) d L (outN L hN2) Y) ∗ (∃ Y, Own (F := F) d L (outD L hD2) Y))

/-- The tile's blocks of the results, holding `C`. -/
def OutIs (C : Acc F) : sProp 𝕄 :=
  iprop(Own d L (outN L hN1) C.n1 ∗ Own d L (outD L hD1) C.d1 ∗ Own d L (outN L hN2) C.n2 ∗ Own d L (outD L hD2) C.d2)

/-- Everything the task uses. -/
def TaskIn (q0 q1 q : PosShare TreeShare) (A : Sources (F := F) d L) (w : Weights (F := F) d L) : sProp 𝕄 :=
  iprop(Idle d L refs0 q0 A ∗ Idle d L refs1 q1 A ∗ WShares d L q w ∗ Scratch (F := F) d L ∗ Sems (F := F) d L)

variable {O : CellTallies nD τ sig (HIx 1)} {W : Waits sig (HIx 1)}

theorem own_poolStart {q : PosShare TreeShare} {w : Weights (F := F) d L} {α : Type} {k : (Fin 12 → V16 F) → TP (F := F) L α} {Q : α → sProp 𝕄} :
    iprop(WShares d L q w ∗ Scratch (F := F) d L ∗ semVal (th d L, .dma cc0_scoped0.sem) 0 ∗ semVal (th d L, .dma cc0_scoped1.sem) 0 ∗ Waiting d L O W) ⊢
      iprop((iprop(WShares d L q w ∗ Own d L bW1 (hW1.view.read (Elt F) w.f1) ∗ Own d L bW2 (hW2.view.read (Elt F) w.f2) ∗ AccOwn d L Acc.zero
            ∗ semVal (th d L, .dma cc0_scoped0.sem) 0 ∗ semVal (th d L, .dma cc0_scoped1.sem) 0 ∗ Waiting d L O W)
          -∗ WP d L (k fun j => wAt (hW1.view.read (Elt F) w.f1) (j.castLE (by decide))) Q) -∗ WP d L (poolStart L >>= k) Q) := by
  unfold WShares Scratch AccOwn poolStart
  simp only [bind_assoc]
  iintro ⟨⟨HF1, HF2⟩, ⟨HW1, HW2, ⟨%n1, HN1⟩, ⟨%d1, HD1⟩, ⟨%n2, HN2⟩, ⟨%d2, HD2⟩, HLn⟩, S0, S1, HW⟩ Hk
  iapply (own_copyW d L (s := hW1) (m := bW1) bW1.view.dmaCredit rfl rfl (by decide)) $$ [HF1 HW1 S0 HW]
  · isplitl [HF1]
    · iexact HF1
    isplitl [HW1]
    · iexact HW1
    isplitl [S0]
    · iexact S0
    · iexact HW
  iintro ⟨HW1, HF1, S0, HW⟩
  iapply (own_copyW d L (s := hW2) (m := bW2) bW2.view.dmaCredit rfl rfl (by decide)) $$ [HF2 HW2 S1 HW]
  · isplitl [HF2]
    · iexact HF2
    isplitl [HW2]
    · iexact HW2
    isplitl [S1]
    · iexact S1
    · iexact HW
  iintro ⟨HW2, HF2, S1, HW⟩
  iapply (own_zero d L (m1 := bN1) (m2 := bN2) (T := 1024) trips1 (by decide) (fun t => congrFun (k0_off1_eq t) 0)) $$ [HN1 HN2]
  · isplitl [HN1]
    · iexact HN1
    · iexact HN2
  iintro ⟨HN1, HN2⟩
  iapply (own_zero d L (m1 := bD1) (m2 := bD2) (T := 64) trips2 (by decide) (fun t => congrFun (k0_off2_eq t) 0)) $$ [HD1 HD2]
  · isplitl [HD1]
    · iexact HD1
    · iexact HD2
  iintro ⟨HD1, HD2⟩
  iapply (own_weightsHead d L (m := bW1)) $$ HW1
  iintro HW1
  iapply Hk
  isplitl [HF1 HF2]
  · isplitl [HF1]
    · iexact HF1
    · iexact HF2
  isplitl [HW1]
  · iexact HW1
  isplitl [HW2]
  · iexact HW2
  isplitl [HN1 HD1 HN2 HD2 HLn]
  · unfold Acc.zero
    isplitl [HN1]
    · iexact HN1
    isplitl [HD1]
    · iexact HD1
    isplitl [HN2]
    · iexact HN2
    isplitl [HD2]
    · iexact HD2
    · iexact HLn
  isplitl [S0]
  · iexact S0
  isplitl [S1]
  · iexact S1
  · iexact HW

theorem WP_pure {α : Type} {a : α} {Q : α → sProp 𝕄} : Q a ⊢ WP d L (pure a : TP (F := F) L α) Q := by
  iintro H
  unfold WP
  sl_step
  iexact H

set_option maxHeartbeats 400000 in
theorem own_poolMain {q0 q1 : PosShare TreeShare} {A : Sources (F := F) d L} (hA : A.Ok) {w1 w2 : Fin 16 → V16 F} {C : Acc F}
    {Q : PUnit → sProp 𝕄} :
    iprop(Idle d L refs0 q0 A ∗ Idle d L refs1 q1 A ∗ AccOwn d L C ∗ OutAny (F := F) d L ∗ semVal (th d L, .dma cc0_scoped2.sem) 0 ∗ semVal (th d L, .dma cc0_scoped3.sem) 0
        ∗ semVal (th d L, .dma cc0_scoped4.sem) 0 ∗ semVal (th d L, .dma cc0_scoped5.sem) 0 ∗ Waiting d L O W) ⊢
      iprop((iprop(Idle d L refs0 q0 A ∗ Idle d L refs1 q1 A ∗ AccOwn d L (A.trips w1 w2 C 10) ∗ OutIs d L (A.trips w1 w2 C 10) ∗ semVal (th d L, .dma cc0_scoped2.sem) 0 ∗ semVal (th d L, .dma cc0_scoped3.sem) 0
        ∗ semVal (th d L, .dma cc0_scoped4.sem) 0 ∗ semVal (th d L, .dma cc0_scoped5.sem) 0 ∗ Waiting d L O W) -∗ Q ⟨⟩) -∗
        WP d L (poolMain L w1 w2 >>= fun _ => copyOut L bD2 (outD L hD2) cc0_scoped5) Q) := by
  rw [WP_bind, ← bind_pure (copyOut L bD2 (outD L hD2) cc0_scoped5)]
  unfold poolMain
  simp only [bind_assoc]
  iintro ⟨H0, H1, HA, HO, S2, S3, S4, S5, HW⟩ Hk
  iapply (own_checks d L)
  iapply (own_chunks d L (q0 := q0) (q1 := q1) hA (w1 := w1) (w2 := w2) (C := C)) $$ [H0 H1 HA HW]
  · isplitl [H0]
    · iexact H0
    isplitl [H1]
    · iexact H1
    isplitl [HA]
    · iexact HA
    · iexact HW
  iintro ⟨H0, H1, HA, HW⟩
  unfold OutAny OutIs AccOwn
  icases HO with ⟨O1, O2, O3, O4⟩
  icases HA with ⟨HN1, HD1, HN2, HD2, HLn⟩
  iapply (own_copyOut d L (m := bN1) (t := outN L hN1) (bN1).view.dmaCredit rfl rfl (by decide)) $$ [HN1 O1 S2 HW]
  · isplitl [HN1]
    · iexact HN1
    isplitl [O1]
    · iexact O1
    isplitl [S2]
    · iexact S2
    · iexact HW
  iintro ⟨HN1, O1, S2, HW⟩
  iapply (own_copyOut d L (m := bD1) (t := outD L hD1) (bD1).view.dmaCredit rfl rfl (by decide)) $$ [HD1 O2 S3 HW]
  · isplitl [HD1]
    · iexact HD1
    isplitl [O2]
    · iexact O2
    isplitl [S3]
    · iexact S3
    · iexact HW
  iintro ⟨HD1, O2, S3, HW⟩
  iapply (own_copyOut d L (m := bN2) (t := outN L hN2) (bN2).view.dmaCredit rfl rfl (by decide)) $$ [HN2 O3 S4 HW]
  · isplitl [HN2]
    · iexact HN2
    isplitl [O3]
    · iexact O3
    isplitl [S4]
    · iexact S4
    · iexact HW
  iintro ⟨HN2, O3, S4, HW⟩
  iapply (WP_pure d L)
  iapply (own_copyOut d L (m := bD2) (t := outD L hD2) (bD2).view.dmaCredit rfl rfl (by decide)) $$ [HD2 O4 S5 HW]
  · isplitl [HD2]
    · iexact HD2
    isplitl [O4]
    · iexact O4
    isplitl [S5]
    · iexact S5
    · iexact HW
  iintro ⟨HD2, O4, S5, HW⟩
  iapply (WP_pure d L)
  iapply Hk
  isplitl [H0]
  · iexact H0
  isplitl [H1]
  · iexact H1
  isplitl [HN1 HD1 HN2 HD2 HLn]
  · isplitl [HN1]
    · iexact HN1
    isplitl [HD1]
    · iexact HD1
    isplitl [HN2]
    · iexact HN2
    isplitl [HD2]
    · iexact HD2
    · iexact HLn
  isplitl [O1 O2 O3 O4]
  · isplitl [O1]
    · iexact O1
    isplitl [O2]
    · iexact O2
    isplitl [O3]
    · iexact O3
    · iexact O4
  isplitl [S2]
  · iexact S2
  isplitl [S3]
  · iexact S3
  isplitl [S4]
  · iexact S4
  isplitl [S5]
  · iexact S5
  · iexact HW

set_option maxHeartbeats 400000 in
/-- The task: the results' blocks end holding what the chunks add up to. -/
theorem own_pool {q0 q1 q : PosShare TreeShare} {A : Sources (F := F) d L} (hA : A.Ok) {w : Weights (F := F) d L} :
    iprop(TaskIn d L q0 q1 q A w ∗ OutAny (F := F) d L ∗ Waiting d L O W) ⊢
      WP d L (pool L) fun _ => iprop(TaskIn d L q0 q1 q A w ∗ OutIs d L (A.result w) ∗ Waiting d L O W) := by
  unfold pool TaskIn Sems
  iintro ⟨⟨H0, H1, HWS, HS, S0, S1, S2, S3, S4, S5⟩, HO, HW⟩
  iapply (own_poolStart d L) $$ [HWS HS S0 S1 HW]
  · isplitl [HWS]
    · iexact HWS
    isplitl [HS]
    · iexact HS
    isplitl [S0]
    · iexact S0
    isplitl [S1]
    · iexact S1
    · iexact HW
  iintro ⟨HWS, HW1, HW2, HA, S0, S1, HW⟩
  iapply (own_weightsTail d L (m := bW1)) $$ HW1
  iintro HW1
  iapply (own_weightsHead d L (m := bW2)) $$ HW2
  iintro HW2
  iapply (own_weightsTail d L (m := bW2)) $$ HW2
  iintro HW2
  iapply (own_poolMain d L (q0 := q0) (q1 := q1) hA) $$ [H0 H1 HA HO S2 S3 S4 S5 HW]
  · isplitl [H0]
    · iexact H0
    isplitl [H1]
    · iexact H1
    isplitl [HA]
    · iexact HA
    isplitl [HO]
    · iexact HO
    isplitl [S2]
    · iexact S2
    isplitl [S3]
    · iexact S3
    isplitl [S4]
    · iexact S4
    isplitl [S5]
    · iexact S5
    · iexact HW
  iintro ⟨H0, H1, HA, HO, S2, S3, S4, S5, HW⟩
  isplitr [HO HW]
  · isplitl [H0]
    · iexact H0
    isplitl [H1]
    · iexact H1
    isplitl [HWS]
    · iexact HWS
    isplitl [HW1 HW2 HA]
    · unfold Scratch AccOwn
      icases HA with ⟨HN1, HD1, HN2, HD2, HLn⟩
      isplitl [HW1]
      · iexists _
        iexact HW1
      isplitl [HW2]
      · iexists _
        iexact HW2
      isplitl [HN1]
      · iexists _
        iexact HN1
      isplitl [HD1]
      · iexists _
        iexact HD1
      isplitl [HN2]
      · iexists _
        iexact HN2
      isplitl [HD2]
      · iexists _
        iexact HD2
      · iexact HLn
    isplitl [S0]
    · iexact S0
    isplitl [S1]
    · iexact S1
    isplitl [S2]
    · iexact S2
    isplitl [S3]
    · iexact S3
    isplitl [S4]
    · iexact S4
    · iexact S5
  isplitl [HO]
  · iexact HO
  · iexact HW

end Task

end Cert.Proof.Pool
-- ==== Proof.BodyEq.lean ====
/- The printed task and the one of this proof are the same program. -/
module

public import proofs.«01_k».proof.Proof.Body

@[expose] public section

noncomputable section

namespace Cert.Proof.Pool

open Cert.KernelIdeal Cert.KernelIdeal.Gen
open Idealize.ShloMosaic
open Idealize.SL.Sem

variable {F : FTy → Type} [FloatOps F]

set_option maxRecDepth 100000 in
set_option maxHeartbeats 4000000 in
/-- The printed first part is the start of the task. -/
theorem part29_eq (L : grid0.Coords) :
    k0_part29 (F := F) L hM1 (Memref.isWhole_whole _) hM2 (Memref.isWhole_whole _) hSg (Memref.isWhole_whole _) hW1 (Memref.isWhole_whole _) hW2 (Memref.isWhole_whole _)
      hN1 (Memref.isWhole_whole _) hD1 (Memref.isWhole_whole _) hN2 (Memref.isWhole_whole _) hD2 (Memref.isWhole_whole _)
      bM1 (Memref.isWhole_whole _) bM2 (Memref.isWhole_whole _) bSg (Memref.isWhole_whole _) bW1 (Memref.isWhole_whole _) bW2 (Memref.isWhole_whole _)
      bN1 (Memref.isWhole_whole _) bD1 (Memref.isWhole_whole _) bN2 (Memref.isWhole_whole _) bD2 (Memref.isWhole_whole _) bLn (Memref.isWhole_whole _)
      cc0_scratch10 cc0_scratch11 cc0_scratch12 cc0_scratch13 cc0_scoped0 cc0_scoped1 cc0_scoped2 cc0_scoped3 cc0_scoped4 cc0_scoped5
      = poolStart L >>= fun a => pure ⟨Scalar.addi (Scalar.muli (BitVec.ofNat 32 (L 1).val) 2#32) (BitVec.ofNat 32 (L 0).val),
          a 0, a 1, a 2, a 3, a 4, a 5, a 6, a 7, a 8, a 9, a 10, a 11⟩ := by
  unfold k0_part29 poolStart
  simp only [bind_assoc]
  rfl

set_option maxRecDepth 100000 in
set_option maxHeartbeats 4000000 in
/-- The printed last part is the loop over the chunks and three of the copies out. -/
theorem part31_eq (L : grid0.Coords) (v1 : BitVec 32) (a b : Fin 16 → V16 F) :
    k0_part31 (F := F) L hM1 (Memref.isWhole_whole _) hM2 (Memref.isWhole_whole _) hSg (Memref.isWhole_whole _) hW1 (Memref.isWhole_whole _) hW2 (Memref.isWhole_whole _)
      hN1 (Memref.isWhole_whole _) hD1 (Memref.isWhole_whole _) hN2 (Memref.isWhole_whole _) hD2 (Memref.isWhole_whole _)
      bM1 (Memref.isWhole_whole _) bM2 (Memref.isWhole_whole _) bSg (Memref.isWhole_whole _) bW1 (Memref.isWhole_whole _) bW2 (Memref.isWhole_whole _)
      bN1 (Memref.isWhole_whole _) bD1 (Memref.isWhole_whole _) bN2 (Memref.isWhole_whole _) bD2 (Memref.isWhole_whole _) bLn (Memref.isWhole_whole _)
      cc0_scratch10 cc0_scratch11 cc0_scratch12 cc0_scratch13 cc0_scoped0 cc0_scoped1 cc0_scoped2 cc0_scoped3 cc0_scoped4 cc0_scoped5 v1
      (a 0) (a 1) (a 2) (a 3) (a 4) (a 5) (a 6) (a 7) (a 8) (a 9) (a 10) (a 11) (a 12) (a 13) (a 14) (a 15)
      (b 0) (b 1) (b 2) (b 3) (b 4) (b 5) (b 6) (b 7) (b 8) (b 9) (b 10) (b 11) (b 12) (b 13) (b 14) (b 15)
      (iota .scVector S16 32 [0] iota_S16_d0_w32_scVector)
      = poolMain L a b := by
  unfold k0_part31 poolMain
  rfl

set_option maxRecDepth 100000 in
set_option maxHeartbeats 4000000 in
/-- The printed task is the task of this proof. -/
theorem pool_eq (L : grid0.Coords) : poolPrinted (F := F) L = pool L := by
  unfold poolPrinted cc0__sc_pool_body pool
  rw [part29_eq, bind_assoc]
  refine congrArg _ (funext fun a => ?_)
  have h : ∀ v1 (w1 w2 : Fin 16 → V16 F), _ = poolMain L w1 w2 := fun v1 w1 w2 => part31_eq L v1 w1 w2
  simp only [← h 0#32]
  rfl

end Cert.Proof.Pool
-- ==== Proof.Tile.lean ====
/- A vector subcore's scratch and semaphores as the task uses them, and the task from what the launch hands it. -/
module

public import proofs.«01_k».proof.Proof.Task
public import proofs.«01_k».proof.Proof.BodyEq

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

open Idealize.ShloMosaic.SparseCore.Cfg (ownRefs ownCells mem_ownCells ownBufs ownSems0)
open Idealize.ShloMosaic.Transfers (shareTok shareDrop pointsTo_toks)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords)

/-! ## Peeling -/

/-- The task's scratch. -/
def scr : Fin 10 → Ref sig .scVector :=
  ![cc0_scratch0, cc0_scratch1, cc0_scratch2, cc0_scratch3, cc0_scratch4, cc0_scratch5, cc0_scratch6, cc0_scratch7, cc0_scratch8, cc0_scratch9]
/-- The task's semaphores. -/
def sms : Fin 10 → DmaSem sig :=
  ![cc0_scratch10.sem, cc0_scratch11.sem, cc0_scratch12.sem, cc0_scratch13.sem, cc0_scoped0.sem, cc0_scoped1.sem, cc0_scoped2.sem, cc0_scoped3.sem, cc0_scoped4.sem, cc0_scoped5.sem]

theorem scr_inj : Function.Injective scr := by decide
theorem sms_inj : Function.Injective sms := by decide

/-- A subcore's other buffers. -/
def Bufs : sProp 𝕄 :=
  bigSep (ownRefs (τ := τ) (sig := sig) (.scVector (cV L) (jV L)) \ Finset.univ.image fun i => (Proc.scVector (cV L) (jV L)).devRef (scr i)) fun b => iprop(∃ f, ((d, b) : Loc nD τ sig) ↦{fullShare} f)
/-- Its other semaphores. -/
def Cells : sProp 𝕄 :=
  bigSep (ownCells (sig := sig) (th d L) \ Finset.univ.image fun i => (th d L, SemLoc.dma (sms i))) fun g => semVal g 0

theorem ownBufs_V :
    (ownBufs (th d L) : sProp 𝕄) = iprop((bigSep Finset.univ fun i : Fin 10 => iprop(∃ f, (th d L).loc (scr i) ↦{fullShare} f)) ∗ Bufs (F := F) d L) := by
  unfold ownBufs Bufs
  rw [SparseCore.bigSep_sdiff_split' (t := Finset.univ.image fun i => (Proc.scVector (cV L) (jV L)).devRef (scr i)) ?h]
  case h =>
    intro b hb
    obtain ⟨i, -, rfl⟩ := Finset.mem_image.mp hb
    refine SparseCore.Cfg.mem_ownRefs_of_owner ?_
    fin_cases i <;> rfl
  rw [SparseCore.bigSep_image_of_injOn (fun a _ b _ h => scr_inj (Proc.devRef_injective _ h))]

theorem ownSems0_V :
    (ownSems0 (th d L) : sProp 𝕄) = iprop((bigSep Finset.univ fun i : Fin 10 => semVal (th d L, SemLoc.dma (sms i)) 0) ∗ Cells (F := F) d L) := by
  unfold ownSems0 Cells
  rw [SparseCore.bigSep_sdiff_split' (t := Finset.univ.image fun i => (th d L, SemLoc.dma (sms i))) ?h]
  case h =>
    intro g hg
    obtain ⟨i, -, rfl⟩ := Finset.mem_image.mp hg
    refine mem_ownCells.mpr ⟨rfl, ?_⟩
    exact (show ∀ i, (SemLoc.dma (sms i) : SemLoc sig).isScoped .scVector = true by decide) i
  rw [SparseCore.bigSep_image_of_injOn (fun a _ b _ h => sms_inj (by injection h with _ h; injection h))]

/-- Ten conjuncts. -/
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## Whole buffers -/

theorem own_whole (b : Ref sig .scVector) :
    (iprop(∃ f, (th d L).loc b ↦{fullShare} f) : sProp 𝕄) ⊣⊢ iprop(∃ X, Own (F := F) d L (Memref.whole b) X) := by
  unfold Own
  constructor
  · iintro ⟨%f, H⟩
    iexists _, f
    isplitr
    · ipureintro; rfl
    · rw [show (Memref.whole b).view.set = (Finset.univ : Finset b.ty.shape.Idx) from View.set_whole b]
      iexact H
  · rw [show (Memref.whole b).view.set = (Finset.univ : Finset b.ty.shape.Idx) from View.set_whole b]
    iintro ⟨%X, %f, -, H⟩
    iexists f
    iexact H

/-- Two memrefs of one buffer that share it between them. -/
theorem own_halves (b : Ref sig .scVector) (S S' : Finset (Idx ((th d L).loc b)))
    (hd : Disjoint S S') (hu : S ∪ S' = Finset.univ) :
    (iprop(∃ f, (th d L).loc b ↦{fullShare} f) : sProp 𝕄) ⊣⊢ iprop((∃ f, ((th d L).loc b ↦[S]{fullShare} f)) ∗ ∃ f, ((th d L).loc b ↦[S']{fullShare} f)) := by
  constructor
  · iintro ⟨%f, H⟩
    rw [← hu]
    ihave H' := (pointsTo_union (f := f) hd).1 $$ H
    icases H' with ⟨H1, H2⟩
    isplitl [H1]
    · iexists f
      iexact H1
    · iexists f
      iexact H2
  · iintro ⟨⟨%f, H1⟩, ⟨%g, H2⟩⟩
    ihave H' := (pointsTo_join (f := f) (g := g) hd) $$ [H1 H2]
    · isplitl [H1]
      · iexact H1
      · iexact H2
    rw [hu]
    iexists _
    iexact H'

/-- Slot `b` of a chunk buffer. -/
def slotSet (b : Fin 2) : Finset S2x80x256.Idx := Finset.univ.filter fun i => (i 0).val = b.val

theorem slot_disj : Disjoint (slotSet 0) (slotSet 1) := by
  rw [Finset.disjoint_left]
  intro i h h'
  simp only [slotSet, Finset.mem_filter, Finset.mem_univ, _root_.true_and] at h h'
  rw [h] at h'
  exact absurd h' (by decide)

theorem slot_union : slotSet 0 ∪ slotSet 1 = Finset.univ := by
  ext i
  simp only [slotSet, Finset.mem_union, Finset.mem_filter, Finset.mem_univ, _root_.true_and, iff_true]
  have h : (i 0).val < 2 := (i 0).isLt
  show (i 0).val = 0 ∨ (i 0).val = 1
  omega

theorem seg_disj : Disjoint (segRow 0) (segRow 1) := by
  rw [Finset.disjoint_left]
  intro i h h'
  simp only [segRow, Finset.mem_filter, Finset.mem_univ, _root_.true_and] at h h'
  rw [h] at h'
  exact absurd h' (by decide)

theorem seg_union : segRow 0 ∪ segRow 1 = Finset.univ := by
  ext i
  simp only [segRow, Finset.mem_union, Finset.mem_filter, Finset.mem_univ, _root_.true_and, iff_true]
  have h : (i 0).val < 2 := (i 0).isLt
  show (i 0).val = 0 ∨ (i 0).val = 1
  omega

theorem slotSet_rect (b : ℕ) (hb : b < 2) (h : ∀ a, (![b, 0, 0] : Fin 3 → ℕ) a + S1x80x256.size a ≤ S2x80x256.size a) :
    (Rect.unit (s := S2x80x256) ![b, 0, 0] S1x80x256.size h).set = slotSet ⟨b, hb⟩ := by
  ext i
  rw [Rect.mem_set_unit]
  simp only [slotSet, Finset.mem_filter, Finset.mem_univ, _root_.true_and]
  constructor
  · intro h'
    have := h' 0
    change b ≤ (i 0).val ∧ (i 0).val < b + 1 at this
    omega
  · intro h' a
    fin_cases a
    · show b ≤ (i 0).val ∧ (i 0).val < b + 1; omega
    · exact ⟨Nat.zero_le _, by show (i 1).val < 0 + 80; have : (i 1).val < 80 := (i 1).isLt; omega⟩
    · exact ⟨Nat.zero_le _, by show (i 2).val < 0 + 256; have : (i 2).val < 256 := (i 2).isLt; omega⟩

theorem slot0_set1 : (slot0 bM1).view.set = (slotSet 0 : Finset S2x80x256.Idx) := by
  rw [show (slot0 bM1).view.set = ((bM1.view).slice (Rect.unit (s := S2x80x256) ![0, 0, 0] S1x80x256.size inb_S2x80x256_S1x80x256_0_0_0)).set from View.set_reshape _ _]
  rw [View.set_slice_whole]
  exact slotSet_rect 0 (by decide) _

theorem slot0_set2 : (slot0 bM2).view.set = (slotSet 0 : Finset S2x80x256.Idx) := by
  rw [show (slot0 bM2).view.set = ((bM2.view).slice (Rect.unit (s := S2x80x256) ![0, 0, 0] S1x80x256.size inb_S2x80x256_S1x80x256_0_0_0)).set from View.set_reshape _ _]
  rw [View.set_slice_whole]
  exact slotSet_rect 0 (by decide) _

theorem slot1_set1 : (slot1 bM1).view.set = (slotSet 1 : Finset S2x80x256.Idx) := by
  rw [show (slot1 bM1).view.set = ((bM1.view).slice (Rect.unit (s := S2x80x256) ![1, 0, 0] S1x80x256.size inb_S2x80x256_S1x80x256_1_0_0)).set from View.set_reshape _ _]
  rw [View.set_slice_whole]
  exact slotSet_rect 1 (by decide) _

theorem slot1_set2 : (slot1 bM2).view.set = (slotSet 1 : Finset S2x80x256.Idx) := by
  rw [show (slot1 bM2).view.set = ((bM2.view).slice (Rect.unit (s := S2x80x256) ![1, 0, 0] S1x80x256.size inb_S2x80x256_S1x80x256_1_0_0)).set from View.set_reshape _ _]
  rw [View.set_slice_whole]
  exact slotSet_rect 1 (by decide) _

theorem own_any {s : Shape} {e : EltTy} (m : Memref sig .scVector .vmem s e) {S : Finset (Idx (m.view.loc (th d L)))} (h : m.view.set = S) :
    (iprop(∃ f, (m.view.loc (th d L) ↦[S]{fullShare} f)) : sProp 𝕄) ⊣⊢ iprop(∃ X, Own (F := F) d L m X) := by
  subst h
  unfold Own
  constructor
  · iintro ⟨%f, H⟩
    iexists _, f
    isplitr
    · ipureintro; rfl
    · iexact H
  · iintro ⟨%X, %f, -, H⟩
    iexists f
    iexact H

theorem own_seg (b : Fin 2) : (iprop(∃ f, (bSg.view.loc (th d L) ↦[segRow b]{fullShare} f)) : sProp 𝕄) ⊣⊢ iprop(∃ G, SegOwn (F := F) d L b G) := by
  unfold SegOwn
  constructor
  · iintro ⟨%f, H⟩
    iexists (fun t => f (ix2 b ⟨(t 0).val, Nat.lt_of_lt_of_le (t 0).isLt (by decide)⟩)), f
    isplitr
    · ipureintro; intro t; rfl
    · iexact H
  · iintro ⟨%G, %f, -, H⟩
    iexists f
    iexact H

theorem own_slots1 : (iprop(∃ f, (th d L).loc cc0_scratch0 ↦{fullShare} f) : sProp 𝕄) ⊣⊢ iprop((∃ X, Own (F := F) d L (slot0 bM1) X) ∗ ∃ X, Own (F := F) d L (slot1 bM1) X) :=
  (own_halves d L cc0_scratch0 (slotSet 0) (slotSet 1) slot_disj slot_union).trans
    (sep_congr (own_any d L (slot0 bM1) slot0_set1) (own_any d L (slot1 bM1) slot1_set1))

theorem own_slots2 : (iprop(∃ f, (th d L).loc cc0_scratch1 ↦{fullShare} f) : sProp 𝕄) ⊣⊢ iprop((∃ X, Own (F := F) d L (slot0 bM2) X) ∗ ∃ X, Own (F := F) d L (slot1 bM2) X) :=
  (own_halves d L cc0_scratch1 (slotSet 0) (slotSet 1) slot_disj slot_union).trans
    (sep_congr (own_any d L (slot0 bM2) slot0_set2) (own_any d L (slot1 bM2) slot1_set2))

theorem own_segs : (iprop(∃ f, (th d L).loc cc0_scratch2 ↦{fullShare} f) : sProp 𝕄) ⊣⊢
    iprop(((∃ X, Own (F := F) d L seg0 X) ∗ SegTail d L 0) ∗ (∃ X, Own (F := F) d L seg1 X) ∗ SegTail d L 1) := by
  have h := own_halves (F := F) d L cc0_scratch2 (segRow 0) (segRow 1) seg_disj seg_union
  constructor
  · iintro H
    ihave H' := h.1 $$ H
    icases H' with ⟨H0, H1⟩
    ihave H0' := (own_seg d L 0).1 $$ H0
    ihave H1' := (own_seg d L 1).1 $$ H1
    icases H0' with ⟨%G0, H0⟩
    icases H1' with ⟨%G1, H1⟩
    isplitl [H0]
    · iapply (seg_split d L (b := 0) inb_S2x96_S1x80_0_0 G0) $$ H0
    · iapply (seg_split d L (b := 1) inb_S2x96_S1x80_1_0 G1) $$ H1
  · iintro ⟨⟨⟨%X0, H0⟩, T0⟩, ⟨%X1, H1⟩, T1⟩
    ihave H0' := (seg_join d L (b := 0) inb_S2x96_S1x80_0_0 X0) $$ [H0 T0]
    · isplitl [H0]
      · iexact H0
      · iexact T0
    ihave H1' := (seg_join d L (b := 1) inb_S2x96_S1x80_1_0 X1) $$ [H1 T1]
    · isplitl [H1]
      · iexact H1
      · iexact T1
    iapply h.2
    isplitl [H0']
    · iapply (own_seg d L 0).2
      iexists X0
      iexact H0'
    · iapply (own_seg d L 1).2
      iexists X1
      iexact H1'

end Tile

end Cert.Proof.Pool
-- ==== Proof.Obl.lean ====
/- The task of a vector subcore from what the launch hands it, back to what the launch takes. -/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

open Idealize.ShloMosaic.SparseCore.Cfg (ownRefs ownCells mem_ownCells ownBufs ownSems0)
open Idealize.ShloMosaic.Transfers (shareTok shareDrop pointsTo_toks)

section Obl

theorem bigSep_pair (Φ : Fin 2 → sProp 𝕄) : bigSep Finset.univ Φ = iprop(Φ 0 ∗ Φ 1) :=
  bigSep_univ_eq_bigSepL [0, 1] (by decide) (by decide) Φ

variable (d : Dev nD) (L : grid0.Coords)

theorem scr_ten : (bigSep Finset.univ fun i : Fin 10 => iprop(∃ f, (th d L).loc (scr i) ↦{fullShare} f) : sProp 𝕄) =
    iprop((∃ f, (th d L).loc cc0_scratch0 ↦{fullShare} f) ∗ (∃ f, (th d L).loc cc0_scratch1 ↦{fullShare} f) ∗ (∃ f, (th d L).loc cc0_scratch2 ↦{fullShare} f) ∗ (∃ f, (th d L).loc cc0_scratch3 ↦{fullShare} f) ∗ (∃ f, (th d L).loc cc0_scratch4 ↦{fullShare} f) ∗ (∃ f, (th d L).loc cc0_scratch5 ↦{fullShare} f) ∗ (∃ f, (th d L).loc cc0_scratch6 ↦{fullShare} f) ∗ (∃ f, (th d L).loc cc0_scratch7 ↦{fullShare} f) ∗ (∃ f, (th d L).loc cc0_scratch8 ↦{fullShare} f) ∗ (∃ f, (th d L).loc cc0_scratch9 ↦{fullShare} f)) := bigSep_ten _

theorem sms_ten : (bigSep Finset.univ fun i : Fin 10 => semVal (th d L, SemLoc.dma (sms i)) 0 : sProp 𝕄) =
    iprop(semVal (th d L, SemLoc.dma cc0_scratch10.sem) 0 ∗ semVal (th d L, SemLoc.dma cc0_scratch11.sem) 0 ∗ semVal (th d L, SemLoc.dma cc0_scratch12.sem) 0 ∗ semVal (th d L, SemLoc.dma cc0_scratch13.sem) 0 ∗ semVal (th d L, SemLoc.dma cc0_scoped0.sem) 0 ∗ semVal (th d L, SemLoc.dma cc0_scoped1.sem) 0 ∗ semVal (th d L, SemLoc.dma cc0_scoped2.sem) 0 ∗ semVal (th d L, SemLoc.dma cc0_scoped3.sem) 0 ∗ semVal (th d L, SemLoc.dma cc0_scoped4.sem) 0 ∗ semVal (th d L, SemLoc.dma cc0_scoped5.sem) 0) := bigSep_ten _

/-- The scratch and the semaphores are what the task uses besides the shares. -/
theorem scratch_iff (q0 q1 q : PosShare TreeShare) (A : Sources (F := F) d L) (w : Weights (F := F) d L) :
    iprop((bigSep Finset.univ fun i : Fin 10 => iprop(∃ f, (th d L).loc (scr i) ↦{fullShare} f)) ∗ (bigSep Finset.univ fun i : Fin 10 => semVal (th d L, SemLoc.dma (sms i)) 0)
        ∗ Shares d L q0 A ∗ Shares d L q1 A ∗ WShares d L q w) ⊣⊢ TaskIn d L q0 q1 q A w := by
  rw [scr_ten, sms_ten]
  unfold TaskIn Idle Scratch Sems
  constructor
  · iintro ⟨⟨B0, B1, B2, B3, B4, B5, B6, B7, B8, B9⟩, ⟨S0, S1, S2, S3, S4, S5, S6, S7, S8, S9⟩, Q0, Q1, HW⟩
    ihave B0' := (own_slots1 d L).1 $$ B0
    ihave B1' := (own_slots2 d L).1 $$ B1
    ihave B2' := (own_segs d L).1 $$ B2
    ihave B3' := (own_whole d L cc0_scratch3).1 $$ B3
    ihave B4' := (own_whole d L cc0_scratch4).1 $$ B4
    ihave B5' := (own_whole d L cc0_scratch5).1 $$ B5
    ihave B6' := (own_whole d L cc0_scratch6).1 $$ B6
    ihave B7' := (own_whole d L cc0_scratch7).1 $$ B7
    ihave B8' := (own_whole d L cc0_scratch8).1 $$ B8
    ihave B9' := (own_whole d L cc0_scratch9).1 $$ B9
    icases B0' with ⟨A0, A1⟩
    icases B1' with ⟨A2, A3⟩
    icases B2' with ⟨⟨A4, A5⟩, A6, A7⟩
    isplitl [A0 A2 A4 A5 S0 S2 Q0]
    · isplitl [A0]
      · iexact A0
      isplitl [A2]
      · iexact A2
      isplitl [A4]
      · iexact A4
      isplitl [A5]
      · iexact A5
      isplitl [S0]
      · iexact S0
      isplitl [S2]
      · iexact S2
      iexact Q0
    isplitl [A1 A3 A6 A7 S1 S3 Q1]
    · isplitl [A1]
      · iexact A1
      isplitl [A3]
      · iexact A3
      isplitl [A6]
      · iexact A6
      isplitl [A7]
      · iexact A7
      isplitl [S1]
      · iexact S1
      isplitl [S3]
      · iexact S3
      iexact Q1
    isplitl [HW]
    · iexact HW
    isplitl [B3' B4' B5' B6' B7' B8' B9']
    · isplitl [B3']
      · iexact B3'
      isplitl [B4']
      · iexact B4'
      isplitl [B5']
      · iexact B5'
      isplitl [B6']
      · iexact B6'
      isplitl [B7']
      · iexact B7'
      isplitl [B8']
      · iexact B8'
      iexact B9'
    isplitl [S4]
    · iexact S4
    isplitl [S5]
    · iexact S5
    isplitl [S6]
    · iexact S6
    isplitl [S7]
    · iexact S7
    isplitl [S8]
    · iexact S8
    iexact S9
  · iintro ⟨⟨A0, A2, A4, A5, S0, S2, Q0⟩, ⟨A1, A3, A6, A7, S1, S3, Q1⟩, HW, ⟨B3, B4, B5, B6, B7, B8, B9⟩, ⟨S4, S5, S6, S7, S8, S9⟩⟩
    isplitl [A0 A1 A2 A3 A4 A5 A6 A7 B3 B4 B5 B6 B7 B8 B9]
    · isplitl [A0 A1]
      · iapply (own_slots1 d L).2
        isplitl [A0]
        · iexact A0
        · iexact A1
      isplitl [A2 A3]
      · iapply (own_slots2 d L).2
        isplitl [A2]
        · iexact A2
        · iexact A3
      isplitl [A4 A5 A6 A7]
      · iapply (own_segs d L).2
        isplitl [A4 A5]
        · isplitl [A4]
          · iexact A4
          · iexact A5
        isplitl [A6]
        · iexact A6
        · iexact A7
      isplitl [B3]
      · iapply (own_whole d L cc0_scratch3).2
        iexact B3
      isplitl [B4]
      · iapply (own_whole d L cc0_scratch4).2
        iexact B4
      isplitl [B5]
      · iapply (own_whole d L cc0_scratch5).2
        iexact B5
      isplitl [B6]
      · iapply (own_whole d L cc0_scratch6).2
        iexact B6
      isplitl [B7]
      · iapply (own_whole d L cc0_scratch7).2
        iexact B7
      isplitl [B8]
      · iapply (own_whole d L cc0_scratch8).2
        iexact B8
      · iapply (own_whole d L cc0_scratch9).2
        iexact B9
    isplitl [S0 S1 S2 S3 S4 S5 S6 S7 S8 S9]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      iexact S9
    isplitl [Q0]
    · iexact Q0
    isplitl [Q1]
    · iexact Q1
    iexact HW

/-- The three read shares of a tile: two slots' and what is left. -/
theorem shares_two (q : PosShare TreeShare) (A : Sources (F := F) d L) :
    Shares d L q A ⊣⊢ iprop(Shares d L (shareDrop q 2) A ∗ Shares d L (shareTok q 2 0) A ∗ Shares d L (shareTok q 2 1) A) := by
  unfold Shares
  have e1 := pointsTo_toks (nD := nD) (τ := τ) (sig := sig) (Ix := HIx 1) (Val := Elt F) (Name := ℕ) (U := UU) (Lvl := ℕ) (ℓ := hM1.view.loc (th d L)) (S := Finset.univ) (f := A.a1) q 2
  have e2 := pointsTo_toks (nD := nD) (τ := τ) (sig := sig) (Ix := HIx 1) (Val := Elt F) (Name := ℕ) (U := UU) (Lvl := ℕ) (ℓ := hM2.view.loc (th d L)) (S := Finset.univ) (f := A.a2) q 2
  have e3 := pointsTo_toks (nD := nD) (τ := τ) (sig := sig) (Ix := HIx 1) (Val := Elt F) (Name := ℕ) (U := UU) (Lvl := ℕ) (ℓ := hSg.view.loc (th d L)) (S := Finset.univ) (f := A.ag) q 2
  rw [bigSep_pair] at e1 e2 e3
  constructor
  · iintro ⟨H1, H2, H3⟩
    ihave H1' := e1.1 $$ H1
    ihave H2' := e2.1 $$ H2
    ihave H3' := e3.1 $$ H3
    icases H1' with ⟨X1, Y1, Z1⟩
    icases H2' with ⟨X2, Y2, Z2⟩
    icases H3' with ⟨X3, Y3, Z3⟩
    isplitl [X1 X2 X3]
    · isplitl [X1]
      · iexact X1
      isplitl [X2]
      · iexact X2
      iexact X3
    isplitl [Y1 Y2 Y3]
    · isplitl [Y1]
      · iexact Y1
      isplitl [Y2]
      · iexact Y2
      iexact Y3
    isplitl [Z1]
    · iexact Z1
    isplitl [Z2]
    · iexact Z2
    iexact Z3
  · iintro ⟨⟨X1, X2, X3⟩, ⟨Y1, Y2, Y3⟩, ⟨Z1, Z2, Z3⟩⟩
    isplitl [X1 Y1 Z1]
    · iapply e1.2
      isplitl [X1]
      · iexact X1
      isplitl [Y1]
      · iexact Y1
      iexact Z1
    isplitl [X2 Y2 Z2]
    · iapply e2.2
      isplitl [X2]
      · iexact X2
      isplitl [Y2]
      · iexact Y2
      iexact Z2
    · iapply e3.2
      isplitl [X3]
      · iexact X3
      isplitl [Y3]
      · iexact Y3
      iexact Z3

/-- What the launch hands a tile runs its task, and what it takes back is there afterwards, the blocks written. -/
theorem tile_body (q qw : PosShare TreeShare) {A : Sources (F := F) d L} (hA : A.Ok) {w : Weights (F := F) d L} (O : CellTallies nD τ sig (HIx 1)) (W : Waits sig (HIx 1)) (hO : ∀ g, O g none = 0) :
    iprop(levAts (K (F := F)).L (K (F := F)).lev ∗ (Shares d L q A ∗ WShares d L qw w ∗ OutAny (F := F) d L) ∗ scopedBufs (th d L) ∗ scopedSems0 (th d L) ∗ owes (th d L) O W)
      ⊢ WP d L (poolPrinted (F := F) L)
          fun _ => iprop((Shares d L q A ∗ WShares d L qw w ∗ OutIs d L (A.result w)) ∗ scopedBufs (th d L) ∗ scopedSems0 (th d L)
            ∗ ∃ W', ⌜∀ p ∈ W', p ∈ W ∨ p.2 = none⌝ ∗ owes (th d L) O W') := by
  rw [pool_eq, show (scopedBufs (th d L) : sProp 𝕄) = _ from (K (F := F)).scopedBufs_V facts d (cV L) (jV L),
    show (scopedSems0 (th d L) : sProp 𝕄) = _ from SparseCore.Cfg.scopedSems0_V (Val := Elt F) d (cV L) (jV L), ownSems0_V, ownBufs_V]
  iintro ⟨#Hlv, ⟨HS, HW, HO⟩, ⟨HB, HBr⟩, ⟨HC, HCr⟩, Ho⟩
  ihave Hmw := ((K (F := F)).mayWaits_none (thr := th d L) hO) $$ Hlv
  ihave HS' := (shares_two d L q A).1 $$ HS
  icases HS' with ⟨HSd, HS0, HS1⟩
  ihave HT := (scratch_iff d L (shareTok q 2 0) (shareTok q 2 1) qw A w).1 $$ [HB HC HS0 HS1 HW]
  · isplitl [HB]
    · iexact HB
    isplitl [HC]
    · iexact HC
    isplitl [HS0]
    · iexact HS0
    isplitl [HS1]
    · iexact HS1
    iexact HW
  ihave Hwp := (own_pool d L (O := O) (W := W) hA) $$ [HT HO Hmw Ho]
  · isplitl [HT]
    · iexact HT
    isplitl [HO]
    · iexact HO
    unfold Waiting
    isplitl [Hmw]
    · iexact Hmw
    iexists W
    isplitr
    · ipureintro; exact fun _ h => Or.inl h
    · iexact Ho
  iapply (wp_wand frame _ _) $$ Hwp
  iintro %_ ⟨HT, HO, HWt⟩
  ihave HT' := (scratch_iff d L (shareTok q 2 0) (shareTok q 2 1) qw A w).2 $$ HT
  icases HT' with ⟨HB, HC, HS0, HS1, HW⟩
  unfold Waiting
  icases HWt with ⟨-, HWt⟩
  isplitl [HSd HS0 HS1 HW HO]
  · isplitl [HSd HS0 HS1]
    · iapply (shares_two d L q A).2
      isplitl [HSd]
      · iexact HSd
      isplitl [HS0]
      · iexact HS0
      iexact HS1
    isplitl [HW]
    · iexact HW
    iexact HO
  isplitl [HB HBr]
  · isplitl [HB]
    · iexact HB
    iexact HBr
  isplitl [HC HCr]
  · isplitl [HC]
    · iexact HC
    iexact HCr
  iexact HWt

end Obl

end Cert.Proof.Pool
-- ==== Proof.Launch.lean ====
/- What the launch of the pool hands its cores and tiles, and that each does its part. -/
module

public import proofs.«01_k».proof.Proof.Obl

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## Where a tile sits -/

theorem nCore_zero : (K (F := F)).nCore 0 = 2 := rfl
theorem nSub_zero : (K (F := F)).nSub 0 = 16 := rfl

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile of core `c` and subcore `i`. -/
abbrev tileAt (c : Fin 2) (i : Fin 16) : grid0.Coords := coordsV c i

theorem defs₀_vector (c : Fin τ.nSC) (s : Fin τ.nSub) :
    defs₀ (F := F) (.scVector c s) 0 () = SparseCore.onTile hcore0 hsub0 (fun c s => poolPrinted (F := F) (coordsV c s)) ⟨⟩ c s := rfl

/-! ## What the launch hands around -/

section Payloads

variable (Vl : Dev nD → Valuation τ sig (Elt F))

/-- The arrays the tile reads, as a valuation holds them. -/
def srcs (d : Dev nD) (L : grid0.Coords) : Sources (F := F) d L :=
  ⟨Vl d (Proc.devRef .tc main_arg1), Vl d (Proc.devRef .tc main_arg2), Vl d (Proc.devRef .tc main_arg3)⟩

/-- The weight vectors, as a valuation holds them. -/
def wts (d : Dev nD) (L : grid0.Coords) : Weights (F := F) d L :=
  ⟨Vl d (Proc.devRef .tc main_v0), Vl d (Proc.devRef .tc main_v1)⟩

/-- What tile `L` of device `d` computes. -/
def tileOut (d : Dev nD) (L : grid0.Coords) : Acc F := (srcs Vl d L).result (wts Vl d L)

/-- A read share of every array the pool reads. -/
def InShares (q : PosShare TreeShare) (d : Dev nD) : sProp 𝕄 :=
  iprop(((SparseCore.T d : Thread nD τ).loc main_arg1 ↦{q} Vl d (Proc.devRef .tc main_arg1)) ∗ ((SparseCore.T d : Thread nD τ).loc main_arg2 ↦{q} Vl d (Proc.devRef .tc main_arg2))
    ∗ ((SparseCore.T d : Thread nD τ).loc main_arg3 ↦{q} Vl d (Proc.devRef .tc main_arg3)) ∗ ((SparseCore.T d : Thread nD τ).loc main_v0 ↦{q} Vl d (Proc.devRef .tc main_v0))
    ∗ ((SparseCore.T d : Thread nD τ).loc main_v1 ↦{q} Vl d (Proc.devRef .tc main_v1)))

theorem inShares_toks (q : PosShare TreeShare) (n : ℕ) (d : Dev nD) :
    InShares Vl q d ⊣⊢ iprop(InShares Vl (Transfers.shareDrop q n) d ∗ bigSep Finset.univ fun i : Fin n => InShares Vl (Transfers.shareTok q n i) d) := by
  unfold InShares
  simp only [bigSep_sep']
  constructor
  · iintro ⟨H1, H2, H3, H4, H5⟩
    ihave H1' := (Transfers.pointsTo_toks q n).1 $$ H1
    ihave H2' := (Transfers.pointsTo_toks q n).1 $$ H2
    ihave H3' := (Transfers.pointsTo_toks q n).1 $$ H3
    ihave H4' := (Transfers.pointsTo_toks q n).1 $$ H4
    ihave H5' := (Transfers.pointsTo_toks q n).1 $$ H5
    icases H1' with ⟨D1, B1⟩
    icases H2' with ⟨D2, B2⟩
    icases H3' with ⟨D3, B3⟩
    icases H4' with ⟨D4, B4⟩
    icases H5' with ⟨D5, B5⟩
    isplitl [D1 D2 D3 D4 D5]
    · isplitl [D1]; · iexact D1
      isplitl [D2]; · iexact D2
      isplitl [D3]; · iexact D3
      isplitl [D4]; · iexact D4
      iexact D5
    isplitl [B1]; · iexact B1
    isplitl [B2]; · iexact B2
    isplitl [B3]; · iexact B3
    isplitl [B4]; · iexact B4
    iexact B5
  · iintro ⟨⟨D1, D2, D3, D4, D5⟩, B1, B2, B3, B4, B5⟩
    isplitl [D1 B1]
    · iapply (Transfers.pointsTo_toks q n).2; isplitl [D1] <;> iassumption
    isplitl [D2 B2]
    · iapply (Transfers.pointsTo_toks q n).2; isplitl [D2] <;> iassumption
    isplitl [D3 B3]
    · iapply (Transfers.pointsTo_toks q n).2; isplitl [D3] <;> iassumption
    isplitl [D4 B4]
    · iapply (Transfers.pointsTo_toks q n).2; isplitl [D4] <;> iassumption
    iapply (Transfers.pointsTo_toks q n).2; isplitl [D5] <;> iassumption

/-- The share as the tile's task states it. -/
theorem inShares_tile (q : PosShare TreeShare) (d : Dev nD) (L : grid0.Coords) :
    InShares Vl q d ⊣⊢ iprop(Shares d L q (srcs Vl d L) ∗ WShares d L q (wts Vl d L)) := by
  unfold InShares Shares WShares srcs wts
  rw [show hW1.view.set = (Finset.univ : Finset S256.Idx) from View.set_whole _, show hW2.view.set = (Finset.univ : Finset S256.Idx) from View.set_whole _]
  constructor
  · iintro ⟨H1, H2, H3, H4, H5⟩
    isplitl [H1 H2 H3]
    · isplitl [H1]; · iexact H1
      isplitl [H2]; · iexact H2
      iexact H3
    isplitl [H4]; · iexact H4
    iexact H5
  · iintro ⟨⟨H1, H2, H3⟩, H4, H5⟩
    isplitl [H1]; · iexact H1
    isplitl [H2]; · iexact H2
    isplitl [H3]; · iexact H3
    isplitl [H4]; · iexact H4
    iexact H5

/-- What a tile is handed. -/
def goTile (d : Dev nD) (c : Fin 2) (i : Fin 16) : sProp 𝕄 :=
  iprop(InShares Vl (Transfers.shareTok (Transfers.shareTok fullShare 2 c) 16 i) d ∗ OutAny (F := F) d (tileAt c i))
/-- What it hands back. -/
def tdTile (d : Dev nD) (c : Fin 2) (i : Fin 16) : sProp 𝕄 :=
  iprop(InShares Vl (Transfers.shareTok (Transfers.shareTok fullShare 2 c) 16 i) d ∗ OutIs d (tileAt c i) (tileOut Vl d (tileAt c i)))
/-- What a core is handed. -/
def stCore (d : Dev nD) (c : Fin 2) : sProp 𝕄 :=
  iprop(InShares Vl (Transfers.shareTok fullShare 2 c) d ∗ bigSep Finset.univ fun i : Fin 16 => OutAny (F := F) d (tileAt c i))
/-- What it hands back. -/
def dnCore (d : Dev nD) (c : Fin 2) : sProp 𝕄 :=
  iprop(InShares Vl (Transfers.shareTok fullShare 2 c) d ∗ bigSep Finset.univ fun i : Fin 16 => OutIs d (tileAt c i) (tileOut Vl d (tileAt c i)))

/-- The launch's payloads. -/
def P : (K (F := F)).Pay (nD := nD) (Val := Elt F) (Name := ℕ) (U := UU) where
  st := fun q d c => match q with | 0 => stCore Vl d (Fin.cast nCore_zero c)
  dn := fun q d c => match q with | 0 => dnCore Vl d (Fin.cast nCore_zero c)
  go := fun q d c i => match q with | 0 => goTile Vl d (Fin.cast nCore_zero c) (Fin.cast nSub_zero i)
  td := fun q d c i => match q with | 0 => tdTile Vl d (Fin.cast nCore_zero c) (Fin.cast nSub_zero i)
  x := fun _ _ => iprop(emp)

instance inShares_storable (q : PosShare TreeShare) (d : Dev nD) : BI.Storable (upEmb : UEmb _ 𝕄) (InShares Vl q d) := by
  unfold InShares; infer_instance
instance own_storable (d : Dev nD) (L : grid0.Coords) {sp : Space} {s : Shape} {e : EltTy} (m : Memref sig .scVector sp s e) (X : s.Idx → Elt F e) :
    BI.Storable (upEmb : UEmb _ 𝕄) (Own d L m X) := by
  unfold Own; infer_instance
instance outAny_storable (d : Dev nD) (L : grid0.Coords) : BI.Storable (upEmb : UEmb _ 𝕄) (OutAny (F := F) d L) := by
  unfold OutAny; infer_instance
instance outIs_storable (d : Dev nD) (L : grid0.Coords) (C : Acc F) : BI.Storable (upEmb : UEmb _ 𝕄) (OutIs d L C) := by
  unfold OutIs; infer_instance
instance goTile_storable (d : Dev nD) (c : Fin 2) (i : Fin 16) : BI.Storable (upEmb : UEmb _ 𝕄) (goTile Vl d c i) := by
  unfold goTile; infer_instance
instance tdTile_storable (d : Dev nD) (c : Fin 2) (i : Fin 16) : BI.Storable (upEmb : UEmb _ 𝕄) (tdTile Vl d c i) := by
  unfold tdTile; infer_instance
instance stCore_storable (d : Dev nD) (c : Fin 2) : BI.Storable (upEmb : UEmb _ 𝕄) (stCore Vl d c) := by
  unfold stCore; infer_instance
instance dnCore_storable (d : Dev nD) (c : Fin 2) : BI.Storable (upEmb : UEmb _ 𝕄) (dnCore Vl d c) := by
  unfold dnCore; infer_instance

instance P_storable : (P Vl).IsStorable where
  st q d c := match q with | 0 => (inferInstance : BI.Storable (upEmb : UEmb _ 𝕄) (stCore Vl d (Fin.cast nCore_zero c)))
  dn q d c := match q with | 0 => (inferInstance : BI.Storable (upEmb : UEmb _ 𝕄) (dnCore Vl d (Fin.cast nCore_zero c)))
  go q d c i := match q with | 0 => (inferInstance : BI.Storable (upEmb : UEmb _ 𝕄) (goTile Vl d (Fin.cast nCore_zero c) (Fin.cast nSub_zero i)))
  td q d c i := match q with | 0 => (inferInstance : BI.Storable (upEmb : UEmb _ 𝕄) (tdTile Vl d (Fin.cast nCore_zero c) (Fin.cast nSub_zero i)))

/-- The valuation's segment words name segments below 64. -/
def SegOk : Prop := ∀ (d : Dev nD) (L : grid0.Coords), (srcs Vl d L).Ok

/-- What a task leaves, as the launch asks for it. -/
theorem task_post {thr : Thread nD τ} {A A' B C : sProp 𝕄} (hA : A ⊢ A') {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

theorem goTile_eq (d : Dev nD) (c : Fin 2) (i : Fin 16) : goTile Vl d c i ⊢
    iprop(Shares d (tileAt c i) (Transfers.shareTok (Transfers.shareTok fullShare 2 c) 16 i) (srcs Vl d (tileAt c i))
      ∗ WShares d (tileAt c i) (Transfers.shareTok (Transfers.shareTok fullShare 2 c) 16 i) (wts Vl d (tileAt c i)) ∗ OutAny (F := F) d (tileAt c i)) := by
  unfold goTile
  iintro ⟨HI, HO⟩
  ihave H := (inShares_tile Vl _ d (tileAt c i)).1 $$ HI
  icases H with ⟨H1, H2⟩
  isplitl [H1]; · iexact H1
  isplitl [H2]; · iexact H2
  iexact HO

theorem tdTile_eq (d : Dev nD) (c : Fin 2) (i : Fin 16) :
    iprop(Shares d (tileAt c i) (Transfers.shareTok (Transfers.shareTok fullShare 2 c) 16 i) (srcs Vl d (tileAt c i))
      ∗ WShares d (tileAt c i) (Transfers.shareTok (Transfers.shareTok fullShare 2 c) 16 i) (wts Vl d (tileAt c i))
      ∗ OutIs d (tileAt c i) ((srcs Vl d (tileAt c i)).result (wts Vl d (tileAt c i)))) ⊢ tdTile Vl d c i := by
  unfold tdTile tileOut
  iintro ⟨H1, H2, HO⟩
  isplitl [H1 H2]
  · iapply (inShares_tile Vl _ d (tileAt c i)).2
    isplitl [H1]; · iexact H1
    iexact H2
  iexact HO

/-- A tile's task does what the launch asks of it. -/
theorem tileObl (hok : SegOk Vl) : (K (F := F)).TileObl (D (F := F)) 𝒱 (P Vl) v₀ 0 := by
  intro d c i O W hO _ _
  simp only [show (P Vl).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel (pcfgs (F := F)) defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  have key := tile_body (F := F) d (tileAt (Fin.cast nCore_zero c) (Fin.cast nSub_zero i))
    (Transfers.shareTok (Transfers.shareTok fullShare 2 (Fin.cast nCore_zero c)) 16 (Fin.cast nSub_zero i))
    (Transfers.shareTok (Transfers.shareTok fullShare 2 (Fin.cast nCore_zero c)) 16 (Fin.cast nSub_zero i))
    (hok d _) (w := wts Vl d _) O W hO
  refine BI.Entails.trans ?_ (key.trans (wp_mono frame _ _ fun _ => task_post (q := 0) (tdTile_eq Vl d _ _)))
  rw [show (P Vl).go 0 d c i = goTile Vl d (Fin.cast nCore_zero c) (Fin.cast nSub_zero i) from rfl]
  show _ ⊢ (_ : sProp 𝕄)
  iintro ⟨Hlv, -, Hgo, HB, HS, HO⟩
  isplitl [Hlv]; · iexact Hlv
  isplitl [Hgo]
  · iapply (goTile_eq Vl d (Fin.cast nCore_zero c) (Fin.cast nSub_zero i)); iexact Hgo
  isplitl [HB]; · iexact HB
  isplitl [HS]; · iexact HS
  iexact HO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core deals its tiles what it was handed, and gathers what they hand back. -/
theorem vecSplit : (K (F := F)).VecSplit' (P Vl) 0 := by
  intro d c
  show stCore Vl d (Fin.cast nCore_zero c) ⊢ |={Set.univ}=> iprop((bigSep Finset.univ fun i : Fin ((K (F := F)).nSub 0) => goTile Vl d (Fin.cast nCore_zero c) (Fin.cast nSub_zero i))
      ∗ ((bigSep Finset.univ fun i : Fin ((K (F := F)).nSub 0) => tdTile Vl d (Fin.cast nCore_zero c) (Fin.cast nSub_zero i)) -∗ dnCore Vl d (Fin.cast nCore_zero c)))
  generalize Fin.cast nCore_zero c = c'
  rw [bigSep_tasks (goTile Vl d c'), bigSep_tasks (tdTile Vl d c')]
  unfold stCore dnCore goTile tdTile
  rw [bigSep_sep', bigSep_sep']
  iintro ⟨HI, HO⟩
  ihave H := (inShares_toks Vl (Transfers.shareTok fullShare 2 c') 16 d).1 $$ HI
  icases H with ⟨HD, HT⟩
  imodintro
  isplitl [HT HO]
  · isplitl [HT]; · iexact HT
    iexact HO
  iintro ⟨HT, HO⟩
  isplitl [HD HT]
  · iapply (inShares_toks Vl (Transfers.shareTok fullShare 2 c') 16 d).2
    isplitl [HD]; · iexact HD
    iexact HT
  iexact HO

end Payloads

end Cert.Proof.Pool
-- ==== Proof.Blocks.lean ====
/- The blocks of the results that the tiles write, dealt out and gathered again. -/
module

public import proofs.«01_k».proof.Proof.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## The blocks the tiles write -/

/-- What a memref's elements hold, given back as the buffer that reads so. -/
theorem own_of_read (d : Dev nD) (L : grid0.Coords) {sp : Space} {s : Shape} {e : EltTy} (m : Memref sig .scVector sp s e) (g : Buf (Elt F) (m.view.loc (th d L)))
    {X : s.Idx → Elt F e} (h : m.view.read (Elt F) g = X) :
    Own d L m X ⊢ (m.view.loc (th d L) ↦[m.view.set]{fullShare} g : sProp 𝕄) := by
  subst h
  unfold Own
  iintro ⟨%f, %hf, H⟩
  have e : (m.view.loc (th d L) ↦[m.view.set]{fullShare} f : sProp 𝕄) = (m.view.loc (th d L) ↦[m.view.set]{fullShare} g) := by
    refine pointsTo_congr fun i hi => ?_
    obtain ⟨j, -, rfl⟩ := Finset.mem_map.mp hi
    have := congrFun hf j
    rw [View.read_apply, View.read_apply] at this
    exact (cast_inj _).mp this
  rw [← e]
  iexact H

/-- The buffer's elements, given as a memref's. -/
theorem own_intro (d : Dev nD) (L : grid0.Coords) {sp : Space} {s : Shape} {e : EltTy} (m : Memref sig .scVector sp s e) (g : Buf (Elt F) (m.view.loc (th d L))) :
    (m.view.loc (th d L) ↦[m.view.set]{fullShare} g : sProp 𝕄) ⊢ iprop(∃ X, Own d L m X) := by
  unfold Own
  iintro H
  iexists _, g
  isplitr
  · ipureintro; rfl
  · iexact H

/-- Thirty-two blocks of `n` elements as one array: block `2 * i + c` is core `c`'s subcore `i`'s. -/
def flat {N n : ℕ} (hn : 0 < n) (Y : Fin 2 → Fin 16 → (⟨1, ![n]⟩ : Shape).Idx → Elt F .f32) : (⟨1, ![N]⟩ : Shape).Idx → Elt F .f32 :=
  fun x => Y ⟨(x 0).val / n % 2, Nat.mod_lt _ (by decide)⟩ ⟨(x 0).val / n / 2 % 16, Nat.mod_lt _ (by decide)⟩ (ix1 ⟨(x 0).val % n, Nat.mod_lt _ hn⟩)

/-- A block of it is the tile's. -/
theorem flat_block {N n : ℕ} (hn : 0 < n) (Y : Fin 2 → Fin 16 → (⟨1, ![n]⟩ : Shape).Idx → Elt F .f32) (c : Fin 2) (i : Fin 16) (x : (⟨1, ![N]⟩ : Shape).Idx) (j : (⟨1, ![n]⟩ : Shape).Idx)
    (hx : (x 0).val = n * (2 * i.val + c.val) + (j 0).val) : flat hn Y x = Y c i j := by
  have hj : (j 0).val < n := (j 0).isLt
  have hc := c.isLt
  have hi := i.isLt
  have h1 : (x 0).val / n = 2 * i.val + c.val := by
    rw [hx, Nat.mul_add_div hn, Nat.div_eq_of_lt hj, Nat.add_zero]
  have h2 : (x 0).val % n = (j 0).val := by
    rw [hx, Nat.mul_add_mod, Nat.mod_eq_of_lt hj]
  unfold flat
  have e1 : (⟨(x 0).val / n % 2, Nat.mod_lt _ (by decide)⟩ : Fin 2) = c := Fin.ext (by simp only [h1]; omega)
  have e2 : (⟨(x 0).val / n / 2 % 16, Nat.mod_lt _ (by decide)⟩ : Fin 16) = i := Fin.ext (by simp only [h1]; omega)
  have e3 : (ix1 ⟨(x 0).val % n, Nat.mod_lt _ hn⟩ : (⟨1, ![n]⟩ : Shape).Idx) = j := by
    funext a; obtain rfl := Subsingleton.elim a 0; exact Fin.ext h2
  rw [e1, e2, e3]

/-- The elements of core `c`'s subcore `i`'s block of sums. -/
abbrev blockN (p : Fin 2 × Fin 16) : Finset S524288.Idx := (Rect.unit (s := S524288) (k0_off83 (tileAt p.1 p.2)) S16384.size (k0_off83_inb (tileAt p.1 p.2))).set
/-- The elements of its block of denominators. -/
abbrev blockD (p : Fin 2 × Fin 16) : Finset S32768.Idx := (Rect.unit (s := S32768) (k0_off84 (tileAt p.1 p.2)) S1024.size (k0_off84_inb (tileAt p.1 p.2))).set

theorem off83_tile (p : Fin 2 × Fin 16) : k0_off83 (tileAt p.1 p.2) 0 = 16384 * (2 * p.2.val + p.1.val) := by
  rw [k0_off83_eq]
  show 32768 * p.2.val + 16384 * p.1.val = _
  omega
theorem off84_tile (p : Fin 2 × Fin 16) : k0_off84 (tileAt p.1 p.2) 0 = 1024 * (2 * p.2.val + p.1.val) := by
  rw [k0_off84_eq]
  show 2048 * p.2.val + 1024 * p.1.val = _
  omega

theorem mem_blockN (p : Fin 2 × Fin 16) (x : S524288.Idx) : x ∈ blockN p ↔ 16384 * (2 * p.2.val + p.1.val) ≤ (x 0).val ∧ (x 0).val < 16384 * (2 * p.2.val + p.1.val) + 16384 := by
  unfold blockN
  rw [Rect.mem_set_unit]
  constructor
  · intro h; have := h 0; rw [off83_tile] at this; exact this
  · intro h a; obtain rfl := Subsingleton.elim a 0; rw [off83_tile]; exact h
theorem mem_blockD (p : Fin 2 × Fin 16) (x : S32768.Idx) : x ∈ blockD p ↔ 1024 * (2 * p.2.val + p.1.val) ≤ (x 0).val ∧ (x 0).val < 1024 * (2 * p.2.val + p.1.val) + 1024 := by
  unfold blockD
  rw [Rect.mem_set_unit]
  constructor
  · intro h; have := h 0; rw [off84_tile] at this; exact this
  · intro h a; obtain rfl := Subsingleton.elim a 0; rw [off84_tile]; exact h

theorem pair_ext {p p' : Fin 2 × Fin 16} (h : 2 * p.2.val + p.1.val = 2 * p'.2.val + p'.1.val) : p = p' := by
  have h1 := p.1.isLt
  have h2 := p'.1.isLt
  exact Prod.ext (Fin.ext (by omega)) (Fin.ext (by omega))

theorem blockN_disjoint : ∀ p ∈ (Finset.univ : Finset (Fin 2 × Fin 16)), ∀ p' ∈ (Finset.univ : Finset (Fin 2 × Fin 16)), p ≠ p' → Disjoint (blockN p) (blockN p') := by
  intro p _ p' _ hne
  refine Finset.disjoint_left.mpr fun x hx hx' => hne (pair_ext ?_)
  have h1 := (mem_blockN p x).mp hx
  have h2 := (mem_blockN p' x).mp hx'
  omega
theorem blockD_disjoint : ∀ p ∈ (Finset.univ : Finset (Fin 2 × Fin 16)), ∀ p' ∈ (Finset.univ : Finset (Fin 2 × Fin 16)), p ≠ p' → Disjoint (blockD p) (blockD p') := by
  intro p _ p' _ hne
  refine Finset.disjoint_left.mpr fun x hx hx' => hne (pair_ext ?_)
  have h1 := (mem_blockD p x).mp hx
  have h2 := (mem_blockD p' x).mp hx'
  omega
theorem blockN_cover : (Finset.univ : Finset (Fin 2 × Fin 16)).biUnion blockN = Finset.univ := by
  refine Finset.eq_univ_iff_forall.mpr fun x => Finset.mem_biUnion.mpr ?_
  have hx : (x 0).val < 524288 := (x 0).isLt
  refine ⟨(⟨(x 0).val / 16384 % 2, Nat.mod_lt _ (by decide)⟩, ⟨(x 0).val / 16384 / 2, by omega⟩), Finset.mem_univ _, (mem_blockN _ x).mpr ?_⟩
  show 16384 * (2 * ((x 0).val / 16384 / 2) + (x 0).val / 16384 % 2) ≤ _ ∧ _ < 16384 * (2 * ((x 0).val / 16384 / 2) + (x 0).val / 16384 % 2) + 16384
  omega
theorem blockD_cover : (Finset.univ : Finset (Fin 2 × Fin 16)).biUnion blockD = Finset.univ := by
  refine Finset.eq_univ_iff_forall.mpr fun x => Finset.mem_biUnion.mpr ?_
  have hx : (x 0).val < 32768 := (x 0).isLt
  refine ⟨(⟨(x 0).val / 1024 % 2, Nat.mod_lt _ (by decide)⟩, ⟨(x 0).val / 1024 / 2, by omega⟩), Finset.mem_univ _, (mem_blockD _ x).mpr ?_⟩
  show 1024 * (2 * ((x 0).val / 1024 / 2) + (x 0).val / 1024 % 2) ≤ _ ∧ _ < 1024 * (2 * ((x 0).val / 1024 / 2) + (x 0).val / 1024 % 2) + 1024
  omega

/-- Elements of a flat array of sums. -/
theorem n1_split (d : Dev nD) (f : Buf (Elt F) ((SparseCore.T d : Thread nD τ).loc main_v2_0)) :
    ((SparseCore.T d : Thread nD τ).loc main_v2_0 ↦{fullShare} f : sProp 𝕄) = bigSep Finset.univ fun c : Fin 2 => bigSep Finset.univ fun i : Fin 16 =>
      (outN (tileAt c i) hN1).view.loc (th d (tileAt c i)) ↦[(outN (tileAt c i) hN1).view.set]{fullShare} f := by
  rw [← bigSep_univ_prod (fun p : Fin 2 × Fin 16 => ((outN (tileAt p.1 p.2) hN1).view.loc (th d (tileAt p.1 p.2)) ↦[(outN (tileAt p.1 p.2) hN1).view.set]{fullShare} f : sProp 𝕄))]
  refine Eq.trans ?_ (Eq.trans (pointsTo_biUnion (ℓ := (SparseCore.T d : Thread nD τ).loc main_v2_0) (f := f) (q := fullShare) Finset.univ blockN blockN_disjoint) ?_)
  · rw [blockN_cover]
  · refine bigSep_congr fun p _ => ?_
    rw [show (outN (tileAt p.1 p.2) hN1).view.set = blockN p from View.set_slice_whole _ _]
theorem n2_split (d : Dev nD) (f : Buf (Elt F) ((SparseCore.T d : Thread nD τ).loc main_v2_2)) :
    ((SparseCore.T d : Thread nD τ).loc main_v2_2 ↦{fullShare} f : sProp 𝕄) = bigSep Finset.univ fun c : Fin 2 => bigSep Finset.univ fun i : Fin 16 =>
      (outN (tileAt c i) hN2).view.loc (th d (tileAt c i)) ↦[(outN (tileAt c i) hN2).view.set]{fullShare} f := by
  rw [← bigSep_univ_prod (fun p : Fin 2 × Fin 16 => ((outN (tileAt p.1 p.2) hN2).view.loc (th d (tileAt p.1 p.2)) ↦[(outN (tileAt p.1 p.2) hN2).view.set]{fullShare} f : sProp 𝕄))]
  refine Eq.trans ?_ (Eq.trans (pointsTo_biUnion (ℓ := (SparseCore.T d : Thread nD τ).loc main_v2_2) (f := f) (q := fullShare) Finset.univ blockN blockN_disjoint) ?_)
  · rw [blockN_cover]
  · refine bigSep_congr fun p _ => ?_
    rw [show (outN (tileAt p.1 p.2) hN2).view.set = blockN p from View.set_slice_whole _ _]
theorem d1_split (d : Dev nD) (f : Buf (Elt F) ((SparseCore.T d : Thread nD τ).loc main_v2_1)) :
    ((SparseCore.T d : Thread nD τ).loc main_v2_1 ↦{fullShare} f : sProp 𝕄) = bigSep Finset.univ fun c : Fin 2 => bigSep Finset.univ fun i : Fin 16 =>
      (outD (tileAt c i) hD1).view.loc (th d (tileAt c i)) ↦[(outD (tileAt c i) hD1).view.set]{fullShare} f := by
  rw [← bigSep_univ_prod (fun p : Fin 2 × Fin 16 => ((outD (tileAt p.1 p.2) hD1).view.loc (th d (tileAt p.1 p.2)) ↦[(outD (tileAt p.1 p.2) hD1).view.set]{fullShare} f : sProp 𝕄))]
  refine Eq.trans ?_ (Eq.trans (pointsTo_biUnion (ℓ := (SparseCore.T d : Thread nD τ).loc main_v2_1) (f := f) (q := fullShare) Finset.univ blockD blockD_disjoint) ?_)
  · rw [blockD_cover]
  · refine bigSep_congr fun p _ => ?_
    rw [show (outD (tileAt p.1 p.2) hD1).view.set = blockD p from View.set_slice_whole _ _]
theorem d2_split (d : Dev nD) (f : Buf (Elt F) ((SparseCore.T d : Thread nD τ).loc main_v2_3)) :
    ((SparseCore.T d : Thread nD τ).loc main_v2_3 ↦{fullShare} f : sProp 𝕄) = bigSep Finset.univ fun c : Fin 2 => bigSep Finset.univ fun i : Fin 16 =>
      (outD (tileAt c i) hD2).view.loc (th d (tileAt c i)) ↦[(outD (tileAt c i) hD2).view.set]{fullShare} f := by
  rw [← bigSep_univ_prod (fun p : Fin 2 × Fin 16 => ((outD (tileAt p.1 p.2) hD2).view.loc (th d (tileAt p.1 p.2)) ↦[(outD (tileAt p.1 p.2) hD2).view.set]{fullShare} f : sProp 𝕄))]
  refine Eq.trans ?_ (Eq.trans (pointsTo_biUnion (ℓ := (SparseCore.T d : Thread nD τ).loc main_v2_3) (f := f) (q := fullShare) Finset.univ blockD blockD_disjoint) ?_)
  · rw [blockD_cover]
  · refine bigSep_congr fun p _ => ?_
    rw [show (outD (tileAt p.1 p.2) hD2).view.set = blockD p from View.set_slice_whole _ _]

/-- What the four arrays of partial results hold when tile `(c, i)` leaves `C c i`. -/
abbrev sums1 (C : Fin 2 → Fin 16 → Acc F) : S524288.Idx → Elt F .f32 := flat (by decide) fun c i => (C c i).n1
abbrev dens1 (C : Fin 2 → Fin 16 → Acc F) : S32768.Idx → Elt F .f32 := flat (by decide) fun c i => (C c i).d1
abbrev sums2 (C : Fin 2 → Fin 16 → Acc F) : S524288.Idx → Elt F .f32 := flat (by decide) fun c i => (C c i).n2
abbrev dens2 (C : Fin 2 → Fin 16 → Acc F) : S32768.Idx → Elt F .f32 := flat (by decide) fun c i => (C c i).d2

theorem block_n1 (d : Dev nD) (C : Fin 2 → Fin 16 → Acc F) (c : Fin 2) (i : Fin 16) :
    (outN (tileAt c i) hN1).view.read (Elt F) (sums1 C : Buf (Elt F) ((outN (tileAt c i) hN1).view.loc (th d (tileAt c i)))) = (C c i).n1 := by
  funext j
  rw [View.read_apply]
  refine (cast_eq _ _).trans (flat_block (F := F) (N := 524288) (n := 16384) (by decide) (fun c i => (C c i).n1) c i _ j ?_)
  show k0_off83 (tileAt c i) 0 + 1 * (j 0).val = _
  rw [off83_tile (c, i), Nat.one_mul]
theorem block_n2 (d : Dev nD) (C : Fin 2 → Fin 16 → Acc F) (c : Fin 2) (i : Fin 16) :
    (outN (tileAt c i) hN2).view.read (Elt F) (sums2 C : Buf (Elt F) ((outN (tileAt c i) hN2).view.loc (th d (tileAt c i)))) = (C c i).n2 := by
  funext j
  rw [View.read_apply]
  refine (cast_eq _ _).trans (flat_block (F := F) (N := 524288) (n := 16384) (by decide) (fun c i => (C c i).n2) c i _ j ?_)
  show k0_off83 (tileAt c i) 0 + 1 * (j 0).val = _
  rw [off83_tile (c, i), Nat.one_mul]
theorem block_d1 (d : Dev nD) (C : Fin 2 → Fin 16 → Acc F) (c : Fin 2) (i : Fin 16) :
    (outD (tileAt c i) hD1).view.read (Elt F) (dens1 C : Buf (Elt F) ((outD (tileAt c i) hD1).view.loc (th d (tileAt c i)))) = (C c i).d1 := by
  funext j
  rw [View.read_apply]
  refine (cast_eq _ _).trans (flat_block (F := F) (N := 32768) (n := 1024) (by decide) (fun c i => (C c i).d1) c i _ j ?_)
  show k0_off84 (tileAt c i) 0 + 1 * (j 0).val = _
  rw [off84_tile (c, i), Nat.one_mul]
theorem block_d2 (d : Dev nD) (C : Fin 2 → Fin 16 → Acc F) (c : Fin 2) (i : Fin 16) :
    (outD (tileAt c i) hD2).view.read (Elt F) (dens2 C : Buf (Elt F) ((outD (tileAt c i) hD2).view.loc (th d (tileAt c i)))) = (C c i).d2 := by
  funext j
  rw [View.read_apply]
  refine (cast_eq _ _).trans (flat_block (F := F) (N := 32768) (n := 1024) (by decide) (fun c i => (C c i).d2) c i _ j ?_)
  show k0_off84 (tileAt c i) 0 + 1 * (j 0).val = _
  rw [off84_tile (c, i), Nat.one_mul]

/-- The four arrays, dealt to the tiles. -/
theorem outs_deal (d : Dev nD) (f1 : Buf (Elt F) ((SparseCore.T d : Thread nD τ).loc main_v2_0)) (g1 : Buf (Elt F) ((SparseCore.T d : Thread nD τ).loc main_v2_1))
    (f2 : Buf (Elt F) ((SparseCore.T d : Thread nD τ).loc main_v2_2)) (g2 : Buf (Elt F) ((SparseCore.T d : Thread nD τ).loc main_v2_3)) :
    iprop(((SparseCore.T d : Thread nD τ).loc main_v2_0 ↦{fullShare} f1) ∗ ((SparseCore.T d : Thread nD τ).loc main_v2_1 ↦{fullShare} g1)
        ∗ ((SparseCore.T d : Thread nD τ).loc main_v2_2 ↦{fullShare} f2) ∗ ((SparseCore.T d : Thread nD τ).loc main_v2_3 ↦{fullShare} g2))
      ⊢ (bigSep Finset.univ fun c : Fin 2 => bigSep Finset.univ fun i : Fin 16 => OutAny (F := F) d (tileAt c i) : sProp 𝕄) := by
  rw [n1_split, d1_split, n2_split, d2_split]
  unfold OutAny
  simp only [bigSep_sep']
  refine BI.sep_mono ?_ (BI.sep_mono ?_ (BI.sep_mono ?_ ?_))
  · exact bigSep_mono fun c _ => bigSep_mono fun i _ => own_intro d (tileAt c i) (outN (tileAt c i) hN1) f1
  · exact bigSep_mono fun c _ => bigSep_mono fun i _ => own_intro d (tileAt c i) (outD (tileAt c i) hD1) g1
  · exact bigSep_mono fun c _ => bigSep_mono fun i _ => own_intro d (tileAt c i) (outN (tileAt c i) hN2) f2
  · exact bigSep_mono fun c _ => bigSep_mono fun i _ => own_intro d (tileAt c i) (outD (tileAt c i) hD2) g2

/-- The four arrays, gathered from the tiles. -/
theorem outs_gather (d : Dev nD) (C : Fin 2 → Fin 16 → Acc F) :
    (bigSep Finset.univ fun c : Fin 2 => bigSep Finset.univ fun i : Fin 16 => OutIs d (tileAt c i) (C c i) : sProp 𝕄)
      ⊢ iprop(((SparseCore.T d : Thread nD τ).loc main_v2_0 ↦{fullShare} (sums1 C : Buf (Elt F) ((SparseCore.T d : Thread nD τ).loc main_v2_0)))
        ∗ ((SparseCore.T d : Thread nD τ).loc main_v2_1 ↦{fullShare} (dens1 C : Buf (Elt F) ((SparseCore.T d : Thread nD τ).loc main_v2_1)))
        ∗ ((SparseCore.T d : Thread nD τ).loc main_v2_2 ↦{fullShare} (sums2 C : Buf (Elt F) ((SparseCore.T d : Thread nD τ).loc main_v2_2)))
        ∗ ((SparseCore.T d : Thread nD τ).loc main_v2_3 ↦{fullShare} (dens2 C : Buf (Elt F) ((SparseCore.T d : Thread nD τ).loc main_v2_3)))) := by
  rw [n1_split, d1_split, n2_split, d2_split]
  unfold OutIs
  simp only [bigSep_sep']
  refine BI.sep_mono ?_ (BI.sep_mono ?_ (BI.sep_mono ?_ ?_))
  · exact bigSep_mono fun c _ => bigSep_mono fun i _ => own_of_read d (tileAt c i) (outN (tileAt c i) hN1) _ (block_n1 d C c i)
  · exact bigSep_mono fun c _ => bigSep_mono fun i _ => own_of_read d (tileAt c i) (outD (tileAt c i) hD1) _ (block_d1 d C c i)
  · exact bigSep_mono fun c _ => bigSep_mono fun i _ => own_of_read d (tileAt c i) (outN (tileAt c i) hN2) _ (block_n2 d C c i)
  · exact bigSep_mono fun c _ => bigSep_mono fun i _ => own_of_read d (tileAt c i) (outD (tileAt c i) hD2) _ (block_d2 d C c i)

end Cert.Proof.Pool
-- ==== Proof.Bodies.lean ====
/- The two kernels of the TensorCore, run on memrefs that are whole their own. -/
module

public import proofs.«01_k».proof.Proof.Blocks

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
/-- Programs of the TensorCore's kernels. -/
abbrev TCP (F : FTy → Type) [FloatOps F] (α : Type) : Type 1 := Prog (TpuEff nD τ sig (Elt F) Λ₀ .tc) α

/-- The weakest precondition of a TensorCore kernel's program. -/
abbrev WT (d : Dev nD) {α : Type} (p : TCP F α) (Q : α → sProp 𝕄) : sProp 𝕄 :=
  wp frame (wpE (defs₀ (F := F)) 𝒱₀ (SparseCore.T d : Thread nD τ) none) Set.univ p Q

/-- `X` is what the TensorCore reads through the memref, which is whole its own. -/
abbrev Held (d : Dev nD) {sp : Space} {s : Shape} {e : EltTy} (m : Memref sig .tc sp s e) (X : s.Idx → Elt F e) : sProp 𝕄 :=
  owns (SparseCore.T d : Thread nD τ) m fullShare X

/-- A load of the whole of a memref reads what it holds. -/
theorem held_load (d : Dev nD) {cs : CoreSpace} {s : Shape} {e : EltTy} {m : Memref sig .tc cs s e} {X : s.Idx → Elt F e} {off : Fin s.rank → ℕ}
    {inb : ∀ a, off a + s.size a ≤ s.size a} {hl : m.view.LoadsAt (Rect.unit (s := s) off s.size inb).toLoadRect} {α : Type}
    {k : (s.Idx → Elt F e) → TCP F α} {Q : α → sProp 𝕄} :
    Held d m X ⊢ iprop((Held d m X -∗ WT d (k X) Q) -∗ WT d (.op (.load m (Rect.unit (s := s) off s.size inb).toLoadRect hl) k) Q) := by
  unfold Held owns
  iintro ⟨%f, %hf, H⟩ Hk
  iapply (wp_load_rect 𝒱₀ (SparseCore.T d : Thread nD τ) none Set.univ (m := m) (r := Rect.unit (s := s) off s.size inb) (S := m.view.set) (q := fullShare)
    (View.set_slice_subset m.view _)) $$ H
  iintro H
  rw [show (m.access (Rect.unit (s := s) off s.size inb)).read (Elt F) f = X from by
    rw [← hf]
    funext x
    show m.view.read (Elt F) f ((Rect.unit (s := s) off s.size inb).emb x) = _
    congr 1
    funext a
    refine Fin.ext ?_
    have h := inb a
    show off a + 1 * (x a).val = (x a).val
    omega]
  iapply Hk
  iexists f
  isplitr
  · ipureintro; exact hf
  · iexact H

/-- A store of the whole of a memref leaves in it what is stored. -/
theorem held_store (d : Dev nD) {cs : CoreSpace} {s : Shape} {e : EltTy} {m : Memref sig .tc cs s e} {X : s.Idx → Elt F e} {off : Fin s.rank → ℕ}
    {inb : ∀ a, off a + s.size a ≤ s.size a} {w : s.Idx → Elt F e}
    {hx : (m.access (Rect.unit (s := s) off s.size inb)).Stores Finset.univ} {hm : Finset.univ = Finset.univ ∨ ∀ a, (Rect.unit (s := s) off s.size inb).stride a = 1} {α : Type}
    {k : PUnit → TCP F α} {Q : α → sProp 𝕄} :
    Held d m X ⊢ iprop((Held d m w -∗ WT d (k ⟨⟩) Q) -∗ WT d (.op (.store m (Rect.unit (s := s) off s.size inb) w Finset.univ hx hm) k) Q) := by
  unfold Held owns
  iintro ⟨%f, %hf, H⟩ Hk
  iapply (wp_store 𝒱₀ (SparseCore.T d : Thread nD τ) none Set.univ (m := m) (r := Rect.unit (s := s) off s.size inb) (w := w) (Mk := Finset.univ) (S := m.view.set)
    (View.set_slice_subset m.view _)) $$ H
  iintro H
  iapply Hk
  iexists _
  isplitr
  rotate_left
  · iexact H
  · ipureintro
    funext y
    have hy : (Rect.unit (s := s) off s.size inb).emb y = y := by
      funext a
      refine Fin.ext ?_
      have h := inb a
      show off a + 1 * (y a).val = (y a).val
      omega
    have h := View.read_slice_write_emb (v := m.view) (Rect.unit (s := s) off s.size inb) f w (Finset.mem_univ y)
    rw [hy] at h
    exact h

/-- A program that has returned has run. -/
theorem held_ret (d : Dev nD) (Q : PUnit → sProp 𝕄) : Q ⟨⟩ ⊢ WT d (Prog.ret PUnit.unit) Q := by
  unfold WT
  iintro H
  sl_step
  iexact H

/-- The attention of the two pools over the query: what `_att_body` computes of its five arrays. -/
def attVal (q : Vec F S64x256 .f32) (n1 : Vec F S32x64x256 .f32) (d1 : Vec F S32x64x16 .f32) (n2 : Vec F S32x64x256 .f32) (d2 : Vec F S32x64x16 .f32) : FVec F S64x2 .f32 :=
  k1_pay1 (k1_pay4 q n2 d2) (k1_pay5 q n1 n2 d1 d2) (k1_pay6 q n1 n2 d1 d2)

/-- `_att_body` leaves the attention of its five arrays in its sixth. -/
theorem att_run (d : Dev nD) (M0 : Memref sig .tc .vmem S64x256 .f32) (h0 : M0.IsWhole) (M1 : Memref sig .tc .vmem S32x64x256 .f32) (h1 : M1.IsWhole)
    (M2 : Memref sig .tc .vmem S32x64x16 .f32) (h2 : M2.IsWhole) (M3 : Memref sig .tc .vmem S32x64x256 .f32) (h3 : M3.IsWhole)
    (M4 : Memref sig .tc .vmem S32x64x16 .f32) (h4 : M4.IsWhole) (M5 : Memref sig .tc .vmem S64x2 .f32) (h5 : M5.IsWhole)
    (q : Vec F S64x256 .f32) (n1 : Vec F S32x64x256 .f32) (d1 : Vec F S32x64x16 .f32) (n2 : Vec F S32x64x256 .f32) (d2 : Vec F S32x64x16 .f32) (o : Vec F S64x2 .f32)
    (Q : PUnit → sProp 𝕄) :
    iprop(Held d M0 q ∗ Held d M1 n1 ∗ Held d M2 d1 ∗ Held d M3 n2 ∗ Held d M4 d2 ∗ Held d M5 o
        ∗ ((Held d M0 q ∗ Held d M1 n1 ∗ Held d M2 d1 ∗ Held d M3 n2 ∗ Held d M4 d2 ∗ Held d M5 (attVal q n1 d1 n2 d2)) -∗ Q ⟨⟩))
      ⊢ WT d (cc1__att_body M0 h0 M1 h1 M2 h2 M3 h3 M4 h4 M5 h5) Q := by
  rw [cc1__att_body_eq_skeleton]
  unfold cc1__att_body_skel
  rw [k1_part1_eq_skeleton]
  unfold k1_part1_skel
  simp only [bind_assoc, pure_bind]
  iintro ⟨H0, H1, H2, H3, H4, H5, Hk⟩
  iapply (held_load d) $$ H0; iintro H0
  iapply (held_load d) $$ H1; iintro H1
  iapply (held_load d) $$ H3; iintro H3
  iapply (held_load d) $$ H2; iintro H2
  iapply (held_load d) $$ H4; iintro H4
  iapply (held_load d) $$ H5; iintro H5
  iapply (held_store d) $$ H5; iintro H5
  iapply (held_ret d)
  iapply Hk
  isplitl [H0]; · iexact H0
  isplitl [H1]; · iexact H1
  isplitl [H2]; · iexact H2
  isplitl [H3]; · iexact H3
  isplitl [H4]; · iexact H4
  iexact H5

/-- `_mix_body` leaves in its fifth array each row of the two sources, mixed by the attention of the row's segment. -/
theorem mix_run (d : Dev nD) (i : grid2.Coords) (M0 : Memref sig .tc .vmem S1x1x5000 .i32) (h0 : M0.IsWhole) (M1 : Memref sig .tc .vmem S5000x256 .f32) (h1 : M1.IsWhole)
    (M2 : Memref sig .tc .vmem S5000x256 .f32) (h2 : M2.IsWhole) (M3 : Memref sig .tc .vmem S64x2 .f32) (h3 : M3.IsWhole)
    (M4 : Memref sig .tc .vmem S5000x256 .f32) (h4 : M4.IsWhole)
    (s : Vec F S1x1x5000 .i32) (x1 x2 : Vec F S5000x256 .f32) (a : Vec F S64x2 .f32) (o : Vec F S5000x256 .f32)
    (Q : PUnit → sProp 𝕄) :
    iprop(Held d M0 s ∗ Held d M1 x1 ∗ Held d M2 x2 ∗ Held d M3 a ∗ Held d M4 o
        ∗ ((Held d M0 s ∗ Held d M1 x1 ∗ Held d M2 x2 ∗ Held d M3 a ∗ Held d M4 (k2_pay1 s a x1 x2)) -∗ Q ⟨⟩))
      ⊢ WT d (cc2__mix_body i M0 h0 M1 h1 M2 h2 M3 h3 M4 h4) Q := by
  rw [cc2__mix_body_eq_skeleton]
  unfold cc2__mix_body_skel
  iintro ⟨H0, H1, H2, H3, H4, Hk⟩
  iapply (held_load d) $$ H0; iintro H0
  iapply (held_load d) $$ H3; iintro H3
  iapply (held_load d) $$ H1; iintro H1
  iapply (held_load d) $$ H2; iintro H2
  iapply (held_load d) $$ H4; iintro H4
  iapply (held_store d) $$ H4; iintro H4
  iapply (held_ret d)
  iapply Hk
  isplitl [H0]; · iexact H0
  isplitl [H1]; · iexact H1
  isplitl [H2]; · iexact H2
  isplitl [H3]; · iexact H3
  iexact H4

end Cert.Proof.Pool
-- ==== Proof.Regs.lean ====
/- The two kernels of the TensorCore as its program calls them: what they find, what they leave, and each as one step over the TensorCore's memory. -/
module

public import proofs.«01_k».proof.Proof.Bodies
public import proofs.«01_k».proof.Proof.Gen.KernelIdeal.Points
public import Idealize.ShloMosaic.Lib.Pipeline.RegionArraysS
public import Idealize.ShloMosaic.Lib.Pipeline.FrameBody
public import Idealize.ShloMosaic.Lib.Pipeline.Value

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
/-- There is one admissible table of prefetched words for each kernel: the empty one. -/
abbrev adm (p : Fin 2) : (pcfgs (F := F) p).Adm := (cfgs p).toPCfg_adm

/-- What the memory of the TensorCore holds, device by device. -/
abbrev Mem (F : FTy → Type) : Type := Dev nD → Valuation τ sig (Elt F)

open Idealize.ShloMosaic.Pipeline (Dat Cfg Window BodyObligation cellOf)

section Att

variable (Vl : Mem F) (d : Dev nD)

/-! ## What the windows of the attention's kernel hold -/

def a1_0 (t : Fin cfg1.N) : Vec F S64x256 .f32 := ((cfg1.win 0).blk t).view.read (Elt F) (Vl d (Proc.devRef .tc main_v9))
def a1_1 (t : Fin cfg1.N) : Vec F S32x64x256 .f32 := ((cfg1.win 1).blk t).view.read (Elt F) (Vl d (Proc.devRef .tc main_v3))
def a1_2 (t : Fin cfg1.N) : Vec F S32x64x16 .f32 := ((cfg1.win 2).blk t).view.read (Elt F) (Vl d (Proc.devRef .tc main_v4))
def a1_3 (t : Fin cfg1.N) : Vec F S32x64x256 .f32 := ((cfg1.win 3).blk t).view.read (Elt F) (Vl d (Proc.devRef .tc main_v5))
def a1_4 (t : Fin cfg1.N) : Vec F S32x64x16 .f32 := ((cfg1.win 4).blk t).view.read (Elt F) (Vl d (Proc.devRef .tc main_v6))

/-- The attention of what its windows hold. -/
def a1_5 (t : Fin cfg1.N) : Vec F S64x2 .f32 := attVal (a1_0 Vl d t) (a1_1 Vl d t) (a1_2 Vl d t) (a1_3 Vl d t) (a1_4 Vl d t)

/-- The attention's kernel: its arrays at the entry, and what its body leaves in its windows. -/
def dat1 : Dat τ (Elt F) (HIx 1) ℕ UU ℕ cfg1 d where
  A w := Vl d (Proc.devRef .tc (Pipeline.arrRef spec1 w))
  after w t := match w with
    | ⟨0, _⟩ => a1_0 Vl d t
    | ⟨1, _⟩ => a1_1 Vl d t
    | ⟨2, _⟩ => a1_2 Vl d t
    | ⟨3, _⟩ => a1_3 Vl d t
    | ⟨4, _⟩ => a1_4 Vl d t
    | ⟨5, _⟩ => a1_5 Vl d t
  Φ _ := Pipeline.scopedRest (Ix := HIx 1) (Name := ℕ) (U := UU) (Lvl := ℕ) (Val := Elt F) spec1 d
  q _ := fullShare
  owed _ := 0

theorem dat1_0 (t : Fin cfg1.N) (x) : (dat1 Vl d).before 0 t x = a1_0 Vl d t :=
  ((dat1 Vl d).before_fetched 0 t (fetch1_0 t) x).trans rfl
theorem dat1_1 (t : Fin cfg1.N) (x) : (dat1 Vl d).before 1 t x = a1_1 Vl d t :=
  ((dat1 Vl d).before_fetched 1 t (fetch1_1 t) x).trans rfl
theorem dat1_2 (t : Fin cfg1.N) (x) : (dat1 Vl d).before 2 t x = a1_2 Vl d t :=
  ((dat1 Vl d).before_fetched 2 t (fetch1_2 t) x).trans rfl
theorem dat1_3 (t : Fin cfg1.N) (x) : (dat1 Vl d).before 3 t x = a1_3 Vl d t :=
  ((dat1 Vl d).before_fetched 3 t (fetch1_3 t) x).trans rfl
theorem dat1_4 (t : Fin cfg1.N) (x) : (dat1 Vl d).before 4 t x = a1_4 Vl d t :=
  ((dat1 Vl d).before_fetched 4 t (fetch1_4 t) x).trans rfl

/-- The attention's body does at its point what its data say. -/
theorem obl1 : BodyObligation (dat1 Vl d) (defs₀ (F := F)) 𝒱₀ (none : HIx 1) Set.univ := fun t => by
  rw [bigSep_W1, bigSep_W1]
  rw [show (dat1 Vl d).Φ t.succ = (dat1 Vl d).Φ t.castSucc from rfl,
    show (dat1 Vl d).owesAt none t.succ = (dat1 Vl d).owesAt none t.castSucc from rfl]
  show _ ⊢ (WT d (bodyAt1 t) _ : sProp 𝕄)
  iintro ⟨HΦ, Ho, ⟨%x0, H0⟩, ⟨%x1, H1⟩, ⟨%x2, H2⟩, ⟨%x3, H3⟩, ⟨%x4, H4⟩, ⟨%x5, H5⟩⟩
  rw [dat1_0, dat1_1, dat1_2, dat1_3, dat1_4]
  iapply (att_run d _ _ _ _ _ _ _ _ _ _ _ _ (a1_0 Vl d t) (a1_1 Vl d t) (a1_2 Vl d t) (a1_3 Vl d t) (a1_4 Vl d t) ((dat1 Vl d).before 5 t x5))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## What the windows of the mix's kernel hold -/

def a2_0 (t : Fin cfg2.N) : Vec F S1x1x5000 .i32 := ((cfg2.win 0).blk t).view.read (Elt F) (Vl d (Proc.devRef .tc main_v11))
def a2_1 (t : Fin cfg2.N) : Vec F S5000x256 .f32 := ((cfg2.win 1).blk t).view.read (Elt F) (Vl d (Proc.devRef .tc main_arg1))
def a2_2 (t : Fin cfg2.N) : Vec F S5000x256 .f32 := ((cfg2.win 2).blk t).view.read (Elt F) (Vl d (Proc.devRef .tc main_arg2))
def a2_3 (t : Fin cfg2.N) : Vec F S64x2 .f32 := ((cfg2.win 3).blk t).view.read (Elt F) (Vl d (Proc.devRef .tc main_v10))

/-- The mix of what its windows hold. -/
def a2_4 (t : Fin cfg2.N) : Vec F S5000x256 .f32 := k2_pay1 (a2_0 Vl d t) (a2_3 Vl d t) (a2_1 Vl d t) (a2_2 Vl d t)

/-- The mix's kernel: its arrays at the entry, and what its body leaves in its windows. -/
def dat2 : Dat τ (Elt F) (HIx 1) ℕ UU ℕ cfg2 d where
  A w := Vl d (Proc.devRef .tc (Pipeline.arrRef spec2 w))
  after w t := match w with
    | ⟨0, _⟩ => a2_0 Vl d t
    | ⟨1, _⟩ => a2_1 Vl d t
    | ⟨2, _⟩ => a2_2 Vl d t
    | ⟨3, _⟩ => a2_3 Vl d t
    | ⟨4, _⟩ => a2_4 Vl d t
  Φ _ := Pipeline.scopedRest (Ix := HIx 1) (Name := ℕ) (U := UU) (Lvl := ℕ) (Val := Elt F) spec2 d
  q _ := fullShare
  owed _ := 0

theorem dat2_0 (t : Fin cfg2.N) (x) : (dat2 Vl d).before 0 t x = a2_0 Vl d t :=
  ((dat2 Vl d).before_fetched 0 t (fetch2_0 t) x).trans rfl
theorem dat2_1 (t : Fin cfg2.N) (x) : (dat2 Vl d).before 1 t x = a2_1 Vl d t :=
  ((dat2 Vl d).before_fetched 1 t (fetch2_1 t) x).trans rfl
theorem dat2_2 (t : Fin cfg2.N) (x) : (dat2 Vl d).before 2 t x = a2_2 Vl d t :=
  ((dat2 Vl d).before_fetched 2 t (fetch2_2 t) x).trans rfl
theorem dat2_3 (t : Fin cfg2.N) (x) : (dat2 Vl d).before 3 t x = a2_3 Vl d t :=
  ((dat2 Vl d).before_in_eq_fetched 3 rfl (fun _ => rfl) (fun _ _ _ => rfl) (fun _ => rfl) t x).trans rfl

/-- The mix's body does at each point what its data say. -/
theorem obl2 : BodyObligation (dat2 Vl d) (defs₀ (F := F)) 𝒱₀ (none : HIx 1) Set.univ := fun t => by
  rw [bigSep_W2, bigSep_W2]
  rw [show (dat2 Vl d).Φ t.succ = (dat2 Vl d).Φ t.castSucc from rfl,
    show (dat2 Vl d).owesAt none t.succ = (dat2 Vl d).owesAt none t.castSucc from rfl]
  show _ ⊢ (WT d (bodyAt2 t) _ : sProp 𝕄)
  iintro ⟨HΦ, Ho, ⟨%x0, H0⟩, ⟨%x1, H1⟩, ⟨%x2, H2⟩, ⟨%x3, H3⟩, ⟨%x4, H4⟩⟩
  rw [dat2_0, dat2_1, dat2_2, dat2_3]
  iapply (mix_run d _ _ _ _ _ _ _ _ _ _ _ (a2_0 Vl d t) (a2_1 Vl d t) (a2_2 Vl d t) (a2_3 Vl d t) ((dat2 Vl d).before 4 t x4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Att

/-! ## The two kernels over the TensorCore's memory -/

/-- The data of the two kernels, both from one memory at their entry. -/
def pdats (Vl : Mem F) : (p : Fin 2) → (d : Dev nD) → Dat τ (Elt F) (HIx 1) ℕ UU ℕ (Pipeline.pin (pcfgs (F := F)) adm p) d
  | ⟨0, _⟩ => dat1 Vl
  | ⟨1, _⟩ => dat2 Vl

/-- The kernels wait below everything a core could owe, and the TensorCore owes nothing. -/
theorem cut (p : Fin 2) : Pipeline.LevelCut (nD := nD) (τ := τ) (pcfgs (F := F)) adm (none : HIx 1) (K (F := F)).L (K (F := F)).lev p (fun _ => 0) (fun _ => 0) where
  hι _ _ _ := Finset.mem_univ _
  hιb _ _ _ := le_rfl
  hD _ _ _ h := absurd h (Nat.lt_irrefl 0)

/-- What the kernel keeps between its points is the memory of its own that it does not stage. -/
theorem in1 (Vl : Mem F) (d : Dev nD) :
    iprop(Pipeline.scopedRest (Ix := HIx 1) (Name := ℕ) (U := UU) (Lvl := ℕ) (Val := Elt F) spec1 d ∗ BI.emp) ⊢ (dat1 Vl d).Φ 0 := by
  rw [show (dat1 Vl d).Φ 0 = Pipeline.scopedRest (Ix := HIx 1) (Name := ℕ) (U := UU) (Lvl := ℕ) (Val := Elt F) spec1 d from rfl]
  iintro ⟨H, -⟩
  iexact H

theorem out1 (Vl : Mem F) (d : Dev nD) :
    (dat1 Vl d).Φ (Fin.last cfg1.N) ⊢ iprop(Pipeline.scopedRest (Ix := HIx 1) (Name := ℕ) (U := UU) (Lvl := ℕ) (Val := Elt F) spec1 d ∗ BI.emp) := by
  rw [show (dat1 Vl d).Φ (Fin.last cfg1.N) = Pipeline.scopedRest (Ix := HIx 1) (Name := ℕ) (U := UU) (Lvl := ℕ) (Val := Elt F) spec1 d from rfl]
  iintro H
  isplitl [H]
  · iexact H
  · iempintro

/-- The body's obligation at the data of both kernels. -/
theorem loose1 (Vl : Mem F) (d : Dev nD) : Pipeline.BodyObligationLoose (pdats Vl 0 d) (defs₀ (F := F)) 𝒱₀ (none : HIx 1) Set.univ :=
  Pipeline.BodyObligation.loose (dat := pdats Vl 0 d) (obl1 Vl d)

set_option backward.isDefEq.respectTransparency.types false in
/-- The attention's kernel, entered from the memory `Vl` and left with the memory its data say. -/
def reg1 (Vl : Mem F) : Pipeline.RegionSeg (pcfgs (F := F)) adm (pdats Vl) (none : HIx 1) defs₀ 𝒱₀ (K (F := F)).L (K (F := F)).lev 0 :=
  Pipeline.RegionSeg.ofHeldIn (pcfgs (F := F)) adm (pdats Vl) (none : HIx 1) defs₀ 𝒱₀ (K (F := F)).L (K (F := F)).lev 0 (fun _ => 0) (Pipeline.ucRefs τ sig)
    (fun _ => BI.emp) (fun _ => BI.emp) launch1.toP rfl (loose1 Vl) (fun _ _ => rfl) (fun _ => rfl)
    (fun d => (pdats Vl 0 d).share_full fun _ => rfl) (in1 Vl) (out1 Vl) (fun _ => 0) (cut 0) (fun _ => BI.emp) Vl (fun _ _ => rfl)

/-- What the kernel keeps between its points is the memory of its own that it does not stage. -/
theorem in2 (Vl : Mem F) (d : Dev nD) :
    iprop(Pipeline.scopedRest (Ix := HIx 1) (Name := ℕ) (U := UU) (Lvl := ℕ) (Val := Elt F) spec2 d ∗ BI.emp) ⊢ (dat2 Vl d).Φ 0 := by
  rw [show (dat2 Vl d).Φ 0 = Pipeline.scopedRest (Ix := HIx 1) (Name := ℕ) (U := UU) (Lvl := ℕ) (Val := Elt F) spec2 d from rfl]
  iintro ⟨H, -⟩
  iexact H

theorem out2 (Vl : Mem F) (d : Dev nD) :
    (dat2 Vl d).Φ (Fin.last cfg2.N) ⊢ iprop(Pipeline.scopedRest (Ix := HIx 1) (Name := ℕ) (U := UU) (Lvl := ℕ) (Val := Elt F) spec2 d ∗ BI.emp) := by
  rw [show (dat2 Vl d).Φ (Fin.last cfg2.N) = Pipeline.scopedRest (Ix := HIx 1) (Name := ℕ) (U := UU) (Lvl := ℕ) (Val := Elt F) spec2 d from rfl]
  iintro H
  isplitl [H]
  · iexact H
  · iempintro

/-- The body's obligation at the data of both kernels. -/
theorem loose2 (Vl : Mem F) (d : Dev nD) : Pipeline.BodyObligationLoose (pdats Vl 1 d) (defs₀ (F := F)) 𝒱₀ (none : HIx 1) Set.univ :=
  Pipeline.BodyObligation.loose (dat := pdats Vl 1 d) (obl2 Vl d)

set_option backward.isDefEq.respectTransparency.types false in
/-- The mix's kernel, entered from the memory `Vl` and left with the memory its data say. -/
def reg2 (Vl : Mem F) : Pipeline.RegionSeg (pcfgs (F := F)) adm (pdats Vl) (none : HIx 1) defs₀ 𝒱₀ (K (F := F)).L (K (F := F)).lev 1 :=
  Pipeline.RegionSeg.ofHeldIn (pcfgs (F := F)) adm (pdats Vl) (none : HIx 1) defs₀ 𝒱₀ (K (F := F)).L (K (F := F)).lev 1 (fun _ => 0) (Pipeline.ucRefs τ sig)
    (fun _ => BI.emp) (fun _ => BI.emp) launch2.toP rfl (loose2 Vl) (fun _ _ => rfl) (fun _ => rfl)
    (fun d => (pdats Vl 1 d).share_full fun _ => rfl) (in2 Vl) (out2 Vl) (fun _ => 0) (cut 1) (fun _ => BI.emp) Vl (fun _ _ => rfl)

end Cert.Proof.Pool
-- ==== Proof.Calls.lean ====
/- The calls of the two kernels that the TensorCore runs, over the TensorCore's memory. -/
module

public import proofs.«01_k».proof.Proof.Regs

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
open Idealize.ShloMosaic.Pipeline (Dat afterRegion)
open Idealize.ShloMosaic.StableHlo (held after)

/-- The TensorCore's arrays. -/
abbrev UC : Finset (DevRef τ sig) := Pipeline.ucRefs τ sig

/-- The TensorCore owes nothing. -/
abbrev Free (d : Dev nD) : sProp 𝕄 := iprop(∃ Wd, owes (SparseCore.T d : Thread nD τ) (0 : CellTallies nD τ sig (HIx 1)) Wd)

/-- The ghost state of one of the TensorCore's kernels. -/
abbrev Ghost (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

theorem phinj : Function.Injective (Pipeline.cellOf (nD := nD) (τ := τ) (Pipeline.pin (pcfgs (F := F)) adm)) := cellOf_inj

theorem sub1 : Pipeline.arrRefs (τ := τ) ((pcfgs (F := F)) 0).spec ⊆ UC := Pipeline.arrRefs_sub_ucRefs spec1 winFacts1.arr_unscoped
theorem sub2 : Pipeline.arrRefs (τ := τ) ((pcfgs (F := F)) 1).spec ⊆ UC := Pipeline.arrRefs_sub_ucRefs spec2 winFacts2.arr_unscoped

set_option backward.isDefEq.respectTransparency.types false in
/-- The attention's kernel is entered from the memory `Vl`. -/
theorem reg1_pre (Vl : Mem F) (d : Dev nD) :
    iprop(held (SparseCore.T d : Thread nD τ) UC (Vl d) ∗ (Free (F := F) d ∗ BI.emp ∗ BI.emp)) ⊢ (reg1 Vl).pre d := by
  unfold reg1
  refine Pipeline.RegionSeg.ofHeldIn_pre (pcs := pcfgs (F := F)) (a := adm) (pdats := pdats Vl) (p := 0) (D := fun _ => 0) (X := fun _ => BI.emp) (R := fun _ => BI.emp)
    (W := Vl) ?_ d
  exact sub1 (F := F)

set_option backward.isDefEq.respectTransparency.types false in
/-- The attention's kernel leaves the memory its data say. -/
theorem reg1_post (Vl : Mem F) (d : Dev nD) :
    (reg1 Vl).post d ⊢ iprop(held (SparseCore.T d : Thread nD τ) UC (afterRegion (dat1 Vl d) (Vl d)) ∗ (Free (F := F) d ∗ BI.emp ∗ BI.emp)) := by
  unfold reg1
  exact Pipeline.RegionSeg.ofHeldIn_post (sub1 (F := F)) d

set_option backward.isDefEq.respectTransparency.types false in
/-- The mix's kernel is entered from the memory `Vl`. -/
theorem reg2_pre (Vl : Mem F) (d : Dev nD) :
    iprop(held (SparseCore.T d : Thread nD τ) UC (Vl d) ∗ (Free (F := F) d ∗ BI.emp ∗ BI.emp)) ⊢ (reg2 Vl).pre d := by
  unfold reg2
  refine Pipeline.RegionSeg.ofHeldIn_pre (pcs := pcfgs (F := F)) (a := adm) (pdats := pdats Vl) (p := 1) (D := fun _ => 0) (X := fun _ => BI.emp) (R := fun _ => BI.emp)
    (W := Vl) ?_ d
  exact sub2 (F := F)

set_option backward.isDefEq.respectTransparency.types false in
/-- The mix's kernel leaves the memory its data say. -/
theorem reg2_post (Vl : Mem F) (d : Dev nD) :
    (reg2 Vl).post d ⊢ iprop(held (SparseCore.T d : Thread nD τ) UC (afterRegion (dat2 Vl d) (Vl d)) ∗ (Free (F := F) d ∗ BI.emp ∗ BI.emp)) := by
  unfold reg2
  exact Pipeline.RegionSeg.ofHeldIn_post (sub2 (F := F)) d

/-- A call of one of the TensorCore's kernels, among the calls of the whole program. -/
theorem lift_entry (p : Fin 2) :
    (SparseCore.liftProg (Q := 1) (Λ := ΛP (F := F)) (nD := nD) (τ := τ) (sig := sig) (Val := Elt F) (pr := .tc) (Prog.op (TpuEff.customCall (Pipeline.entry p) ()) Prog.ret))
      = Prog.lift (TpuEff.customCall (SparseCore.inner (Pipeline.entry p)) ()) := rfl

/-- The call of the attention's kernel: it takes the memory to what its data say. -/
theorem call1 [∀ e, Nonempty (Elt F e)] (Vl : Mem F) (d : Dev nD) (Q : PUnit → sProp 𝕄) :
    iprop(levAts (K (F := F)).L (K (F := F)).lev ∗ boundary (SparseCore.T d : Thread nD τ) ∗ held (SparseCore.T d : Thread nD τ) UC (Vl d) ∗ Free (F := F) d ∗ Ghost 0 d
        ∗ ((boundary (SparseCore.T d : Thread nD τ) ∗ held (SparseCore.T d : Thread nD τ) UC (afterRegion (dat1 Vl d) (Vl d)) ∗ Free (F := F) d) -∗ Q ⟨⟩))
      ⊢ wp frame (wpE ((K (F := F)).defs (D (F := F))) 𝒱 (SparseCore.T d : Thread nD τ) none) Set.univ
          (Prog.lift (.customCall (SparseCore.inner (Pipeline.entry 0)) ())) Q := by
  rw [← lift_entry 0]
  refine BI.Entails.trans ?_ ((K (F := F)).wp_liftProg (D (F := F)) 𝒱 (SparseCore.T d : Thread nD τ) Set.univ none _ Q)
  show _ ⊢ (_ : sProp 𝕄)
  iintro ⟨Hlev, Hb, Hh, HO, ⟨Hg, Ht⟩, Hk⟩
  iapply (Pipeline.RegionSeg.wp (pcfgs (F := F)) adm (pdats Vl) (none : HIx 1) phinj (EP (F := F)) defs₀ 𝒱₀ (K (F := F)).L (K (F := F)).lev
    (reg1 Vl) d none (fun _ h => nomatch h) Prog.ret Q)
  isplitl [Hk]
  · iintro ⟨Hb, Hpost⟩
    ihave H := (reg1_post Vl d) $$ Hpost
    icases H with ⟨Hh, HO, -, -⟩
    rw [wp_ret]
    imodintro
    iapply Hk
    isplitl [Hb]; · iexact Hb
    isplitl [Hh]; · iexact Hh
    iexact HO
  isplitl [Hb]; · iexact Hb
  isplitl [Hh HO]
  · iapply (reg1_pre Vl d)
    isplitl [Hh]; · iexact Hh
    isplitl [HO]; · iexact HO
    isplitr; · iempintro
    iempintro
  isplitl [Hlev]; · iexact Hlev
  isplitl [Hg]; · iexact Hg
  iexact Ht

/-- The call of the mix's kernel: it takes the memory to what its data say. -/
theorem call2 [∀ e, Nonempty (Elt F e)] (Vl : Mem F) (d : Dev nD) (Q : PUnit → sProp 𝕄) :
    iprop(levAts (K (F := F)).L (K (F := F)).lev ∗ boundary (SparseCore.T d : Thread nD τ) ∗ held (SparseCore.T d : Thread nD τ) UC (Vl d) ∗ Free (F := F) d ∗ Ghost 1 d
        ∗ ((boundary (SparseCore.T d : Thread nD τ) ∗ held (SparseCore.T d : Thread nD τ) UC (afterRegion (dat2 Vl d) (Vl d)) ∗ Free (F := F) d) -∗ Q ⟨⟩))
      ⊢ wp frame (wpE ((K (F := F)).defs (D (F := F))) 𝒱 (SparseCore.T d : Thread nD τ) none) Set.univ
          (Prog.lift (.customCall (SparseCore.inner (Pipeline.entry 1)) ())) Q := by
  rw [← lift_entry 1]
  refine BI.Entails.trans ?_ ((K (F := F)).wp_liftProg (D (F := F)) 𝒱 (SparseCore.T d : Thread nD τ) Set.univ none _ Q)
  show _ ⊢ (_ : sProp 𝕄)
  iintro ⟨Hlev, Hb, Hh, HO, ⟨Hg, Ht⟩, Hk⟩
  iapply (Pipeline.RegionSeg.wp (pcfgs (F := F)) adm (pdats Vl) (none : HIx 1) phinj (EP (F := F)) defs₀ 𝒱₀ (K (F := F)).L (K (F := F)).lev
    (reg2 Vl) d none (fun _ h => nomatch h) Prog.ret Q)
  isplitl [Hk]
  · iintro ⟨Hb, Hpost⟩
    ihave H := (reg2_post Vl d) $$ Hpost
    icases H with ⟨Hh, HO, -, -⟩
    rw [wp_ret]
    imodintro
    iapply Hk
    isplitl [Hb]; · iexact Hb
    isplitl [Hh]; · iexact Hh
    iexact HO
  isplitl [Hb]; · iexact Hb
  isplitl [Hh HO]
  · iapply (reg2_pre Vl d)
    isplitl [Hh]; · iexact Hh
    isplitl [HO]; · iexact HO
    isplitr; · iempintro
    iempintro
  isplitl [Hlev]; · iexact Hlev
  isplitl [Hg]; · iexact Hg
  iexact Ht

end Cert.Proof.Pool
-- ==== Proof.Main.lean ====
/- The TensorCore's program: the memory it passes through, the launch's ghost state, and how the run ends. -/
module

public import proofs.«01_k».proof.Proof.Calls

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
open Idealize.ShloMosaic.Pipeline (Dat afterRegion)
open Idealize.ShloMosaic.StableHlo (held after)

/-! ## What the TensorCore owes around its own kernels -/

/-- After the pool's call the TensorCore owes nothing, and whatever it waited on stays below the next call. -/
theorem tcSt_open (d : Dev nD) :
    ((K (F := F)).tcSt EH d 1 : sProp 𝕄) ⊢ iprop(Free (F := F) d ∗ (Free (F := F) d -∗ (K (F := F)).tcSt EH d 1)) := by
  unfold SparseCore.Cfg.tcSt
  rw [show (K (F := F)).Otc d 1 = 0 from (K (F := F)).Otc_end d le_rfl]
  iintro ⟨⟨%W, %hW, HO⟩, Hr⟩
  isplitl [HO]
  · iexists W; iexact HO
  iintro ⟨%W', HO⟩
  isplitl [HO]
  · iexists W'
    isplitr
    · ipureintro
      intro p _
      match p with
      | (g, none) => exact Nat.zero_le _
      | (g, some q) => exact ((K (F := F)).lev_some_le _ q).trans (show 8 * q.val + 7 ≤ 8 * 1 by have := q.isLt; omega)
    · iexact HO
  · iexact Hr

/-! ## The pool's call over the TensorCore's memory -/

/-- The memory after the pool's call: the four arrays of partial sums, each tile's block at what the tile computed. -/
def outMem (C : Fin 2 → Fin 16 → Acc F) (Vd : Valuation τ sig (Elt F)) : Valuation τ sig (Elt F) :=
  Function.update (Function.update (Function.update (Function.update Vd (Proc.devRef .tc main_v2_0) (sums1 C)) (Proc.devRef .tc main_v2_1) (dens1 C))
    (Proc.devRef .tc main_v2_2) (sums2 C)) (Proc.devRef .tc main_v2_3) (dens2 C)

/-- The arrays the pool reads. -/
def inRefs : Finset (DevRef τ sig) := {Proc.devRef .tc main_arg1, Proc.devRef .tc main_arg2, Proc.devRef .tc main_arg3, Proc.devRef .tc main_v0, Proc.devRef .tc main_v1}
/-- The arrays it writes. -/
def outRefs : Finset (DevRef τ sig) := {Proc.devRef .tc main_v2_0, Proc.devRef .tc main_v2_1, Proc.devRef .tc main_v2_2, Proc.devRef .tc main_v2_3}

theorem out_sub : outRefs ⊆ UC := by decide
theorem in_sub : inRefs ⊆ UC \ outRefs := by decide

theorem held_in (Vl : Mem F) (d : Dev nD) : (held (SparseCore.T d : Thread nD τ) inRefs (Vl d) : sProp 𝕄) = InShares Vl fullShare d := by
  unfold held inRefs InShares
  rw [SparseCore.bigSep_insert' (by decide), SparseCore.bigSep_insert' (by decide), SparseCore.bigSep_insert' (by decide), SparseCore.bigSep_insert' (by decide), bigSep_singleton]

theorem held_out (Vd : Valuation τ sig (Elt F)) (d : Dev nD) : (held (SparseCore.T d : Thread nD τ) outRefs Vd : sProp 𝕄)
    = iprop(((SparseCore.T d : Thread nD τ).loc main_v2_0 ↦{fullShare} Vd (Proc.devRef .tc main_v2_0)) ∗ ((SparseCore.T d : Thread nD τ).loc main_v2_1 ↦{fullShare} Vd (Proc.devRef .tc main_v2_1))
        ∗ ((SparseCore.T d : Thread nD τ).loc main_v2_2 ↦{fullShare} Vd (Proc.devRef .tc main_v2_2)) ∗ ((SparseCore.T d : Thread nD τ).loc main_v2_3 ↦{fullShare} Vd (Proc.devRef .tc main_v2_3))) := by
  unfold held outRefs
  rw [SparseCore.bigSep_insert' (by decide), SparseCore.bigSep_insert' (by decide), SparseCore.bigSep_insert' (by decide), bigSep_singleton]

theorem outMem_0 (C : Fin 2 → Fin 16 → Acc F) (Vd : Valuation τ sig (Elt F)) : outMem C Vd (Proc.devRef .tc main_v2_0) = sums1 C := by
  unfold outMem
  rw [Function.update_of_ne (by decide), Function.update_of_ne (by decide), Function.update_of_ne (by decide), Function.update_self]
theorem outMem_1 (C : Fin 2 → Fin 16 → Acc F) (Vd : Valuation τ sig (Elt F)) : outMem C Vd (Proc.devRef .tc main_v2_1) = dens1 C := by
  unfold outMem
  rw [Function.update_of_ne (by decide), Function.update_of_ne (by decide), Function.update_self]
theorem outMem_2 (C : Fin 2 → Fin 16 → Acc F) (Vd : Valuation τ sig (Elt F)) : outMem C Vd (Proc.devRef .tc main_v2_2) = sums2 C := by
  unfold outMem
  rw [Function.update_of_ne (by decide), Function.update_self]
theorem outMem_3 (C : Fin 2 → Fin 16 → Acc F) (Vd : Valuation τ sig (Elt F)) : outMem C Vd (Proc.devRef .tc main_v2_3) = dens2 C := by
  unfold outMem
  rw [Function.update_self]

/-- The call writes no other array. -/
theorem outMem_of_not_mem (C : Fin 2 → Fin 16 → Acc F) (Vd : Valuation τ sig (Elt F)) (b : DevRef τ sig) (h : b ∉ outRefs) : outMem C Vd b = Vd b := by
  unfold outRefs at h
  simp only [Finset.mem_insert, Finset.mem_singleton, not_or] at h
  unfold outMem
  rw [Function.update_of_ne h.2.2.2, Function.update_of_ne h.2.2.1, Function.update_of_ne h.2.1, Function.update_of_ne h.1]

/-- What every tile computes on a device. -/
abbrev tiles (Vl : Mem F) (d : Dev nD) : Fin 2 → Fin 16 → Acc F := fun c i => tileOut Vl d (tileAt c i)

theorem st_cores (Vl : Mem F) (d : Dev nD) :
    (bigSep Finset.univ fun c : Fin ((K (F := F)).nCore 0) => (P Vl).st 0 d c : sProp 𝕄)
      = iprop((bigSep Finset.univ fun c : Fin 2 => InShares Vl (Transfers.shareTok fullShare 2 c) d)
        ∗ bigSep Finset.univ fun c : Fin 2 => bigSep Finset.univ fun i : Fin 16 => OutAny (F := F) d (tileAt c i)) :=
  (bigSep_cores (F := F) (stCore Vl d)).trans (bigSep_sep' _ _ _)

theorem dn_cores (Vl : Mem F) (d : Dev nD) :
    (bigSep Finset.univ fun c : Fin ((K (F := F)).nCore 0) => (P Vl).dn 0 d c : sProp 𝕄)
      = iprop((bigSep Finset.univ fun c : Fin 2 => InShares Vl (Transfers.shareTok fullShare 2 c) d)
        ∗ bigSep Finset.univ fun c : Fin 2 => bigSep Finset.univ fun i : Fin 16 => OutIs d (tileAt c i) (tiles Vl d c i)) :=
  (bigSep_cores (F := F) (dnCore Vl d)).trans (bigSep_sep' _ _ _)

/-- The memory around the pool's call, taken apart and put back. -/
theorem pool_mem (Vl : Mem F) (d : Dev nD) :
    (held (SparseCore.T d : Thread nD τ) UC (Vl d) : sProp 𝕄)
      ⊢ iprop((bigSep Finset.univ fun c : Fin ((K (F := F)).nCore 0) => (P Vl).st 0 d c)
        ∗ ((bigSep Finset.univ fun c : Fin ((K (F := F)).nCore 0) => (P Vl).dn 0 d c) -∗ held (SparseCore.T d : Thread nD τ) UC (outMem (tiles Vl d) (Vl d)))) := by
  rw [st_cores, dn_cores, StableHlo.held_sub_split _ out_sub (Vl d), StableHlo.held_sub_split _ in_sub (Vl d), held_in, held_out,
    StableHlo.held_sub_split _ out_sub (outMem (tiles Vl d) (Vl d)),
    StableHlo.held_congr (S := UC \ outRefs) (V := outMem (tiles Vl d) (Vl d)) (V' := Vl d) _ (fun b hb => outMem_of_not_mem _ _ b (Finset.mem_sdiff.mp hb).2),
    StableHlo.held_sub_split _ in_sub (Vl d), held_in, held_out, outMem_0, outMem_1, outMem_2, outMem_3]
  iintro ⟨Ho, Hi, Hr⟩
  ihave H := (inShares_toks Vl fullShare 2 d).1 $$ Hi
  icases H with ⟨HD, HT⟩
  isplitl [Ho HT]
  · isplitl [HT]; · iexact HT
    iapply (outs_deal d _ _ _ _); iexact Ho
  iintro ⟨HT, HO⟩
  isplitl [HO]
  · iapply (outs_gather d (tiles Vl d)); iexact HO
  isplitl [HD HT]
  · iapply (inShares_toks Vl fullShare 2 d).2
    isplitl [HD]; · iexact HD
    iexact HT
  iexact Hr

/-- The pool's call: it takes the memory to the one with the tiles' sums. -/
theorem pool_call (Vl : Mem F) (κ : GSem nD τ sig → ℕ) (d : Dev nD) (Q : PUnit → sProp 𝕄) :
    iprop((K (F := F)).ctx EH (P Vl) κ ∗ (K (F := F)).tcSt EH d 0 ∗ held (SparseCore.T d : Thread nD τ) UC (Vl d)
        ∗ (((K (F := F)).tcSt EH d 1 ∗ held (SparseCore.T d : Thread nD τ) UC (outMem (tiles Vl d) (Vl d))) -∗ Q ⟨⟩))
      ⊢ wp frame (wpE ((K (F := F)).defs (D (F := F))) 𝒱 (SparseCore.T d : Thread nD τ) none) Set.univ ((K (F := F)).run d 0) Q := by
  iintro ⟨#Hctx, Hst, Hh, Hk⟩
  ihave H := (pool_mem Vl d) $$ Hh
  icases H with ⟨Hs, Hd⟩
  iapply ((K (F := F)).wp_run (D (F := F)) 𝒱 (EH := EH) (P := P Vl) κ d 0)
  isplitr; · iexact Hctx
  isplitl [Hst]; · iexact Hst
  isplitl [Hs]; · iexact Hs
  iintro ⟨Hst, Hdn⟩
  iapply Hk
  isplitl [Hst]; · iexact Hst
  iapply Hd; iexact Hdn

/-! ## The TensorCore's program -/

/-- A host operation takes the memory to its result. -/
theorem host_op (d : Dev nD) {op : HloOp τ sig (Elt F)} (hS : op.bufs ⊆ StableHlo.tcRefs τ sig) (hf : op.fresh = ∅) (Vd : Valuation τ sig (Elt F)) (Q : PUnit → sProp 𝕄) :
    iprop(boundary (SparseCore.T d : Thread nD τ) ∗ held (SparseCore.T d : Thread nD τ) UC Vd
        ∗ ((boundary (SparseCore.T d : Thread nD τ) ∗ held (SparseCore.T d : Thread nD τ) UC (op.result Vd)) -∗ Q ⟨⟩))
      ⊢ wp frame (wpE ((K (F := F)).defs (D (F := F))) 𝒱 (SparseCore.T d : Thread nD τ) none) Set.univ (hlo rfl op fun _ => .ret ⟨⟩) Q := by
  iintro ⟨Hb, Hh, Hk⟩
  iapply (StableHlo.wp_hlo_within 𝒱 (SparseCore.T d : Thread nD τ) none Set.univ (Pipeline.sub_ucRefs op hS) hf) $$ [Hb Hh]
  · isplitl [Hb]; · iexact Hb
    iexact Hh
  iintro H
  rw [wp_ret]
  imodintro
  iapply Hk
  iexact H

section Mems

variable (m : (ℓ : Loc nD τ sig) → Buf (Elt F) ℓ)

/-- The memory before the pool's call. -/
def mem1 : Mem F := fun d =>
  (StableHlo.reshape main_arg6 main_v1 (rfl : (.f32 : EltTy) = .f32) shapeCasts_S256x1_S256).result
    ((StableHlo.reshape main_arg4 main_v0 (rfl : (.f32 : EltTy) = .f32) shapeCasts_S256x1_S256).result (fun b => m (d, b)))

/-- The memory after it. -/
def mem2 : Mem F := fun d => outMem (tiles (mem1 m) d) (mem1 m d)

/-- The host operations between the pool and the attention's kernel. -/
def opsB : List (HloOp τ sig (Elt F)) :=
  [StableHlo.reshape main_v2_0 main_v3 (rfl : (.f32 : EltTy) = .f32) shapeCasts_S524288_S32x64x256,
    StableHlo.reshape main_v2_1 main_v4 (rfl : (.f32 : EltTy) = .f32) shapeCasts_S32768_S32x64x16,
    StableHlo.reshape main_v2_2 main_v5 (rfl : (.f32 : EltTy) = .f32) shapeCasts_S524288_S32x64x256,
    StableHlo.reshape main_v2_3 main_v6 (rfl : (.f32 : EltTy) = .f32) shapeCasts_S32768_S32x64x16,
    StableHlo.nullary main_cst (constant S_ .f32 0x00000000#32),
    StableHlo.unary main_cst main_v7 (broadcastInDim S64x256 ![] bcast_S_S64x256 : (⟨S_, .f32⟩ : BufTy).Contents (Elt F) → (⟨S64x256, .f32⟩ : BufTy).Contents (Elt F)),
    StableHlo.nullary main_c (constantI S_ 32 0#32),
    StableHlo.unary main_c main_v8 (broadcastInDim S1 ![] bcast_S_S1 : (⟨S_, .i32⟩ : BufTy).Contents (Elt F) → (⟨S1, .i32⟩ : BufTy).Contents (Elt F)),
    StableHlo.ternary main_v7 main_v8 main_arg0 main_v9 ((fun x i u => Host.scatter scatter_S64x256_S1_S50x256_01_n_0_0 (fun _ b => b) x i u) : (⟨S64x256, .f32⟩ : BufTy).Contents (Elt F) → (⟨S1, .i32⟩ : BufTy).Contents (Elt F) → (⟨S50x256, .f32⟩ : BufTy).Contents (Elt F) → (⟨S64x256, .f32⟩ : BufTy).Contents (Elt F))]

/-- The memory at the attention's kernel. -/
def mem3 : Mem F := fun d => after opsB (mem2 m d)

/-- The memory after it. -/
def mem4 : Mem F := fun d => afterRegion (dat1 (mem3 m) d) (mem3 m d)

/-- The memory at the mix's kernel. -/
def mem5 : Mem F := fun d => (StableHlo.reshape main_arg3 main_v11 (rfl : (.i32 : EltTy) = .i32) shapeCasts_S50000_S10x1x5000).result (mem4 m d)

/-- The memory at the end. -/
def mem6 : Mem F := fun d => afterRegion (dat2 (mem5 m) d) (mem5 m d)

/-- What the TensorCore's thread ends with: its whole memory. -/
abbrev FIN (d : Dev nD) : sProp 𝕄 := held (SparseCore.T d : Thread nD τ) UC (mem6 m d)

variable (ρ : Dev nD → PrngReg)

/-- The launch's memory of the TensorCore. -/
theorem launch_held (d : Dev nD) :
    (unscopedBufs d (fun b => m ((SparseCore.T d : Thread nD τ).loc b)) : sProp 𝕄) = held (SparseCore.T d : Thread nD τ) UC (fun b => m (d, b)) :=
  Pipeline.unscopedBufs_held (Ix := HIx 1) (Name := ℕ) (U := UU) (Lvl := ℕ) d (fun b => m (d, b))

set_option maxHeartbeats 800000 in
/-- The TensorCore's program takes the memory it is launched with to `mem6`. -/
theorem hmain [∀ e, Nonempty (Elt F e)] (κ : GSem nD τ sig → ℕ) (d : Dev nD) :
    iprop((K (F := F)).ctx EH (P (mem1 m)) κ ∗ (K (F := F)).tcSt EH d 0 ∗ (K (F := F)).tcRes m ρ d ∗ (Ghost (F := F) 0 d ∗ Ghost (F := F) 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hh, Hts, -⟩, HG1, HG2⟩
  iapply (host_op d (StableHlo.reshape_bufs_sub _ _ _ _ _ _) rfl _ _)
  isplitl [Hb]; · iexact Hb
  isplitl [Hh]; · iexact Hh
  iintro ⟨Hb, Hh⟩
  iapply (host_op d (StableHlo.reshape_bufs_sub _ _ _ _ _ _) rfl _ _)
  isplitl [Hb]; · iexact Hb
  isplitl [Hh]; · iexact Hh
  iintro ⟨Hb, Hh⟩
  iapply (pool_call (mem1 m) κ d _)
  isplitr; · iexact Hctx
  isplitl [Hst]; · iexact Hst
  isplitl [Hh]; · iexact Hh
  iintro ⟨Hst, Hh⟩
  iapply (host_op d (StableHlo.reshape_bufs_sub _ _ _ _ _ _) rfl _ _)
  isplitl [Hb]; · iexact Hb
  isplitl [Hh]; · iexact Hh
  iintro ⟨Hb, Hh⟩
  iapply (host_op d (StableHlo.reshape_bufs_sub _ _ _ _ _ _) rfl _ _)
  isplitl [Hb]; · iexact Hb
  isplitl [Hh]; · iexact Hh
  iintro ⟨Hb, Hh⟩
  iapply (host_op d (StableHlo.reshape_bufs_sub _ _ _ _ _ _) rfl _ _)
  isplitl [Hb]; · iexact Hb
  isplitl [Hh]; · iexact Hh
  iintro ⟨Hb, Hh⟩
  iapply (host_op d (StableHlo.reshape_bufs_sub _ _ _ _ _ _) rfl _ _)
  isplitl [Hb]; · iexact Hb
  isplitl [Hh]; · iexact Hh
  iintro ⟨Hb, Hh⟩
  iapply (host_op d (StableHlo.nullary_bufs_sub _ _ _) rfl _ _)
  isplitl [Hb]; · iexact Hb
  isplitl [Hh]; · iexact Hh
  iintro ⟨Hb, Hh⟩
  iapply (host_op d (StableHlo.unary_bufs_sub _ _ _ _ _) rfl _ _)
  isplitl [Hb]; · iexact Hb
  isplitl [Hh]; · iexact Hh
  iintro ⟨Hb, Hh⟩
  iapply (host_op d (StableHlo.nullary_bufs_sub _ _ _) rfl _ _)
  isplitl [Hb]; · iexact Hb
  isplitl [Hh]; · iexact Hh
  iintro ⟨Hb, Hh⟩
  iapply (host_op d (StableHlo.unary_bufs_sub _ _ _ _ _) rfl _ _)
  isplitl [Hb]; · iexact Hb
  isplitl [Hh]; · iexact Hh
  iintro ⟨Hb, Hh⟩
  iapply (host_op d (StableHlo.ternary_bufs_sub _ _ _ _ _ _ _ _ _) rfl _ _)
  isplitl [Hb]; · iexact Hb
  isplitl [Hh]; · iexact Hh
  iintro ⟨Hb, Hh⟩
  ihave Hlev := (SparseCore.Cfg.ctx_levAts (K := K (F := F)) (EH := EH) (P := P (mem1 m)) κ) $$ Hctx
  ihave H := (tcSt_open d) $$ Hst
  icases H with ⟨HO, Hst⟩
  iapply (call1 (mem3 m) d _)
  isplitl [Hlev]; · iexact Hlev
  isplitl [Hb]; · iexact Hb
  isplitl [Hh]; · iexact Hh
  isplitl [HO]; · iexact HO
  isplitl [HG1]; · iexact HG1
  iintro ⟨Hb, Hh, HO⟩
  iapply (host_op d (StableHlo.reshape_bufs_sub _ _ _ _ _ _) rfl _ _)
  isplitl [Hb]; · iexact Hb
  isplitl [Hh]; · iexact Hh
  iintro ⟨Hb, Hh⟩
  ihave Hlev := (SparseCore.Cfg.ctx_levAts (K := K (F := F)) (EH := EH) (P := P (mem1 m)) κ) $$ Hctx
  iapply (call2 (mem5 m) d _)
  isplitl [Hlev]; · iexact Hlev
  isplitl [Hb]; · iexact Hb
  isplitl [Hh]; · iexact Hh
  isplitl [HO]; · iexact HO
  isplitl [HG2]; · iexact HG2
  iintro ⟨Hb, Hh, HO⟩
  imodintro
  isplitl [Hst HO]
  · iapply Hst; iexact HO
  isplitl [Hh]; · iexact Hh
  isplitl [Hb]; · iexact Hb
  iexact Hts

/-! ## The launch's ghost state, and the end of the run -/

/-- What the launch's ghost state is made of: the handshake's rounds and the two kernels'. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ghost_two (d : Dev nD) :
    iprop((bigSep Finset.univ fun p : Fin 2 => Pipeline.cellsGhost (Pipeline.pin (pcfgs (F := F)) adm) (EP (F := F)) p d)
        ∗ (bigSep Finset.univ fun p : Fin 2 => Pipeline.toksInit (Pipeline.pin (pcfgs (F := F)) adm) (EP (F := F)) p d))
      ⊢ (iprop(Ghost (F := F) 0 d ∗ Ghost (F := F) 1 d) : sProp 𝕄) := by
  rw [show (Finset.univ : Finset (Fin 2)) = {0, 1} by decide, SparseCore.bigSep_insert' (by decide), SparseCore.bigSep_insert' (by decide), bigSep_singleton, bigSep_singleton]
  iintro ⟨⟨H1, H2⟩, H3, H4⟩
  isplitl [H1 H3]
  · isplitl [H1]; · iexact H1
    iexact H3
  isplitl [H2]; · iexact H2
  iexact H4

theorem ep_own (x : UP) : (BI.own (((Emb.inl : Emb UP (UP × Counters)).trans (embR : Emb (UP × Counters) (MT nD τ sig (HIx 1) (Elt F) ℕ UU ℕ))) x) : sProp 𝕄) ⊢ BI.own (EP (F := F) x) := by
  unfold EP; exact .rfl

theorem x_emp (Vl : Mem F) : (iprop(emp) : sProp 𝕄) ⊢ bigSep Finset.univ fun thr : Thread nD τ => bigSep Finset.univ fun q : Fin 1 => (P Vl).x q thr :=
  Entails.of_eq ((bigSep_congr fun _ _ => bigSep_emp_const _).trans (bigSep_emp_const _)).symm

theorem hu₀ (Vl : Mem F) : (ownU (u₀ (F := F)) : sProp 𝕄)
    ⊢ |={Set.univ}=> iprop(BI.own (EH (initOf (K (F := F)).hsCells (K (F := F)).hsToks)) ∗ (bigSep Finset.univ fun d : Dev nD => iprop(Ghost (F := F) 0 d ∗ Ghost (F := F) 1 d))
        ∗ bigSep Finset.univ fun thr : Thread nD τ => bigSep Finset.univ fun q : Fin 1 => (P Vl).x q thr) := by
  unfold u₀
  iintro Hu
  ihave H := (ownU_pair _ _) $$ Hu
  icases H with ⟨HH, HR⟩
  ihave H := (own_pair_emb embR _ _) $$ HR
  icases H with ⟨HP, -⟩
  ihave HP := (ep_own _) $$ HP
  imod (Pipeline.fund_ghost (Pipeline.pin (pcfgs (F := F)) adm) (EP (F := F)) phinj) $$ HP with ⟨Hg, Ht⟩
  imodintro
  isplitl [HH]; · iexact HH
  isplitl [Hg Ht]
  · have h : iprop((bigSep Finset.univ fun d : Dev nD => bigSep Finset.univ fun p : Fin 2 => Pipeline.cellsGhost (Pipeline.pin (pcfgs (F := F)) adm) (EP (F := F)) p d)
        ∗ (bigSep Finset.univ fun d : Dev nD => bigSep Finset.univ fun p : Fin 2 => Pipeline.toksInit (Pipeline.pin (pcfgs (F := F)) adm) (EP (F := F)) p d))
        ⊢ (bigSep Finset.univ fun d : Dev nD => iprop(Ghost (F := F) 0 d ∗ Ghost (F := F) 1 d) : sProp 𝕄) := by
      rw [← bigSep_sep']
      exact bigSep_mono fun d _ => ghost_two d
    iapply h
    isplitl [Hg]; · iexact Hg
    iexact Ht
  · iapply (x_emp Vl); iempintro

/-- At the end the TensorCore's memory is `mem6`. -/
def fq (d : Dev nD) (s' : Phys nD τ sig (Elt F)) : Prop := ∀ b ∈ UC, s'.mem.mem (d, b) = mem6 m d b

theorem hfin (d : Dev nD) (s' : Phys nD τ sig (Elt F)) : iprop(FIN m d ∗ SI s') ⊢ (⌜fq m d s'⌝ : sProp 𝕄) := by
  by_cases h : fq m d s'
  · iintro -
    ipureintro; exact h
  unfold fq at h
  push Not at h
  obtain ⟨b, hb, hne⟩ := h
  have hb' : (held (SparseCore.T d : Thread nD τ) UC (mem6 m d) : sProp 𝕄) ⊢ ((d, b) ↦{fullShare} mem6 m d b : sProp 𝕄) := by
    unfold held; exact bigSep_elim hb
  iintro ⟨Hh, HSI⟩
  ihave Hb := hb' $$ Hh
  ihave H := (SI_pointsTo_agree (st := s') (ℓ := (d, b)) (I := Finset.univ) (q := fullShare) (f := mem6 m d b)) $$ [HSI Hb]
  · isplitl [HSI] <;> iassumption
  icases H with %h1
  exact absurd (funext fun i => h1 i (Finset.mem_univ i)) hne

/-- How the run ends: the TensorCore's memory at `mem6` and every semaphore at zero. -/
def QC : PUnit × MemSt nD τ sig (Elt F) → Prop := fun r => (∀ d : Dev nD, ∀ b ∈ UC, r.2.mem (d, b) = mem6 m d b) ∧ r.2.sem = fun _ => 0

/-- The program's run. -/
theorem run_main [∀ e, Nonempty (Elt F e)] (hok : SegOk (mem1 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mem1 m)) (A := ∅) facts v₀
    (fun q hq => match q with | 0 => nomatch hq)
    (fun q _ => match q with | 0 => tileObl (mem1 m) hok)
    (fun q _ => match q with | 0 => SparseCore.Cfg.VecSplit.of_plain (vecSplit (mem1 m)))
    m ρ main (fun d => iprop(Ghost (F := F) 0 d ∗ Ghost (F := F) 1 d)) (FIN m) (u₀ (F := F)) (sep_elim_left.trans (hu₀ (mem1 m))) (hmain m ρ) (fq m) (hfin m) (QC m) (fun _ h hz => ⟨h, hz⟩)

end Mems

end Cert.Proof.Pool
-- ==== Proof.Frames.lean ====
/- What the run keeps, what the preconditions say, and the kernel's frame over the extended reals. -/
module

public import proofs.«01_k».proof.Proof.Main
public import proofs.«01_k».proof.Defs
public import proofs.«01_k».proof.Proof.Gen.Kernel
public import proofs.«01_k».proof.Proof.Gen.Pre_segments_in_range
public import Idealize.ShloMosaic.Lib.ReduceAll

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
open Idealize.ShloMosaic.Pipeline (Dat afterRegion)
open Idealize.ShloMosaic.StableHlo (held after)

/-! ## The arguments keep what they hold -/

section Keep

variable (m : (ℓ : Loc nD τ sig) → Buf (Elt F) ℓ)

theorem mem1_keeps (d : Dev nD) (r : Ref sig .tc) (h0 : r ≠ main_v0) (h1 : r ≠ main_v1) : mem1 m d (Proc.devRef .tc r) = m (d, Proc.devRef .tc r) := by
  unfold mem1
  rw [StableHlo.reshape_result_ne _ _ _ _ _ _ _ h1, StableHlo.reshape_result_ne _ _ _ _ _ _ _ h0]

/-- The arrays the host operations after the pool write. -/
def wroteB : List (Ref sig .tc) := [main_v3, main_v4, main_v5, main_v6, main_cst, main_v7, main_c, main_v8, main_v9]

theorem mem3_keeps (d : Dev nD) (r : Ref sig .tc) (h : r ∉ wroteB) : mem3 m d (Proc.devRef .tc r) = mem2 m d (Proc.devRef .tc r) := by
  unfold mem3
  exact StableHlo.after_of_writes_sub (W := wroteB) opsB (mem2 m d) (by
    unfold opsB wroteB
    simp) h

theorem mem4_keeps (d : Dev nD) (r : Ref sig .tc) (h : ∀ w, Pipeline.arrRef spec1 w = r → (spec1 w).isOut = false) :
    mem4 m d (Proc.devRef .tc r) = mem3 m d (Proc.devRef .tc r) :=
  Pipeline.afterRegion_keeps (dat1 (mem3 m) d) (mem3 m d) winFacts1.arr_inj (fun _ => rfl) r h

theorem mem5_keeps (d : Dev nD) (r : Ref sig .tc) (h : r ≠ main_v11) : mem5 m d (Proc.devRef .tc r) = mem4 m d (Proc.devRef .tc r) := by
  unfold mem5
  rw [StableHlo.reshape_result_ne _ _ _ _ _ _ _ h]

theorem mem6_keeps (d : Dev nD) (r : Ref sig .tc) (h : ∀ w, Pipeline.arrRef spec2 w = r → (spec2 w).isOut = false) :
    mem6 m d (Proc.devRef .tc r) = mem5 m d (Proc.devRef .tc r) :=
  Pipeline.afterRegion_keeps (dat2 (mem5 m) d) (mem5 m d) winFacts2.arr_inj (fun _ => rfl) r h

/-- The eight arguments. -/
def args : List (Ref sig .tc) := [main_arg0, main_arg1, main_arg2, main_arg3, main_arg4, main_arg5, main_arg6, main_arg7]

/-- Every argument ends as it began. -/
theorem mem6_args (d : Dev nD) (r : Ref sig .tc) (h : r ∈ args) : mem6 m d (Proc.devRef .tc r) = m (d, Proc.devRef .tc r) := by
  have h6 : ∀ r ∈ args, ∀ w, Pipeline.arrRef spec2 w = r → (spec2 w).isOut = false := by decide
  have h4 : ∀ r ∈ args, ∀ w, Pipeline.arrRef spec1 w = r → (spec1 w).isOut = false := by decide
  have h5 : ∀ r ∈ args, r ≠ main_v11 := by decide
  have h3 : ∀ r ∈ args, r ∉ wroteB := by decide
  have h2 : ∀ r ∈ args, (Proc.devRef (τ := τ) .tc r) ∉ outRefs := by decide
  have h1 : ∀ r ∈ args, r ≠ main_v0 ∧ r ≠ main_v1 := by decide
  rw [mem6_keeps m d r (h6 r h), mem5_keeps m d r (h5 r h), mem4_keeps m d r (h4 r h), mem3_keeps m d r (h3 r h), show mem2 m d = outMem (tiles (mem1 m) d) (mem1 m d) from rfl,
    outMem_of_not_mem _ _ _ (h2 r h), mem1_keeps m d r (h1 r h).1 (h1 r h).2]

theorem args_sub : ∀ r ∈ args, (Proc.devRef (τ := τ) .tc r) ∈ UC := by decide

theorem out_mem : (Proc.devRef (τ := τ) .tc main_v12) ∈ UC := by decide

/-- Segment words below 64 are all the run asks for. -/
theorem segOk_of_lt (h : ∀ (d : Dev nD) (i : S50000.Idx), ((m ((SparseCore.T d : Thread nD τ).loc main_arg3) : S50000.Idx → BitVec 32) i).toNat < 64) : SegOk (mem1 m) := by
  intro d L c hc i
  have e : (srcs (mem1 m) d L).ag = m ((SparseCore.T d : Thread nD τ).loc main_arg3) := mem1_keeps m d main_arg3 (by decide) (by decide)
  unfold Sources.g
  rw [e, View.read_apply]
  exact h d _

variable (ρ : Dev nD → PrngReg)

/-- The run, with the arguments' ends spelled out. -/
theorem run_args [∀ e, Nonempty (Elt F e)] (hok : SegOk (mem1 m)) :
    θ_run (Cert.KernelIdeal.defs (F := F)) (Cert.KernelIdeal.threads (F := F)) ⟨m, fun _ => 0, ρ⟩ (fun r =>
      ((∀ d : Dev nD, ∀ a ∈ args, r.2.mem ((SparseCore.T d : Thread nD τ).loc a) = m ((SparseCore.T d : Thread nD τ).loc a)) ∧ r.2.sem = fun _ => 0)
        ∧ ∀ d : Dev nD, r.2.mem ((SparseCore.T d : Thread nD τ).loc main_v12) = mem6 m d (Proc.devRef .tc main_v12)) :=
  (θ_run Cert.KernelIdeal.defs _ _).mono (fun r h =>
    ⟨⟨fun d a ha => (h.1 d _ (args_sub a ha)).trans (mem6_args m d a ha), h.2⟩, fun d => h.1 d _ out_mem⟩) (run_main m ρ hok)

end Keep

/-! ## What the preconditions say -/

/-- A word that is at least zero and less than fifty, both as signed words, is below fifty. -/
theorem word_lt (v : BitVec 32) (e : IntOp.andi (IntOp.cmpi .sge v 0#32) (IntOp.cmpi .slt v 50#32) = 1#1) : v.toNat < 50 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun i => i.elim0⟩

/-- `segments_in_range` all ones: every segment word is below fifty. -/
theorem seg_lt [Cert.Pre_segments_in_range.Facts] {a0 a1 a2 a4 a5 a6 a7} {a3 : IVec S50000 32}
    (h : Cert.Pre_segments_in_range.fn (F := F) a0 a1 a2 a3 a4 a5 a6 a7 = fun _ => 1#1) (i : S50000.Idx) : (a3 i).toNat < 50 := by
  have e := congrFun h (fun a => a.elim0)
  unfold Cert.Pre_segments_in_range.fn at e
  haveI : Subsingleton Cert.Pre_segments_in_range.S_.Idx := ⟨fun a b => funext fun i => i.elim0⟩
  exact word_lt _ (Host.reduce_andi_all _ _ _ _ _ e i)

theorem args_all {X : Ref sig .tc → Prop} (h : ∀ a ∈ args, X a) :
    X main_arg0 ∧ X main_arg1 ∧ X main_arg2 ∧ X main_arg3 ∧ X main_arg4 ∧ X main_arg5 ∧ X main_arg6 ∧ X main_arg7 :=
  ⟨h _ (by decide), h _ (by decide), h _ (by decide), h _ (by decide), h _ (by decide), h _ (by decide), h _ (by decide), h _ (by decide)⟩

/-- Read over the extended reals, the kernel ends, keeps its arguments and leaves its semaphores at zero. -/
theorem frame_kernelIdeal : Cert.quiescent_KernelIdeal (hKernelIdeal := Cert.KernelIdeal.Gen.facts) (hPre_segments_in_range := Cert.Pre_segments_in_range.Gen.facts) := fun m ρ hpre =>
  (θ_run Cert.KernelIdeal.defs _ _).mono (fun _ h => ⟨fun d => args_all fun a ha => h.1.1 d a ha, h.1.2⟩)
    (run_args (F := Ideal) m ρ (segOk_of_lt m fun d i => (seg_lt (hpre d) i).trans (by decide)))

end Cert.Proof.Pool
-- ==== Proof.Kern.lean ====
/- The kernel's frame: its text is the idealized program's, so it runs as that one does. -/
module

public import proofs.«01_k».proof.Proof.Frames

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
attribute [local instance] Cert.Kernel.Gen.facts
set_option maxHeartbeats 1600000 in
/-- The kernel's body table is the idealized program's: the two programs have one text. -/
theorem bodies_eq : Cert.Kernel.defs₀ (F := Bits) = defs₀ (F := Bits) := by
  funext p ℓ a
  match p, ℓ with
  | .tc, 0 => rfl
  | .tc, 1 => rfl
  | .tc, 2 => rfl
  | .scScalar c, 0 => rfl
  | .scScalar c, 1 => rfl
  | .scScalar c, 2 => rfl
  | .scVector c s, 0 => rfl
  | .scVector c s, 1 => rfl
  | .scVector c s, 2 => rfl

/-- So is what its launch runs. -/
theorem tables_eq : Cert.Kernel.defs (F := Bits) = defs (F := Bits) :=
  congrArg (fun x => (sc (F := Bits)).defs (Pipeline.defs pcfgs x)) bodies_eq

/-- The kernel ends, keeps its arguments and leaves its semaphores at zero. -/
theorem frame_kernel : Cert.quiescent_Kernel (hKernel := Cert.Kernel.Gen.facts) (hPre_segments_in_range := Cert.Pre_segments_in_range.Gen.facts) := fun m ρ hpre => by
  have h := (θ_run Cert.KernelIdeal.defs _ _).mono (fun _ h => h.1) (run_args (F := Bits) m ρ (segOk_of_lt m fun d i => (seg_lt (hpre d) i).trans (by decide)))
  rw [tables_eq]
  refine (θ_run (Cert.KernelIdeal.defs (F := Bits)) _ _).mono ?_ h
  exact fun _ h => ⟨fun d => args_all fun a ha => h.1 d a ha, h.2⟩
end Cert.Proof.Pool
-- ==== Proof.Sums.lean ====
/- The pool's accumulators over the extended reals, as sums over rows. -/
module

public import proofs.«01_k».proof.Proof.Kern

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## Sums -/

/-- `a` blocks of `b` terms are the first `a * b` terms. -/
theorem sum_blocks {M : Type} [AddCommMonoid M] (f : ℕ → M) (a b : ℕ) :
    ∑ c ∈ Finset.range a, ∑ r ∈ Finset.range b, f (b * c + r) = ∑ i ∈ Finset.range (b * a), f i := by
  induction a with
  | zero => simp
  | succ a ih => rw [Finset.sum_range_succ, ih, Nat.mul_succ, Finset.sum_range_add]

/-- The blocks a tile takes, two at a trip for ten trips, over thirty-two tiles: every one of the first 640 once. -/
theorem sum_tiles {M : Type} [AddCommMonoid M] (s : ℕ → M) :
    ∑ w ∈ Finset.range 32, ∑ t ∈ Finset.range 10, (s (w + 64 * t) + s (w + 64 * t + 32)) = ∑ c ∈ Finset.range 640, s c := by
  rw [Finset.sum_comm, show 640 = 64 * 10 from rfl, ← sum_blocks s 10 64]
  refine Finset.sum_congr rfl fun t _ => ?_
  rw [Finset.sum_add_distrib, show (64 : ℕ) = 32 + 32 from rfl, Finset.sum_range_add]
  congr 1 <;> refine Finset.sum_congr rfl fun w _ => congrArg s ?_ <;> omega

/-- Sixteen sixteens are the 256 columns. -/
theorem sum_sixteens {M : Type} [AddCommMonoid M] (f : Fin 256 → M) :
    ∑ l : Fin 16, ∑ j : Fin 16, f ⟨16 * j.val + l.val, by omega⟩ = ∑ k, f k := by
  rw [Finset.sum_comm, ← Fintype.sum_prod_type']
  refine Fintype.sum_equiv (finProdFinEquiv (m := 16) (n := 16)) _ _ fun x => congrArg f (Fin.ext ?_)
  show 16 * x.1.val + x.2.val = x.2.val + 16 * x.1.val
  omega

/-! ## Lanes -/

/-- Lane `k` with the bits of `b` turned over. -/
def turn (k : Fin 16) (b : ℕ) : Fin 16 := ⟨(k.val ^^^ b) % 16, Nat.mod_lt _ (by omega)⟩

/-- Turned or not. -/
def turnIf (a : Fin 2) (b : ℕ) (k : Fin 16) : Fin 16 := if a = 0 then k else turn k b

theorem turns_bij : ∀ k : Fin 16, Function.Bijective fun x : Fin 2 × Fin 2 × Fin 2 × Fin 2 =>
    turnIf x.2.2.2 1 (turnIf x.2.2.1 2 (turnIf x.2.1 4 (turnIf x.1 8 k))) := by
  decide +kernel

theorem lanesVal_flip (v : V16 Ideal) (b : ℕ) (hb : b < 16) (h) (k : Fin 16) :
    lanesVal v (flip (BitVec.ofNat 32 b)) h (ix1 k) = (v (ix1 k) + v (ix1 (turn k b)) : EReal) := by
  have hk := k.isLt
  have e : (BitVec.ofNat 32 k.val ^^^ BitVec.ofNat 32 b).toNat = k.val ^^^ b := by
    rw [BitVec.toNat_xor, BitVec.toNat_ofNat, BitVec.toNat_ofNat, Nat.mod_eq_of_lt (by omega), Nat.mod_eq_of_lt (by omega)]
  have e' : k.val ^^^ b < 16 := Nat.xor_lt_two_pow (n := 4) hk hb
  show (v (ix1 k) + v _ : EReal) = _
  congr 2
  funext a
  obtain rfl : a = 0 := Subsingleton.elim _ _
  refine Fin.ext ?_
  show (BitVec.ofNat 32 (0 * 16 + k.val) ^^^ BitVec.ofNat 32 b).toNat = (k.val ^^^ b) % 16
  rw [Nat.mod_eq_of_lt e', zero_mul, zero_add, e]

/-- Four turns leave in every lane the sum of all sixteen. -/
theorem lanes_total (v : V16 Ideal) (k : Fin 16) :
    lanesVal (lanesVal (lanesVal (lanesVal v (perms 0) (perms_ok 0)) (perms 1) (perms_ok 1)) (perms 2) (perms_ok 2)) (perms 3) (perms_ok 3) (ix1 k)
      = (∑ l : Fin 16, v (ix1 l) : EReal) := by
  rw [← (turns_bij k).sum_comp (fun l => (v (ix1 l) : EReal))]
  simp only [Fintype.sum_prod_type, Fin.sum_univ_two]
  have h8 := fun (v : V16 Ideal) h k => lanesVal_flip v 8 (by decide) h k
  have h4 := fun (v : V16 Ideal) h k => lanesVal_flip v 4 (by decide) h k
  have h2 := fun (v : V16 Ideal) h k => lanesVal_flip v 2 (by decide) h k
  have h1 := fun (v : V16 Ideal) h k => lanesVal_flip v 1 (by decide) h k
  refine (h8 _ (perms_ok 3) k).trans ?_
  have g4 := fun k => h4 (lanesVal (lanesVal v (perms 0) (perms_ok 0)) (perms 1) (perms_ok 1)) (perms_ok 2) k
  have g2 := fun k => h2 (lanesVal v (perms 0) (perms_ok 0)) (perms_ok 1) k
  have g1 := fun k => h1 v (perms_ok 0) k
  refine (congrArg₂ (· + ·) (g4 k) (g4 (turn k 8))).trans ?_
  refine (congrArg₂ (· + ·) (congrArg₂ (· + ·) (g2 _) (g2 _)) (congrArg₂ (· + ·) (g2 _) (g2 _))).trans ?_
  refine (congrArg₂ (· + ·) (congrArg₂ (· + ·) (congrArg₂ (· + ·) (g1 _) (g1 _)) (congrArg₂ (· + ·) (g1 _) (g1 _)))
    (congrArg₂ (· + ·) (congrArg₂ (· + ·) (g1 _) (g1 _)) (congrArg₂ (· + ·) (g1 _) (g1 _)))).trans ?_
  rfl

theorem dot16_ideal (a b : Fin 16 → V16 Ideal) (x : S16.Idx) : dot16 a b x = (∑ j : Fin 16, a j x * b j x : EReal) := by
  simp only [Fin.sum_univ_castSucc, Fin.sum_univ_zero, zero_add]
  rfl

/-- The exponential of a gate, by the row and the weights it is taken over. -/
theorem gateV_ideal (s w : Fin 16 → V16 Ideal) (x y : Fin 256 → EReal)
    (hs : ∀ j l : Fin 16, s j (ix1 l) = x ⟨16 * j.val + l.val, by omega⟩) (hw : ∀ j l : Fin 16, w j (ix1 l) = y ⟨16 * j.val + l.val, by omega⟩) (k : Fin 16) :
    gateV s w perms perms_ok (ix1 k) = Ideal.exp (∑ c, x c * y c) := by
  show Ideal.exp _ = _
  congr 1
  refine (lanes_total _ k).trans ?_
  rw [← sum_sixteens (fun c => x c * y c)]
  refine Finset.sum_congr rfl fun l _ => (dot16_ideal s w (ix1 l)).trans (Finset.sum_congr rfl fun j _ => ?_)
  rw [hs, hw]

/-! ## Rows -/

theorem lane_eq (k : ℕ) (h : k < 16) : lane k h = ix1 ⟨k, h⟩ := by
  funext a
  obtain rfl : a = 0 := Subsingleton.elim _ _
  rfl

theorem rowSlice_ideal (X : S80x256.Idx → Elt Ideal .f32) (t : Fin 80) (j l : Fin 16) :
    rowSlice X t j (ix1 l) = X (ix2 t ⟨16 * j.val + l.val, by omega⟩) := by
  unfold rowSlice rowAt
  refine (shapeCast_apply _ _ _ (ix2 (0 : Fin 1) l) ?_).trans (congrArg X ?_)
  · rw [Shape.rowMajor_val_two, Shape.rowMajor_val_one]
    show 0 * 16 + l.val = l.val
    omega
  · funext a
    refine Fin.ext ?_
    match a with
    | ⟨0, _⟩ => show t.val + 1 * 0 = t.val; omega
    | ⟨1, _⟩ => show 16 * j.val + 1 * l.val = 16 * j.val + l.val; omega

/-- What one row adds to the numerators: to its segment's, the row times the gate's exponential. -/
theorem accPart_ideal (g : ℕ) (s : Fin 16 → V16 Ideal) (e : V16 Ideal) (x : Fin 256 → EReal) (E : EReal) (N : S16384.Idx → Elt Ideal .f32)
    (hs : ∀ j l : Fin 16, s j (ix1 l) = x ⟨16 * j.val + l.val, by omega⟩) (he : ∀ k, e (ix1 k) = E) (z : S16384.Idx) :
    accPart 16 (256 * g) s e N z = (N z + if g = (z 0).val / 256 then x ⟨(z 0).val % 256, Nat.mod_lt _ (by omega)⟩ * E else 0 : EReal) := by
  unfold accPart
  by_cases h : g = (z 0).val / 256
  · rw [dif_pos (by omega), if_pos h]
    rw [lane_eq]
    show (N z + s _ (ix1 _) * e (ix1 _) : EReal) = _
    rw [hs, he]
    congr 3
    refine Fin.ext ?_
    show 16 * (((z 0).val - 256 * g) / 16) + ((z 0).val - 256 * g) % 16 = (z 0).val % 256
    omega
  · rw [dif_neg (by omega), if_neg h]
    exact (add_zero (N z : EReal)).symm

/-- What one row adds to the denominators. -/
theorem accAt_ideal (g : ℕ) (e : V16 Ideal) (E : EReal) (N : S1024.Idx → Elt Ideal .f32) (he : ∀ k, e (ix1 k) = E) (z : S1024.Idx) :
    accAt (16 * g) e N z = (N z + if g = (z 0).val / 16 then E else 0 : EReal) := by
  unfold accAt
  by_cases h : g = (z 0).val / 16
  · rw [dif_pos (by omega), if_pos h]
    rw [lane_eq]
    show (N z + e (ix1 _) : EReal) = _
    rw [he]
  · rw [dif_neg (by omega), if_neg h]
    exact (add_zero (N z : EReal)).symm

/-! ## The pool -/

/-- Numerators and denominators of both matrices. -/
abbrev Quad : Type := (S16384.Idx → EReal) × (S1024.Idx → EReal) × (S16384.Idx → EReal) × (S1024.Idx → EReal)

/-- The accumulators' values. -/
def Acc.val (A : Acc Ideal) : Quad := (A.n1, A.d1, A.n2, A.d2)

/-- The exponential of a row's gate. -/
def gateE (x y : Fin 256 → EReal) : EReal := Ideal.exp (∑ c, x c * y c)

/-- What one row of segment `g` adds. -/
def rowTerm (y1 y2 x1 x2 : Fin 256 → EReal) (g : ℕ) : Quad :=
  (fun z => if g = (z 0).val / 256 then x1 ⟨(z 0).val % 256, Nat.mod_lt _ (by omega)⟩ * gateE x1 y1 else 0,
   fun z => if g = (z 0).val / 16 then gateE x1 y1 else 0,
   fun z => if g = (z 0).val / 256 then x2 ⟨(z 0).val % 256, Nat.mod_lt _ (by omega)⟩ * gateE x2 y2 else 0,
   fun z => if g = (z 0).val / 16 then gateE x2 y2 else 0)

theorem row_val (w1 w2 : Fin 16 → V16 Ideal) (y1 y2 : Fin 256 → EReal)
    (hw1 : ∀ j l : Fin 16, w1 j (ix1 l) = y1 ⟨16 * j.val + l.val, by omega⟩) (hw2 : ∀ j l : Fin 16, w2 j (ix1 l) = y2 ⟨16 * j.val + l.val, by omega⟩)
    (X1 X2 : S80x256.Idx → Elt Ideal .f32) (G : S80.Idx → BitVec 32) (t : Fin 80) (A : Acc Ideal) :
    (A.row w1 w2 X1 X2 G t).val = A.val + rowTerm y1 y2 (fun k => X1 (ix2 t k)) (fun k => X2 (ix2 t k)) (G (ix1 t)).toNat := by
  have s1 := rowSlice_ideal X1 t
  have s2 := rowSlice_ideal X2 t
  have e1 := gateV_ideal _ w1 (fun k => X1 (ix2 t k)) y1 s1 hw1
  have e2 := gateV_ideal _ w2 (fun k => X2 (ix2 t k)) y2 s2 hw2
  refine Prod.ext (funext fun z => ?_) (Prod.ext (funext fun z => ?_) (Prod.ext (funext fun z => ?_) (funext fun z => ?_)))
  · exact accPart_ideal _ (rowSlice X1 t) _ (fun k => X1 (ix2 t k)) _ _ s1 e1 z
  · exact accAt_ideal _ _ _ _ e1 z
  · exact accPart_ideal _ (rowSlice X2 t) _ (fun k => X2 (ix2 t k)) _ _ s2 e2 z
  · exact accAt_ideal _ _ _ _ e2 z

theorem rows_val (w1 w2 : Fin 16 → V16 Ideal) (y1 y2 : Fin 256 → EReal)
    (hw1 : ∀ j l : Fin 16, w1 j (ix1 l) = y1 ⟨16 * j.val + l.val, by omega⟩) (hw2 : ∀ j l : Fin 16, w2 j (ix1 l) = y2 ⟨16 * j.val + l.val, by omega⟩)
    (X1 X2 : S80x256.Idx → Elt Ideal .f32) (G : S80.Idx → BitVec 32) (A : Acc Ideal) (f : ℕ → Quad)
    (hf : ∀ t : Fin 80, f t.val = rowTerm y1 y2 (fun k => X1 (ix2 t k)) (fun k => X2 (ix2 t k)) (G (ix1 t)).toNat) (t : ℕ) (ht : t ≤ 80) :
    (Acc.rows w1 w2 X1 X2 G A t).val = A.val + ∑ r ∈ Finset.range t, f r := by
  induction t with
  | zero => simp [Acc.rows]
  | succ t ih =>
    have h : t < 80 := by omega
    rw [Acc.rows, dif_pos h, row_val w1 w2 y1 y2 hw1 hw2, ih (by omega), Finset.sum_range_succ, add_assoc, ← hf ⟨t, h⟩]

section Tile

variable {d : Dev nD} {L : grid0.Coords} (A : Sources (F := Ideal) d L) (w1 w2 : Fin 16 → V16 Ideal) (y1 y2 : Fin 256 → EReal)

/-- What row `i` adds; nothing past the last row. -/
def rowOf (y1 y2 : Fin 256 → EReal) (x1 x2 : Fin 50000 → Fin 256 → EReal) (g : Fin 50000 → ℕ) (i : ℕ) : Quad :=
  if h : i < 50000 then rowTerm y1 y2 (x1 ⟨i, h⟩) (x2 ⟨i, h⟩) (g ⟨i, h⟩) else 0

/-- What row `i` of the sources adds. -/
abbrev Sources.row (A : Sources (F := Ideal) d L) (y1 y2 : Fin 256 → EReal) : ℕ → Quad :=
  rowOf y1 y2 (fun i k => A.a1 (ix2 i k)) (fun i k => A.a2 (ix2 i k)) (fun i => (A.ag (ix1 i) : BitVec 32).toNat)

theorem x1_ix2 {c : ℕ} (hc : c < 625) (r : Fin 80) (k : Fin 256) : A.x1 hc (ix2 r k) = A.a1 (ix2 (⟨80 * c + r.val, by omega⟩ : Fin 50000) k) := by
  show A.a1 _ = A.a1 _
  congr 1
  funext a
  refine Fin.ext ?_
  match a with
  | ⟨0, _⟩ => show 80 * c + 1 * r.val = _; rw [one_mul]
  | ⟨1, _⟩ => show 0 + 1 * k.val = _; rw [one_mul, zero_add]

theorem x2_ix2 {c : ℕ} (hc : c < 625) (r : Fin 80) (k : Fin 256) : A.x2 hc (ix2 r k) = A.a2 (ix2 (⟨80 * c + r.val, by omega⟩ : Fin 50000) k) := by
  show A.a2 _ = A.a2 _
  congr 1
  funext a
  refine Fin.ext ?_
  match a with
  | ⟨0, _⟩ => show 80 * c + 1 * r.val = _; rw [one_mul]
  | ⟨1, _⟩ => show 0 + 1 * k.val = _; rw [one_mul, zero_add]

theorem g_ix1 {c : ℕ} (hc : c < 625) (r : Fin 80) : A.g hc (ix1 r) = A.ag (ix1 (⟨80 * c + r.val, by omega⟩ : Fin 50000)) := by
  show A.ag _ = A.ag _
  congr 1
  funext a
  refine Fin.ext ?_
  match a with
  | ⟨0, _⟩ => show 80 * c + 1 * r.val = _; rw [one_mul]

theorem chunk_val (hw1 : ∀ j l : Fin 16, w1 j (ix1 l) = y1 ⟨16 * j.val + l.val, by omega⟩) (hw2 : ∀ j l : Fin 16, w2 j (ix1 l) = y2 ⟨16 * j.val + l.val, by omega⟩)
    (c : ℕ) (C : Acc Ideal) : (A.chunk w1 w2 c C).val = C.val + ∑ r ∈ Finset.range 80, A.row y1 y2 (80 * c + r) := by
  unfold Sources.chunk
  split
  · rename_i hc
    refine rows_val w1 w2 y1 y2 hw1 hw2 _ _ _ C (fun r => A.row y1 y2 (80 * c + r)) (fun t => ?_) 80 le_rfl
    have ht := t.isLt
    simp only [x1_ix2, x2_ix2, g_ix1]
    exact dif_pos (show 80 * c + t.val < 50000 by omega)
  · rename_i hc
    rw [Finset.sum_eq_zero, add_zero]
    intro r _
    exact dif_neg (by omega)

theorem trips_val (hw1 : ∀ j l : Fin 16, w1 j (ix1 l) = y1 ⟨16 * j.val + l.val, by omega⟩) (hw2 : ∀ j l : Fin 16, w2 j (ix1 l) = y2 ⟨16 * j.val + l.val, by omega⟩)
    (C : Acc Ideal) (n : ℕ) : (A.trips w1 w2 C n).val = C.val + ∑ t ∈ Finset.range n,
      ((∑ r ∈ Finset.range 80, A.row y1 y2 (80 * (wid L + 64 * t) + r)) + ∑ r ∈ Finset.range 80, A.row y1 y2 (80 * (wid L + 64 * t + 32) + r)) := by
  induction n with
  | zero => simp [Sources.trips]
  | succ n ih => rw [Sources.trips, chunk_val A w1 w2 y1 y2 hw1 hw2, chunk_val A w1 w2 y1 y2 hw1 hw2, ih, add_assoc, add_assoc]; exact congrArg (C.val + ·) (Finset.sum_range_succ _ n).symm

end Tile

/-- The tiles' accumulators together: every row once. -/
theorem rows_once (f : ℕ → Quad) (hf : ∀ i, 50000 ≤ i → f i = 0) :
    ∑ w ∈ Finset.range 32, ∑ t ∈ Finset.range 10,
      ((∑ r ∈ Finset.range 80, f (80 * (w + 64 * t) + r)) + ∑ r ∈ Finset.range 80, f (80 * (w + 64 * t + 32) + r)) = ∑ i : Fin 50000, f i.val := by
  rw [sum_tiles fun c => ∑ r ∈ Finset.range 80, f (80 * c + r), sum_blocks, show 80 * 640 = 50000 + 1200 from rfl, Finset.sum_range_add,
    Finset.sum_eq_zero (s := Finset.range 1200) fun i _ => hf _ (by omega), add_zero, Finset.sum_range]

end Cert.Proof.Pool
-- ==== Proof.Ksum.lean ====
/- What the pool's tiles leave, all together. -/
module

public import proofs.«01_k».proof.Proof.Sums
public import Idealize.ShloMosaic.Lib.IdealHost

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
theorem sum_at1 {n : ℕ} (f : Fin n → Quad) (z : S16384.Idx) : (∑ i, f i).1 z = ∑ i, (f i).1 z := by rw [Prod.fst_sum, Finset.sum_apply]
theorem sum_at2 {n : ℕ} (f : Fin n → Quad) (z : S1024.Idx) : (∑ i, f i).2.1 z = ∑ i, (f i).2.1 z := by rw [Prod.snd_sum, Prod.fst_sum, Finset.sum_apply]
theorem sum_at3 {n : ℕ} (f : Fin n → Quad) (z : S16384.Idx) : (∑ i, f i).2.2.1 z = ∑ i, (f i).2.2.1 z := by rw [Prod.snd_sum, Prod.snd_sum, Prod.fst_sum, Finset.sum_apply]
theorem sum_at4 {n : ℕ} (f : Fin n → Quad) (z : S1024.Idx) : (∑ i, f i).2.2.2 z = ∑ i, (f i).2.2.2 z := by rw [Prod.snd_sum, Prod.snd_sum, Prod.snd_sum, Finset.sum_apply]

section Total

variable (Vl : Mem Ideal) (d : Dev nD)

/-- The weights of the first matrix's gate, as the pool reads them. -/
def yv1 (k : Fin 256) : EReal := (Vl d (Proc.devRef .tc main_v0) : S256.Idx → EReal) (ix1 k)
/-- The weights of the second matrix's gate, as the pool reads them. -/
def yv2 (k : Fin 256) : EReal := (Vl d (Proc.devRef .tc main_v1) : S256.Idx → EReal) (ix1 k)
/-- The first matrix's rows. -/
def xv1 (i : Fin 50000) (k : Fin 256) : EReal := (Vl d (Proc.devRef .tc main_arg1) : S50000x256.Idx → EReal) (ix2 i k)
/-- The second matrix's rows. -/
def xv2 (i : Fin 50000) (k : Fin 256) : EReal := (Vl d (Proc.devRef .tc main_arg2) : S50000x256.Idx → EReal) (ix2 i k)
/-- The rows' segments. -/
def gv (i : Fin 50000) : ℕ := ((Vl d (Proc.devRef .tc main_arg3) : S50000.Idx → BitVec 32) (ix1 i)).toNat

/-- What a tile's accumulators hold at the end: what its rows add. -/
theorem tileOut_val (L : grid0.Coords) : (tileOut Vl d L).val = ∑ t ∈ Finset.range 10,
    ((∑ r ∈ Finset.range 80, rowOf (yv1 Vl d) (yv2 Vl d) (xv1 Vl d) (xv2 Vl d) (gv Vl d) (80 * (wid L + 64 * t) + r))
      + ∑ r ∈ Finset.range 80, rowOf (yv1 Vl d) (yv2 Vl d) (xv1 Vl d) (xv2 Vl d) (gv Vl d) (80 * (wid L + 64 * t + 32) + r)) := by
  unfold tileOut Sources.result
  refine (trips_val (srcs Vl d L) _ _ (yv1 Vl d) (yv2 Vl d) (fun j l => ?_) (fun j l => ?_) _ 10).trans ?_
  · rfl
  · rfl
  · have hz : (Acc.zero : Acc Ideal).val = 0 := by
      unfold Acc.val Acc.zero
      refine Prod.ext ?_ (Prod.ext ?_ (Prod.ext ?_ ?_)) <;> (funext z; exact Ideal.ofBits_zero_f32)
    have hr : (srcs Vl d L).row (yv1 Vl d) (yv2 Vl d) = rowOf (yv1 Vl d) (yv2 Vl d) (xv1 Vl d) (xv2 Vl d) (gv Vl d) := rfl
    rw [hz, zero_add, hr]

theorem wid_tile (w : Fin 32) : wid (tileAt ⟨w.val % 2, Nat.mod_lt _ (by decide)⟩ ⟨w.val / 2, by omega⟩) = w.val := by
  show 2 * (w.val / 2) + w.val % 2 = w.val
  omega

/-- The accumulators of all tiles together: what every row adds, once. -/
theorem tiles_total : ∑ w : Fin 32, (tiles Vl d ⟨w.val % 2, Nat.mod_lt _ (by decide)⟩ ⟨w.val / 2, by omega⟩).val
    = ∑ i : Fin 50000, rowTerm (yv1 Vl d) (yv2 Vl d) (xv1 Vl d i) (xv2 Vl d i) (gv Vl d i) := by
  have h1 := rows_once (rowOf (yv1 Vl d) (yv2 Vl d) (xv1 Vl d) (xv2 Vl d) (gv Vl d)) (fun i hi => by unfold rowOf; exact dif_neg (by omega))
  refine Eq.trans ?_ (h1.trans (Finset.sum_congr rfl fun i _ => ?_))
  · rw [Finset.sum_range]
    refine Finset.sum_congr rfl fun w _ => ?_
    rw [tileOut_val, wid_tile]
  · unfold rowOf
    rw [dif_pos i.isLt]

theorem total1 {n N : ℕ} (Y : Fin n → Acc Ideal) (R : Fin N → Quad) (h : ∑ w, (Y w).val = ∑ i, R i) (z : S16384.Idx) :
    ∑ w, ((Y w).n1 z : EReal) = ∑ i, (R i).1 z :=
  (sum_at1 (fun w => (Y w).val) z).symm.trans ((congrFun (congrArg (fun q : Quad => q.1) h) z).trans (sum_at1 R z))
theorem total2 {n N : ℕ} (Y : Fin n → Acc Ideal) (R : Fin N → Quad) (h : ∑ w, (Y w).val = ∑ i, R i) (z : S1024.Idx) :
    ∑ w, ((Y w).d1 z : EReal) = ∑ i, (R i).2.1 z :=
  (sum_at2 (fun w => (Y w).val) z).symm.trans ((congrFun (congrArg (fun q : Quad => q.2.1) h) z).trans (sum_at2 R z))
theorem total3 {n N : ℕ} (Y : Fin n → Acc Ideal) (R : Fin N → Quad) (h : ∑ w, (Y w).val = ∑ i, R i) (z : S16384.Idx) :
    ∑ w, ((Y w).n2 z : EReal) = ∑ i, (R i).2.2.1 z :=
  (sum_at3 (fun w => (Y w).val) z).symm.trans ((congrFun (congrArg (fun q : Quad => q.2.2.1) h) z).trans (sum_at3 R z))
theorem total4 {n N : ℕ} (Y : Fin n → Acc Ideal) (R : Fin N → Quad) (h : ∑ w, (Y w).val = ∑ i, R i) (z : S1024.Idx) :
    ∑ w, ((Y w).d2 z : EReal) = ∑ i, (R i).2.2.2 z :=
  (sum_at4 (fun w => (Y w).val) z).symm.trans ((congrFun (congrArg (fun q : Quad => q.2.2.2) h) z).trans (sum_at4 R z))

/-- The tiles in the order of their numbers. -/
def tileW (w : Fin 32) : Acc Ideal := tiles Vl d ⟨w.val % 2, Nat.mod_lt _ (by decide)⟩ ⟨w.val / 2, by omega⟩
/-- What row `i` adds. -/
def rowI (i : Fin 50000) : Quad := rowTerm (yv1 Vl d) (yv2 Vl d) (xv1 Vl d i) (xv2 Vl d i) (gv Vl d i)

theorem tileW_total : ∑ w : Fin 32, (tileW Vl d w).val = ∑ i : Fin 50000, rowI Vl d i := tiles_total Vl d

/-- The first numerators of all tiles: over the rows of the segment, the rows times the gate's exponential. -/
theorem fst_total (s : Fin 64) (k : Fin 256) (z : S16384.Idx) (hz : (z 0).val = 256 * s.val + k.val) : ∑ w : Fin 32, ((tileW Vl d w).n1 z : EReal)
    = ∑ i : Fin 50000, if gv Vl d i = s.val then xv1 Vl d i k * gateE (xv1 Vl d i) (yv1 Vl d) else 0 := by
  refine (total1 (tileW Vl d) (rowI Vl d) (tileW_total Vl d) z).trans (Finset.sum_congr rfl fun i _ => ?_)
  show (if gv Vl d i = (z 0).val / 256 then xv1 Vl d i ⟨(z 0).val % 256, Nat.mod_lt _ (by omega)⟩ * gateE (xv1 Vl d i) (yv1 Vl d) else 0) = _
  rw [show (z 0).val / 256 = s.val by omega, show (⟨(z 0).val % 256, Nat.mod_lt _ (by omega)⟩ : Fin 256) = k from Fin.ext (by show (z 0).val % 256 = k.val; omega)]
/-- The first denominators of all tiles. -/
theorem snd_total (s : Fin 64) (z : S1024.Idx) (hz : (z 0).val = 16 * s.val) : ∑ w : Fin 32, ((tileW Vl d w).d1 z : EReal)
    = ∑ i : Fin 50000, if gv Vl d i = s.val then gateE (xv1 Vl d i) (yv1 Vl d) else 0 := by
  refine (total2 (tileW Vl d) (rowI Vl d) (tileW_total Vl d) z).trans (Finset.sum_congr rfl fun i _ => ?_)
  show (if gv Vl d i = (z 0).val / 16 then gateE (xv1 Vl d i) (yv1 Vl d) else 0) = _
  rw [show (z 0).val / 16 = s.val by omega]
/-- The second numerators of all tiles. -/
theorem trd_total (s : Fin 64) (k : Fin 256) (z : S16384.Idx) (hz : (z 0).val = 256 * s.val + k.val) : ∑ w : Fin 32, ((tileW Vl d w).n2 z : EReal)
    = ∑ i : Fin 50000, if gv Vl d i = s.val then xv2 Vl d i k * gateE (xv2 Vl d i) (yv2 Vl d) else 0 := by
  refine (total3 (tileW Vl d) (rowI Vl d) (tileW_total Vl d) z).trans (Finset.sum_congr rfl fun i _ => ?_)
  show (if gv Vl d i = (z 0).val / 256 then xv2 Vl d i ⟨(z 0).val % 256, Nat.mod_lt _ (by omega)⟩ * gateE (xv2 Vl d i) (yv2 Vl d) else 0) = _
  rw [show (z 0).val / 256 = s.val by omega, show (⟨(z 0).val % 256, Nat.mod_lt _ (by omega)⟩ : Fin 256) = k from Fin.ext (by show (z 0).val % 256 = k.val; omega)]
/-- The second denominators of all tiles. -/
theorem fth_total (s : Fin 64) (z : S1024.Idx) (hz : (z 0).val = 16 * s.val) : ∑ w : Fin 32, ((tileW Vl d w).d2 z : EReal)
    = ∑ i : Fin 50000, if gv Vl d i = s.val then gateE (xv2 Vl d i) (yv2 Vl d) else 0 := by
  refine (total4 (tileW Vl d) (rowI Vl d) (tileW_total Vl d) z).trans (Finset.sum_congr rfl fun i _ => ?_)
  show (if gv Vl d i = (z 0).val / 16 then gateE (xv2 Vl d i) (yv2 Vl d) else 0) = _
  rw [show (z 0).val / 16 = s.val by omega]

/-- Element `(w, s, k)` of the sums' array, cut into the tiles' blocks, is tile `w`'s. -/
theorem sums_at (Y : Fin 2 → Fin 16 → S16384.Idx → EReal) (w : Fin 32) (s : Fin 64) (k : Fin 256) :
    shapeCast S32x64x256 (flat (F := Ideal) (N := 524288) (n := 16384) (by decide) Y : S524288.Idx → EReal) shapeCasts_S524288_S32x64x256 (ix3 w s k)
      = Y ⟨w.val % 2, Nat.mod_lt _ (by decide)⟩ ⟨w.val / 2, by omega⟩ (ix1 (⟨256 * s.val + k.val, by omega⟩ : Fin 16384)) := by
  refine (shapeCast_apply _ _ _ (ix1 (⟨16384 * w.val + (256 * s.val + k.val), by omega⟩ : Fin 524288)) ?_).trans ?_
  · rw [Shape.rowMajor_val_one, Shape.rowMajor_val_three]
    show 16384 * w.val + (256 * s.val + k.val) = (w.val * 64 + s.val) * 256 + k.val
    omega
  · exact flat_block (F := Ideal) (by decide) Y _ _ _ _ (by
      show 16384 * w.val + (256 * s.val + k.val) = 16384 * (2 * (w.val / 2) + w.val % 2) + (256 * s.val + k.val)
      omega)

/-- Element `(w, s, l)` of the denominators' array, cut into the tiles' blocks, is tile `w`'s. -/
theorem dens_at (Y : Fin 2 → Fin 16 → S1024.Idx → EReal) (w : Fin 32) (s : Fin 64) (l : Fin 16) :
    shapeCast S32x64x16 (flat (F := Ideal) (N := 32768) (n := 1024) (by decide) Y : S32768.Idx → EReal) shapeCasts_S32768_S32x64x16 (ix3 w s l)
      = Y ⟨w.val % 2, Nat.mod_lt _ (by decide)⟩ ⟨w.val / 2, by omega⟩ (ix1 (⟨16 * s.val + l.val, by omega⟩ : Fin 1024)) := by
  refine (shapeCast_apply _ _ _ (ix1 (⟨1024 * w.val + (16 * s.val + l.val), by omega⟩ : Fin 32768)) ?_).trans ?_
  · rw [Shape.rowMajor_val_one, Shape.rowMajor_val_three]
    show 1024 * w.val + (16 * s.val + l.val) = (w.val * 64 + s.val) * 16 + l.val
    omega
  · exact flat_block (F := Ideal) (by decide) Y _ _ _ _ (by
      show 1024 * w.val + (16 * s.val + l.val) = 1024 * (2 * (w.val / 2) + w.val % 2) + (16 * s.val + l.val)
      omega)

end Total

end Cert.Proof.Pool
-- ==== Proof.Dense.lean ====
/- The two dense kernels over the extended reals, at an index. -/
module

public import proofs.«01_k».proof.Proof.Kern
public import Idealize.ShloMosaic.Lib.IdealHost

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ

/-! ## The attention -/

/-- A denominator, or one where there is none. -/
def denOr1 (D : EReal) : EReal := if 0 < D then D else 1

/-- The score of a row of `q` against pooled sums `N` over `D`. -/
def score (q : Fin 256 → EReal) (N : Fin 256 → EReal) (D : EReal) : EReal := ∑ k, q k * Ideal.div (N k) (denOr1 D)

/-- The two weights of a pair of scores. -/
def soft (a b : EReal) (c : Fin 2) : EReal :=
  Ideal.div (Ideal.exp ((if c = 0 then a else b) - max a b)) (Ideal.exp (a - max a b) + Ideal.exp (b - max a b))

theorem select_ogt (x : EReal) : Scalar.select (Ideal.cmp .ogt x 0) x 1 = denOr1 x := by
  unfold denOr1 Scalar.select Ideal.cmp
  by_cases h : 0 < x
  · simp [h]
  · simp [h]

/-- The first score the attention's kernel computes at a segment. -/
theorem pay3_ideal (q : Vec Ideal S64x256 .f32) (n : Vec Ideal S32x64x256 .f32) (dn : Vec Ideal S32x64x16 .f32) (s : Fin 64) :
    k1_pay3 q n dn (ix2 s (0 : Fin 1)) = score (fun k => q (ix2 s k)) (fun k => ∑ w : Fin 32, n (ix3 w s k)) (∑ w : Fin 32, dn (ix3 w s (0 : Fin 16))) := by
  unfold k1_pay3
  dsimp only
  refine (shapeCast_apply _ _ _ (ix1 s) (by rw [Shape.rowMajor_val_two, Shape.rowMajor_val_one]; show s.val = s.val * 1 + 0; omega)).trans ?_
  refine (Ideal.multiReduction_add_single _ _ reduces_S64x256_S64 _ _ _).trans ?_
  unfold score
  refine Finset.sum_congr rfl fun k _ => ?_
  have hl : reduces_S64x256_S64.lift (ix1 s) k = ix2 s k := by
    funext a
    match a with
    | ⟨0, _⟩ => rfl
    | ⟨1, _⟩ => rfl
  rw [hl]
  unfold k1_pay2
  dsimp only
  rw [shapeCast_self, shapeCast_self, shapeCast_self]
  show (q (ix2 s k) * Ideal.div _ _ : EReal) = _
  congr 2
  · refine (Ideal.multiReduction_add_single _ _ reduces_S32x64x256_S64x256 _ _ _).trans (Finset.sum_congr rfl fun w _ => congrArg n ?_)
    funext a
    match a with
    | ⟨0, _⟩ => rfl
    | ⟨1, _⟩ => rfl
    | ⟨2, _⟩ => rfl
  · have hv : extractStridedSlice S64x1 ![0, 0] (multiReduction (F := Ideal) .add [0] S64x16 dn 0x00000000#32 reduces_S32x64x16_S64x16 (.inl rfl) rfl) slices_S64x16_o0_0_S64x1 (ix2 s (0 : Fin 1))
        = (∑ w : Fin 32, dn (ix3 w s (0 : Fin 16)) : EReal) := by
      refine (extractStridedSlice_apply _ _ _ _ (ix2 s (0 : Fin 16)) (fun a => ?_)).trans ?_
      · match a with
        | ⟨0, _⟩ => show s.val = 0 + s.val; omega
        | ⟨1, _⟩ => rfl
      · refine (Ideal.multiReduction_add_single _ _ reduces_S32x64x16_S64x16 _ _ _).trans (Finset.sum_congr rfl fun w _ => congrArg dn ?_)
        funext a
        match a with
        | ⟨0, _⟩ => rfl
        | ⟨1, _⟩ => rfl
        | ⟨2, _⟩ => rfl
    refine (broadcastTo_apply _ _ _ (ix2 s (0 : Fin 1)) (fun a => ?_)).trans ?_
    · match a with
      | ⟨0, _⟩ => rfl
      | ⟨1, _⟩ => rfl
    · show Scalar.select (Ideal.cmp .ogt (extractStridedSlice S64x1 ![0, 0] (multiReduction (F := Ideal) .add [0] S64x16 dn 0x00000000#32 reduces_S32x64x16_S64x16 (.inl rfl) rfl) slices_S64x16_o0_0_S64x1 (ix2 s (0 : Fin 1))) (Ideal.ofBits .f32 0x00000000#32)) _ (Ideal.ofBits .f32 0x3F800000#32) = _
      rw [hv, Ideal.ofBits_zero_f32, Ideal.ofBits_one_f32]
      exact select_ogt _

/-- The second score is computed as the first. -/
theorem pay4_eq (q : Vec Ideal S64x256 .f32) (n : Vec Ideal S32x64x256 .f32) (dn : Vec Ideal S32x64x16 .f32) : k1_pay4 q n dn = k1_pay3 q n dn := rfl

/-- The attention: the two weights of the two scores. -/
theorem attVal_ideal (q : Vec Ideal S64x256 .f32) (n1 : Vec Ideal S32x64x256 .f32) (d1 : Vec Ideal S32x64x16 .f32) (n2 : Vec Ideal S32x64x256 .f32) (d2 : Vec Ideal S32x64x16 .f32)
    (s : Fin 64) (c : Fin 2) :
    attVal q n1 d1 n2 d2 (ix2 s c) = soft (k1_pay3 q n1 d1 (ix2 s (0 : Fin 1))) (k1_pay3 q n2 d2 (ix2 s (0 : Fin 1))) c := by
  unfold attVal k1_pay1 k1_pay6 k1_pay5
  dsimp only
  rw [pay4_eq]
  match c with
  | ⟨0, _⟩ =>
    refine (concatenate_pair_apply_left (t := S64x2) (s₁ := S64x1) (s₂ := S64x1) _ _ _ _ _ rfl (ix2 s (0 : Fin 1)) (fun b => ?_)).trans ?_
    · match b with
      | ⟨0, _⟩ => rfl
      | ⟨1, _⟩ => rfl
    · rfl
  | ⟨1, _⟩ =>
    refine (concatenate_pair_apply_right (t := S64x2) (s₁ := S64x1) (s₂ := S64x1) _ _ _ _ _ rfl rfl (ix2 s (0 : Fin 1)) (fun b hb => ?_) ?_).trans ?_
    · match b with
      | ⟨0, _⟩ => rfl
      | ⟨1, _⟩ => exact absurd rfl hb
    · rfl
    · rfl

/-! ## The mix -/

theorem hot_eq (v : BitVec 32) (k : Fin 64) (h : v.toNat < 64) :
    (FloatOps.sitofp (F := Ideal) .f32 ((IntOp.cmpi .eq v (BitVec.ofNat 32 (0 * 64 + k.val))).setWidth 32) : EReal) = if k.val = v.toNat then 1 else 0 := by
  have hk := k.isLt
  show (((_ : BitVec 32).toInt : ℝ) : EReal) = _
  by_cases e : k.val = v.toNat
  · have : v = BitVec.ofNat 32 (0 * 64 + k.val) := by
      apply BitVec.eq_of_toNat_eq
      rw [BitVec.toNat_ofNat, Nat.mod_eq_of_lt (by omega)]
      omega
    rw [if_pos e, ← this]
    simp [IntOp.cmpi]
  · have : ¬ v = BitVec.ofNat 32 (0 * 64 + k.val) := fun hv => e (by
      have := congrArg BitVec.toNat hv
      rw [BitVec.toNat_ofNat, Nat.mod_eq_of_lt (by omega)] at this
      omega)
    rw [if_neg e]
    have hb : (v == BitVec.ofNat 32 (0 * 64 + k.val)) = false := beq_eq_false_iff_ne.mpr this
    simp only [IntOp.cmpi, hb]
    simp

/-- A row of the mix: the two rows, weighted by the attention of the row's segment. -/
theorem mix_ideal (g : Vec Ideal S1x1x5000 .i32) (att : Vec Ideal S64x2 .f32) (x1 x2 : Vec Ideal S5000x256 .f32) (r : Fin 5000) (k : Fin 256) (s : Fin 64)
    (hg : (g (ix3 (0 : Fin 1) (0 : Fin 1) r) : BitVec 32).toNat = s.val) :
    k2_pay1 g att x1 x2 (ix2 r k) = (x1 (ix2 r k) * att (ix2 s (0 : Fin 2)) + x2 (ix2 r k) * att (ix2 s (1 : Fin 2)) : EReal) := by
  have hs := s.isLt
  unfold k2_pay1
  dsimp only
  rw [shapeCast_self]
  have hm : ∀ c : Fin 2, matmul (φ₂ := .f32) dot_S5000x64_S64x2_S5000x2_1_0_0_1_n_n none
      (sitofp (F := Ideal) .f32 (extui 32 (cmpi .eq (broadcastTo S5000x64 (shapeCast S5000x1 (shapeCast S5000 g shapeCasts_S1x1x5000_S5000) shapeCasts_S5000_S5000x1) broadcasts_S5000x1_S5000x64)
        (iota .tc S5000x64 32 [1] iota_S5000x64_d1_w32)) natLt_1_32)) att (constant S5000x2 .f32 0x00000000#32) (ix2 r c) = (att (ix2 s c) : EReal) := by
    intro c
    refine (Ideal.matmul_constant_zero_apply _ _ _ _ _).trans ?_
    rw [← (contrEquiv1 dot_S5000x64_S64x2_S5000x2_1_0_0_1_n_n 64 rfl rfl).symm.sum_comp]
    refine (Finset.sum_congr rfl fun (i : Fin 64) _ => ?_).trans (Finset.sum_ite_eq' Finset.univ s (fun i => (att (ix2 i c) : EReal)) |>.trans (if_pos (Finset.mem_univ _)))
    have hl : dot_S5000x64_S64x2_S5000x2_1_0_0_1_n_n.lhsIdx (ix2 r c) ((contrEquiv1 dot_S5000x64_S64x2_S5000x2_1_0_0_1_n_n 64 rfl rfl).symm i) = ix2 r i := by
      funext a
      match a with
      | ⟨0, _⟩ => rfl
      | ⟨1, _⟩ => rfl
    have hr : dot_S5000x64_S64x2_S5000x2_1_0_0_1_n_n.rhsIdx (ix2 r c) ((contrEquiv1 dot_S5000x64_S64x2_S5000x2_1_0_0_1_n_n 64 rfl rfl).symm i) = ix2 i c := by
      funext a
      match a with
      | ⟨0, _⟩ => rfl
      | ⟨1, _⟩ => rfl
    rw [hl, hr]
    have hb : broadcastTo S5000x64 (shapeCast S5000x1 (shapeCast S5000 g shapeCasts_S1x1x5000_S5000) shapeCasts_S5000_S5000x1) broadcasts_S5000x1_S5000x64 (ix2 r i)
        = g (ix3 (0 : Fin 1) (0 : Fin 1) r) := by
      refine (broadcastTo_apply _ _ _ (ix2 r (0 : Fin 1)) (fun a => ?_)).trans ?_
      · match a with
        | ⟨0, _⟩ => rfl
        | ⟨1, _⟩ => rfl
      refine (shapeCast_apply _ _ _ (ix1 r) (by rw [Shape.rowMajor_val_two, Shape.rowMajor_val_one]; show r.val = r.val * 1 + 0; omega)).trans ?_
      exact shapeCast_apply _ _ _ _ (by rw [Shape.rowMajor_val_three, Shape.rowMajor_val_one]; show (0 * 1 + 0) * 5000 + r.val = r.val; omega)
    show (FloatOps.sitofp (F := Ideal) .f32 ((IntOp.cmpi .eq (broadcastTo S5000x64 (shapeCast S5000x1 (shapeCast S5000 g shapeCasts_S1x1x5000_S5000) shapeCasts_S5000_S5000x1) broadcasts_S5000x1_S5000x64 (ix2 r i)) (BitVec.ofNat 32 (0 * 64 + i.val))).setWidth 32) * att (ix2 i c) : EReal) = _
    rw [hb, hot_eq _ _ (by rw [hg]; exact hs), hg]
    by_cases e : i = s
    · rw [if_pos e, if_pos (congrArg Fin.val e), one_mul]
    · rw [if_neg e, if_neg (fun h => e (Fin.ext h)), zero_mul]
  show (x1 (ix2 r k) * _ + x2 (ix2 r k) * _ : EReal) = _
  congr 2
  · refine (broadcastTo_apply _ _ _ (ix2 r (0 : Fin 1)) (fun a => ?_)).trans ?_
    · match a with
      | ⟨0, _⟩ => rfl
      | ⟨1, _⟩ => rfl
    · refine (extractStridedSlice_apply _ _ _ _ (ix2 r (0 : Fin 2)) (fun a => ?_)).trans (hm 0)
      match a with
      | ⟨0, _⟩ => show r.val = 0 + r.val; omega
      | ⟨1, _⟩ => rfl
  · refine (broadcastTo_apply _ _ _ (ix2 r (0 : Fin 1)) (fun a => ?_)).trans ?_
    · match a with
      | ⟨0, _⟩ => rfl
      | ⟨1, _⟩ => rfl
    · refine (extractStridedSlice_apply _ _ _ _ (ix2 r (1 : Fin 2)) (fun a => ?_)).trans (hm 1)
      match a with
      | ⟨0, _⟩ => show r.val = 0 + r.val; omega
      | ⟨1, _⟩ => rfl

end Cert.Proof.Pool
-- ==== Proof.Kmix.lean ====
/- What the two dense kernels leave in their arrays. -/
module

public import proofs.«01_k».proof.Proof.Dense
public import Idealize.ShloMosaic.Lib.Pipeline.ValueKit.Geometry

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
open Idealize.ShloMosaic.Pipeline (Dat afterRegion)

/-! ## The arrays the two dense kernels leave -/

section Arrays

variable (Vl : Mem Ideal) (d : Dev nD)

theorem idx2_0 : ∀ t : Fin cfg2.N, win2_0.index t = ![t.val, 0, 0] := (by decide +kernel : ∀ t : Fin grid2.N, win2_0.index t = ![t.val, 0, 0])
theorem idx2_1 : ∀ t : Fin cfg2.N, win2_1.index t = ![t.val, 0] := (by decide +kernel : ∀ t : Fin grid2.N, win2_1.index t = ![t.val, 0])
theorem idx2_2 : ∀ t : Fin cfg2.N, win2_2.index t = ![t.val, 0] := (by decide +kernel : ∀ t : Fin grid2.N, win2_2.index t = ![t.val, 0])
theorem idx2_3 : ∀ t : Fin cfg2.N, win2_3.index t = ![0, 0] := (by decide +kernel : ∀ t : Fin grid2.N, win2_3.index t = ![0, 0])
theorem idx2_4 : ∀ t : Fin cfg2.N, win2_4.index t = ![t.val, 0] := (by decide +kernel : ∀ t : Fin grid2.N, win2_4.index t = ![t.val, 0])

/-- Row `r` of the mix's block `t`, in the whole matrix. -/
def rowIn (t : Fin cfg2.N) (r : Fin 5000) : Fin 50000 := ⟨5000 * t.val + r.val, by have ht : t.val < 10 := t.isLt; have := r.isLt; omega⟩

theorem a2_0_at (t : Fin cfg2.N) (r : Fin 5000) :
    a2_0 Vl d t (ix3 (0 : Fin 1) (0 : Fin 1) r) = (Vl d (Proc.devRef .tc main_v11) : S10x1x5000.Idx → BitVec 32) (ix3 (⟨t.val, t.isLt⟩ : Fin 10) (0 : Fin 1) r) := by
  unfold a2_0
  blk_simp
  refine congrArg (Vl d (Proc.devRef .tc main_v11) : S10x1x5000.Idx → BitVec 32) ?_
  blk_ext [idx2_0]

theorem a2_1_at (t : Fin cfg2.N) (r : Fin 5000) (k : Fin 256) :
    a2_1 Vl d t (ix2 r k) = (Vl d (Proc.devRef .tc main_arg1) : S50000x256.Idx → EReal) (ix2 (rowIn t r) k) := by
  unfold a2_1
  blk_simp
  refine congrArg (Vl d (Proc.devRef .tc main_arg1) : S50000x256.Idx → EReal) ?_
  unfold rowIn
  blk_ext [idx2_1]
  show t.val * 5000 + r.val = 5000 * t.val + r.val
  omega

theorem a2_2_at (t : Fin cfg2.N) (r : Fin 5000) (k : Fin 256) :
    a2_2 Vl d t (ix2 r k) = (Vl d (Proc.devRef .tc main_arg2) : S50000x256.Idx → EReal) (ix2 (rowIn t r) k) := by
  unfold a2_2
  blk_simp
  refine congrArg (Vl d (Proc.devRef .tc main_arg2) : S50000x256.Idx → EReal) ?_
  unfold rowIn
  blk_ext [idx2_2]
  show t.val * 5000 + r.val = 5000 * t.val + r.val
  omega

theorem a2_3_at (t : Fin cfg2.N) (s : Fin 64) (c : Fin 2) :
    a2_3 Vl d t (ix2 s c) = (Vl d (Proc.devRef .tc main_v10) : S64x2.Idx → EReal) (ix2 s c) := by
  unfold a2_3
  blk_simp
  refine congrArg (Vl d (Proc.devRef .tc main_v10) : S64x2.Idx → EReal) ?_
  blk_ext [idx2_3]

/-- The mix, row by row: `g` is each row's segment, `att` the attention. -/
def mixed (g : Fin 50000 → Fin 64) (att : S64x2.Idx → EReal) (x1 x2 : S50000x256.Idx → EReal) : S50000x256.Idx → EReal :=
  fun j => x1 j * att (ix2 (g (j 0)) (0 : Fin 2)) + x2 j * att (ix2 (g (j 0)) (1 : Fin 2))

theorem emb2_4 (t : Fin cfg2.N) (r : Fin 5000) (k : Fin 256) :
    (((cfg2.win 4).blk t).view.emb (ix2 r k : S5000x256.Idx) : S50000x256.Idx) = ix2 (rowIn t r) k := by
  unfold rowIn
  blk_ext [idx2_4]
  show t.val * 5000 + r.val = 5000 * t.val + r.val
  omega

/-- The mix's array. -/
theorem mix_arr (g : Fin 50000 → Fin 64)
    (hg : ∀ (t : Fin cfg2.N) (r : Fin 5000), ((Vl d (Proc.devRef .tc main_v11) : S10x1x5000.Idx → BitVec 32) (ix3 (⟨t.val, t.isLt⟩ : Fin 10) (0 : Fin 1) r)).toNat = (g (rowIn t r)).val) :
    (dat2 Vl d).arrAt 4 cfg2.N
      = mixed g (Vl d (Proc.devRef .tc main_v10)) (Vl d (Proc.devRef .tc main_arg1)) (Vl d (Proc.devRef .tc main_arg2)) := by
  refine (dat2 Vl d).arrAt_eq_of_covers 4 _ (by decide +kernel) fun t hf y => ?_
  obtain ⟨r, k, rfl⟩ : ∃ (r : Fin 5000) (k : Fin 256), (y : S5000x256.Idx) = ix2 r k := ⟨(y : S5000x256.Idx) 0, (y : S5000x256.Idx) 1, eq_ix2 _⟩
  refine Eq.trans ?_ (congrArg (mixed g (Vl d (Proc.devRef .tc main_v10)) (Vl d (Proc.devRef .tc main_arg1)) (Vl d (Proc.devRef .tc main_arg2))) (emb2_4 t r k)).symm
  show a2_4 Vl d t (ix2 r k) = _
  unfold a2_4
  refine (mix_ideal _ _ _ _ r k (g (rowIn t r)) ?_).trans ?_
  · rw [a2_0_at]; exact hg t r
  · rw [a2_1_at, a2_2_at, a2_3_at, a2_3_at]
    rfl

theorem idx1_0 : ∀ t : Fin cfg1.N, win1_0.index t = ![0, 0] := (by decide +kernel : ∀ t : Fin grid1.N, win1_0.index t = ![0, 0])
theorem idx1_1 : ∀ t : Fin cfg1.N, win1_1.index t = ![0, 0, 0] := (by decide +kernel : ∀ t : Fin grid1.N, win1_1.index t = ![0, 0, 0])
theorem idx1_2 : ∀ t : Fin cfg1.N, win1_2.index t = ![0, 0, 0] := (by decide +kernel : ∀ t : Fin grid1.N, win1_2.index t = ![0, 0, 0])
theorem idx1_3 : ∀ t : Fin cfg1.N, win1_3.index t = ![0, 0, 0] := (by decide +kernel : ∀ t : Fin grid1.N, win1_3.index t = ![0, 0, 0])
theorem idx1_4 : ∀ t : Fin cfg1.N, win1_4.index t = ![0, 0, 0] := (by decide +kernel : ∀ t : Fin grid1.N, win1_4.index t = ![0, 0, 0])
theorem idx1_5 : ∀ t : Fin cfg1.N, win1_5.index t = ![0, 0] := (by decide +kernel : ∀ t : Fin grid1.N, win1_5.index t = ![0, 0])

theorem a1_0_eq (t : Fin cfg1.N) : a1_0 Vl d t = (Vl d (Proc.devRef .tc main_v9) : S64x256.Idx → EReal) := by
  funext j
  unfold a1_0
  blk_simp
  refine congrArg (Vl d (Proc.devRef .tc main_v9) : S64x256.Idx → EReal) ?_
  blk_ext [idx1_0]
theorem a1_1_eq (t : Fin cfg1.N) : a1_1 Vl d t = (Vl d (Proc.devRef .tc main_v3) : S32x64x256.Idx → EReal) := by
  funext j
  unfold a1_1
  blk_simp
  refine congrArg (Vl d (Proc.devRef .tc main_v3) : S32x64x256.Idx → EReal) ?_
  blk_ext [idx1_1]
theorem a1_2_eq (t : Fin cfg1.N) : a1_2 Vl d t = (Vl d (Proc.devRef .tc main_v4) : S32x64x16.Idx → EReal) := by
  funext j
  unfold a1_2
  blk_simp
  refine congrArg (Vl d (Proc.devRef .tc main_v4) : S32x64x16.Idx → EReal) ?_
  blk_ext [idx1_2]
theorem a1_3_eq (t : Fin cfg1.N) : a1_3 Vl d t = (Vl d (Proc.devRef .tc main_v5) : S32x64x256.Idx → EReal) := by
  funext j
  unfold a1_3
  blk_simp
  refine congrArg (Vl d (Proc.devRef .tc main_v5) : S32x64x256.Idx → EReal) ?_
  blk_ext [idx1_3]
theorem a1_4_eq (t : Fin cfg1.N) : a1_4 Vl d t = (Vl d (Proc.devRef .tc main_v6) : S32x64x16.Idx → EReal) := by
  funext j
  unfold a1_4
  blk_simp
  refine congrArg (Vl d (Proc.devRef .tc main_v6) : S32x64x16.Idx → EReal) ?_
  blk_ext [idx1_4]

/-- The attention's array. -/
theorem att_arr : (dat1 Vl d).arrAt 5 cfg1.N
    = attVal (F := Ideal) (Vl d (Proc.devRef .tc main_v9)) (Vl d (Proc.devRef .tc main_v3)) (Vl d (Proc.devRef .tc main_v4)) (Vl d (Proc.devRef .tc main_v5)) (Vl d (Proc.devRef .tc main_v6)) := by
  refine (dat1 Vl d).arrAt_eq_of_covers 5 _ (by decide +kernel) fun t hf y => ?_
  have he : (((cfg1.win 5).blk t).view.emb y : S64x2.Idx) = y := by
    blk_ext [idx1_5]
  rw [he]
  show a1_5 Vl d t y = _
  unfold a1_5
  rw [a1_0_eq, a1_1_eq, a1_2_eq, a1_3_eq, a1_4_eq]

end Arrays

end Cert.Proof.Pool
-- ==== Proof.Kval.lean ====
/- The kernel's result over the extended reals, at an index. -/
module

public import proofs.«01_k».proof.Proof.Ksum
public import proofs.«01_k».proof.Proof.Kmix
public import Idealize.ShloMosaic.Lib.Routing.OpsSet
public import Idealize.ShloMosaic.Lib.Routing.OpsPair
public import proofs.«01_k».proof.Proof.Frames

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {F : FTy → Type} [FloatOps F]

local notation "𝕄" => MT nD τ sig (HIx 1) (Elt F) ℕ UU ℕ
open Idealize.ShloMosaic.Pipeline (Dat afterRegion)
open Idealize.ShloMosaic.StableHlo (held after)

section Chain

variable (m : (ℓ : Loc nD τ sig) → Buf (Elt Ideal) ℓ) (d : Dev nD)

/-- The arguments are as they began when the attention's kernel has run. -/
theorem mem4_arg (r : Ref sig .tc) (h : r ∈ args) : mem4 m d (Proc.devRef .tc r) = m (d, Proc.devRef .tc r) := by
  have h4 : ∀ r ∈ args, ∀ w, Pipeline.arrRef spec1 w = r → (spec1 w).isOut = false := by decide
  have h3 : ∀ r ∈ args, r ∉ wroteB := by decide
  have h2 : ∀ r ∈ args, (Proc.devRef (τ := τ) .tc r) ∉ outRefs := by decide
  have h1 : ∀ r ∈ args, r ≠ main_v0 ∧ r ≠ main_v1 := by decide
  rw [mem4_keeps m d r (h4 r h), mem3_keeps m d r (h3 r h), show mem2 m d = outMem (tiles (mem1 m) d) (mem1 m d) from rfl,
    outMem_of_not_mem _ _ _ (h2 r h), mem1_keeps m d r (h1 r h).1 (h1 r h).2]

/-! ## The weights -/

theorem mem1_v0 : (mem1 m d (Proc.devRef .tc main_v0) : S256.Idx → EReal)
    = shapeCast S256 (m (d, Proc.devRef .tc main_arg4) : S256x1.Idx → EReal) shapeCasts_S256x1_S256 := by
  unfold mem1
  rw [StableHlo.reshape_result_ne _ _ _ _ _ _ _ (by decide), StableHlo.reshape_result]
  rfl
theorem mem1_v1 : (mem1 m d (Proc.devRef .tc main_v1) : S256.Idx → EReal)
    = shapeCast S256 (m (d, Proc.devRef .tc main_arg6) : S256x1.Idx → EReal) shapeCasts_S256x1_S256 := by
  unfold mem1
  rw [StableHlo.reshape_result, StableHlo.reshape_result_ne _ _ _ _ _ _ _ (by decide)]
  rfl

theorem column_at (W : S256x1.Idx → EReal) (k : Fin 256) : shapeCast S256 W shapeCasts_S256x1_S256 (ix1 k) = W (ix2 k (0 : Fin 1)) :=
  shapeCast_apply _ _ _ _ (by rw [Shape.rowMajor_val_two, Shape.rowMajor_val_one]; show k.val * 1 + 0 = k.val; omega)

theorem yv1_eq : yv1 (mem1 m) d = fun k => (m (d, Proc.devRef .tc main_arg4) : S256x1.Idx → EReal) (ix2 k (0 : Fin 1)) := by
  funext k
  exact (congrFun (mem1_v0 m d) (ix1 k)).trans (column_at _ k)
theorem yv2_eq : yv2 (mem1 m) d = fun k => (m (d, Proc.devRef .tc main_arg6) : S256x1.Idx → EReal) (ix2 k (0 : Fin 1)) := by
  funext k
  exact (congrFun (mem1_v1 m d) (ix1 k)).trans (column_at _ k)
theorem xv1_eq : xv1 (mem1 m) d = fun i k => (m (d, Proc.devRef .tc main_arg1) : S50000x256.Idx → EReal) (ix2 i k) := by
  funext i k
  exact congrFun (mem1_keeps m d main_arg1 (by decide) (by decide)) (ix2 i k)
theorem xv2_eq : xv2 (mem1 m) d = fun i k => (m (d, Proc.devRef .tc main_arg2) : S50000x256.Idx → EReal) (ix2 i k) := by
  funext i k
  exact congrFun (mem1_keeps m d main_arg2 (by decide) (by decide)) (ix2 i k)
theorem gv_eq : gv (mem1 m) d = fun i => ((m (d, Proc.devRef .tc main_arg3) : S50000.Idx → BitVec 32) (ix1 i)).toNat := by
  funext i
  exact congrArg BitVec.toNat (congrFun (mem1_keeps m d main_arg3 (by decide) (by decide)) (ix1 i))

/-! ## The arrays at the attention's kernel -/

theorem mem3_v3 : (mem3 m d (Proc.devRef .tc main_v3) : S32x64x256.Idx → EReal)
    = shapeCast S32x64x256 (sums1 (tiles (mem1 m) d) : S524288.Idx → EReal) shapeCasts_S524288_S32x64x256 := by
  rw [← outMem_0 (tiles (mem1 m) d) (mem1 m d)]
  unfold mem3 opsB
  after_results
  rfl
theorem mem3_v4 : (mem3 m d (Proc.devRef .tc main_v4) : S32x64x16.Idx → EReal)
    = shapeCast S32x64x16 (dens1 (tiles (mem1 m) d) : S32768.Idx → EReal) shapeCasts_S32768_S32x64x16 := by
  rw [← outMem_1 (tiles (mem1 m) d) (mem1 m d)]
  unfold mem3 opsB
  after_results
  rfl
theorem mem3_v5 : (mem3 m d (Proc.devRef .tc main_v5) : S32x64x256.Idx → EReal)
    = shapeCast S32x64x256 (sums2 (tiles (mem1 m) d) : S524288.Idx → EReal) shapeCasts_S524288_S32x64x256 := by
  rw [← outMem_2 (tiles (mem1 m) d) (mem1 m d)]
  unfold mem3 opsB
  after_results
  rfl
theorem mem3_v6 : (mem3 m d (Proc.devRef .tc main_v6) : S32x64x16.Idx → EReal)
    = shapeCast S32x64x16 (dens2 (tiles (mem1 m) d) : S32768.Idx → EReal) shapeCasts_S32768_S32x64x16 := by
  rw [← outMem_3 (tiles (mem1 m) d) (mem1 m d)]
  unfold mem3 opsB
  after_results
  rfl

/-- Written over a padding of zeros from the first row on, `q`'s rows keep their places. -/
theorem scatter_row (x0 : S64x256.Idx → EReal) (idx : IVec S1 32) (h0 : ∀ a, idx a = 0#32) (q : S50x256.Idx → EReal) (s : Fin 50) (k : Fin 256) :
    Host.scatter scatter_S64x256_S1_S50x256_01_n_0_0 (fun _ b => b) x0 idx q (ix2 (⟨s.val, by omega⟩ : Fin 64) k) = q (ix2 s k) := by
  have hst : ∀ (j : S50x256.Idx) (a : Fin 2), scatter_S64x256_S1_S50x256_01_n_0_0.start j idx a = 0 := by
    intro j a
    unfold ScatterDims.start
    split
    · rw [h0]; rfl
    · rfl
  have hw0 : ∀ j : S50x256.Idx, scatter_S64x256_S1_S50x256_01_n_0_0.window j 0 = (j 0).val := fun j => rfl
  have hw1 : ∀ j : S50x256.Idx, scatter_S64x256_S1_S50x256_01_n_0_0.window j 1 = (j 1).val := fun j => rfl
  have hk : ∀ j : S50x256.Idx, scatter_S64x256_S1_S50x256_01_n_0_0.resultIdx? j idx = some (ix2 (⟨s.val, by omega⟩ : Fin 64) k) ↔ (j 0).val = s.val ∧ (j 1).val = k.val := by
    intro j
    rw [Routing.resultIdx?_ix2, hst, hst, hw0, hw1]
    simp
  refine Routing.scatter_set_hit _ _ _ _ _ _ (fun j hj => congrArg q ?_) (ix2 s k) ((hk _).2 ⟨rfl, rfl⟩)
  obtain ⟨e0, e1⟩ := (hk j).1 hj
  rw [eq_ix2 j]
  exact congrArg₂ ix2 (Fin.ext e0) (Fin.ext e1)

theorem mem3_v9 (s : Fin 50) (k : Fin 256) : (mem3 m d (Proc.devRef .tc main_v9) : S64x256.Idx → EReal) (ix2 (⟨s.val, by omega⟩ : Fin 64) k)
    = (m (d, Proc.devRef .tc main_arg0) : S50x256.Idx → EReal) (ix2 s k) := by
  have h : (mem3 m d (Proc.devRef .tc main_v9) : S64x256.Idx → EReal)
      = Host.scatter scatter_S64x256_S1_S50x256_01_n_0_0 (fun _ b => b) (broadcastInDim S64x256 ![] bcast_S_S64x256 (constant (F := Ideal) S_ .f32 0x00000000#32))
        (broadcastInDim S1 ![] bcast_S_S1 (constantI S_ 32 0#32)) (mem2 m d (Proc.devRef .tc main_arg0)) := by
    unfold mem3 opsB
    after_results
  rw [h]
  refine (scatter_row _ _ (fun _ => rfl) _ s k).trans ?_
  have e2 : mem2 m d (Proc.devRef .tc main_arg0) = mem1 m d (Proc.devRef .tc main_arg0) := outMem_of_not_mem _ _ _ (by decide)
  exact congrFun (e2.trans (mem1_keeps m d main_arg0 (by decide) (by decide))) (ix2 s k)

/-! ## The scores -/

/-- Over the rows of segment `s`, the rows' column `k` times the exponential of their gate. -/
def num (g : Fin 50000 → ℕ) (X : Fin 50000 → Fin 256 → EReal) (W : Fin 256 → EReal) (s : ℕ) (k : Fin 256) : EReal :=
  ∑ i, if g i = s then X i k * gateE (X i) W else 0
/-- Over the rows of segment `s`, the exponential of their gate. -/
def dnm (g : Fin 50000 → ℕ) (X : Fin 50000 → Fin 256 → EReal) (W : Fin 256 → EReal) (s : ℕ) : EReal :=
  ∑ i, if g i = s then gateE (X i) W else 0

theorem sums1_at (s : Fin 64) (k : Fin 256) : ∑ w : Fin 32, (show EReal from (mem3 m d (Proc.devRef .tc main_v3) : S32x64x256.Idx → EReal) (ix3 w s k))
    = num (gv (mem1 m) d) (xv1 (mem1 m) d) (yv1 (mem1 m) d) s.val k := by
  rw [mem3_v3]
  refine (Finset.sum_congr rfl fun w _ => ?_).trans (fst_total (mem1 m) d s k (ix1 (⟨256 * s.val + k.val, by omega⟩ : Fin 16384)) rfl)
  exact sums_at (fun c i => (tiles (mem1 m) d c i).n1) w s k
theorem dens1_at (s : Fin 64) : ∑ w : Fin 32, (show EReal from (mem3 m d (Proc.devRef .tc main_v4) : S32x64x16.Idx → EReal) (ix3 w s (0 : Fin 16)))
    = dnm (gv (mem1 m) d) (xv1 (mem1 m) d) (yv1 (mem1 m) d) s.val := by
  rw [mem3_v4]
  refine (Finset.sum_congr rfl fun w _ => ?_).trans (snd_total (mem1 m) d s (ix1 (⟨16 * s.val + (0 : Fin 16).val, by show 16 * s.val + 0 < 1024; omega⟩ : Fin 1024)) rfl)
  exact dens_at (fun c i => (tiles (mem1 m) d c i).d1) w s 0
theorem sums2_at (s : Fin 64) (k : Fin 256) : ∑ w : Fin 32, (show EReal from (mem3 m d (Proc.devRef .tc main_v5) : S32x64x256.Idx → EReal) (ix3 w s k))
    = num (gv (mem1 m) d) (xv2 (mem1 m) d) (yv2 (mem1 m) d) s.val k := by
  rw [mem3_v5]
  refine (Finset.sum_congr rfl fun w _ => ?_).trans (trd_total (mem1 m) d s k (ix1 (⟨256 * s.val + k.val, by omega⟩ : Fin 16384)) rfl)
  exact sums_at (fun c i => (tiles (mem1 m) d c i).n2) w s k
theorem dens2_at (s : Fin 64) : ∑ w : Fin 32, (show EReal from (mem3 m d (Proc.devRef .tc main_v6) : S32x64x16.Idx → EReal) (ix3 w s (0 : Fin 16)))
    = dnm (gv (mem1 m) d) (xv2 (mem1 m) d) (yv2 (mem1 m) d) s.val := by
  rw [mem3_v6]
  refine (Finset.sum_congr rfl fun w _ => ?_).trans (fth_total (mem1 m) d s (ix1 (⟨16 * s.val + (0 : Fin 16).val, by show 16 * s.val + 0 < 1024; omega⟩ : Fin 1024)) rfl)
  exact dens_at (fun c i => (tiles (mem1 m) d c i).d2) w s 0

/-- The scores of segment `s` against `q`'s row: of the first matrix's pool. -/
def scoreA (s : Fin 50) : EReal :=
  score (fun k => (m (d, Proc.devRef .tc main_arg0) : S50x256.Idx → EReal) (ix2 s k)) (num (gv (mem1 m) d) (xv1 (mem1 m) d) (yv1 (mem1 m) d) s.val)
    (dnm (gv (mem1 m) d) (xv1 (mem1 m) d) (yv1 (mem1 m) d) s.val)
/-- Of the second matrix's. -/
def scoreB (s : Fin 50) : EReal :=
  score (fun k => (m (d, Proc.devRef .tc main_arg0) : S50x256.Idx → EReal) (ix2 s k)) (num (gv (mem1 m) d) (xv2 (mem1 m) d) (yv2 (mem1 m) d) s.val)
    (dnm (gv (mem1 m) d) (xv2 (mem1 m) d) (yv2 (mem1 m) d) s.val)

theorem score_congr {q q' N N' : Fin 256 → EReal} {D D' : EReal} (hq : q = q') (hN : N = N') (hD : D = D') : score q N D = score q' N' D' := by
  rw [hq, hN, hD]

/-- The attention's two weights at segment `s`. -/
theorem att_at (s : Fin 50) (c : Fin 2) : (mem4 m d (Proc.devRef .tc main_v10) : S64x2.Idx → EReal) (ix2 (⟨s.val, by omega⟩ : Fin 64) c)
    = soft (scoreA m d s) (scoreB m d s) c := by
  have h : (mem4 m d (Proc.devRef .tc main_v10) : S64x2.Idx → EReal)
      = attVal (F := Ideal) (mem3 m d (Proc.devRef .tc main_v9)) (mem3 m d (Proc.devRef .tc main_v3)) (mem3 m d (Proc.devRef .tc main_v4))
          (mem3 m d (Proc.devRef .tc main_v5)) (mem3 m d (Proc.devRef .tc main_v6)) :=
    (Pipeline.afterRegion_arr (dat1 (mem3 m) d) (mem3 m d) winFacts1.arr_inj 5).trans (att_arr (mem3 m) d)
  have hq : (fun k => (mem3 m d (Proc.devRef .tc main_v9) : S64x256.Idx → EReal) (ix2 (⟨s.val, by omega⟩ : Fin 64) k))
      = fun k => (m (d, Proc.devRef .tc main_arg0) : S50x256.Idx → EReal) (ix2 s k) := funext fun k => mem3_v9 m d s k
  rw [h, attVal_ideal]
  refine congrArg₂ (fun a b => soft a b c) ((pay3_ideal _ _ _ _).trans ?_) ((pay3_ideal _ _ _ _).trans ?_)
  · exact score_congr hq (funext fun k => sums1_at m d _ k) (dens1_at m d _)
  · exact score_congr hq (funext fun k => sums2_at m d _ k) (dens2_at m d _)

/-! ## The result -/

theorem mem5_v11 (t : Fin 10) (r : Fin 5000) : (mem5 m d (Proc.devRef .tc main_v11) : S10x1x5000.Idx → BitVec 32) (ix3 t (0 : Fin 1) r)
    = (m (d, Proc.devRef .tc main_arg3) : S50000.Idx → BitVec 32) (ix1 (rowIn t r)) := by
  have h : (mem5 m d (Proc.devRef .tc main_v11) : S10x1x5000.Idx → BitVec 32)
      = shapeCast S10x1x5000 (mem4 m d (Proc.devRef .tc main_arg3) : S50000.Idx → BitVec 32) shapeCasts_S50000_S10x1x5000 := by
    unfold mem5
    rw [StableHlo.reshape_result]
    rfl
  rw [h]
  refine (shapeCast_apply _ _ _ (ix1 (rowIn t r)) ?_).trans ?_
  · rw [Shape.rowMajor_val_one, Shape.rowMajor_val_three]
    show 5000 * t.val + r.val = (t.val * 1 + 0) * 5000 + r.val
    omega
  · exact congrFun (mem4_arg m d main_arg3 (by decide)) _

/-- The result at a row of segment `s`: the two rows, weighed by the segment's attention. -/
theorem out_at (hg : ∀ i : Fin 50000, ((m (d, Proc.devRef .tc main_arg3) : S50000.Idx → BitVec 32) (ix1 i)).toNat < 50) (i : Fin 50000) (k : Fin 256) (s : Fin 50)
    (hs : ((m (d, Proc.devRef .tc main_arg3) : S50000.Idx → BitVec 32) (ix1 i)).toNat = s.val) :
    (mem6 m d (Proc.devRef .tc main_v12) : S50000x256.Idx → EReal) (ix2 i k)
      = (show EReal from (m (d, Proc.devRef .tc main_arg1) : S50000x256.Idx → EReal) (ix2 i k)) * soft (scoreA m d s) (scoreB m d s) 0
        + (show EReal from (m (d, Proc.devRef .tc main_arg2) : S50000x256.Idx → EReal) (ix2 i k)) * soft (scoreA m d s) (scoreB m d s) 1 := by
  have h : (mem6 m d (Proc.devRef .tc main_v12) : S50000x256.Idx → EReal)
      = mixed (fun i => (⟨((m (d, Proc.devRef .tc main_arg3) : S50000.Idx → BitVec 32) (ix1 i)).toNat, (hg i).trans (by decide)⟩ : Fin 64))
          (mem5 m d (Proc.devRef .tc main_v10)) (mem5 m d (Proc.devRef .tc main_arg1)) (mem5 m d (Proc.devRef .tc main_arg2)) :=
    (Pipeline.afterRegion_arr (dat2 (mem5 m) d) (mem5 m d) winFacts2.arr_inj 4).trans
      (mix_arr (mem5 m) d _ fun t r => congrArg BitVec.toNat (mem5_v11 m d t r))
  have e1 : mem5 m d (Proc.devRef .tc main_arg1) = m (d, Proc.devRef .tc main_arg1) := (mem5_keeps m d main_arg1 (by decide)).trans (mem4_arg m d main_arg1 (by decide))
  have e2 : mem5 m d (Proc.devRef .tc main_arg2) = m (d, Proc.devRef .tc main_arg2) := (mem5_keeps m d main_arg2 (by decide)).trans (mem4_arg m d main_arg2 (by decide))
  have e3 : mem5 m d (Proc.devRef .tc main_v10) = mem4 m d (Proc.devRef .tc main_v10) := mem5_keeps m d main_v10 (by decide)
  rw [h, e1, e2, e3]
  unfold mixed
  have hi : (⟨((m (d, Proc.devRef .tc main_arg3) : S50000.Idx → BitVec 32) (ix1 i)).toNat, (hg i).trans (by decide)⟩ : Fin 64) = ⟨s.val, by omega⟩ := Fin.ext hs
  refine congrArg₂ (fun a b : EReal => a + b) (congrArg (fun a : EReal => (show EReal from (m (d, Proc.devRef .tc main_arg1) : S50000x256.Idx → EReal) (ix2 i k)) * a) ?_)
    (congrArg (fun a : EReal => (show EReal from (m (d, Proc.devRef .tc main_arg2) : S50000x256.Idx → EReal) (ix2 i k)) * a) ?_)
  · exact (congrArg (fun a => (mem4 m d (Proc.devRef .tc main_v10) : S64x2.Idx → EReal) (ix2 a (0 : Fin 2))) hi).trans (att_at m d s 0)
  · exact (congrArg (fun a => (mem4 m d (Proc.devRef .tc main_v10) : S64x2.Idx → EReal) (ix2 a (1 : Fin 2))) hi).trans (att_at m d s 1)

end Chain

end Cert.Proof.Pool
-- ==== Proof.Ref.lean ====
/- The reference as its stages. -/
module

public import proofs.«01_k».proof.Proof.Dense
public import proofs.«01_k».proof.Proof.Gen.ReferenceIdeal.Run
public import Idealize.ShloMosaic.Lib.Routing.Ops
public import Idealize.ShloMosaic.Lib.Routing.OpsPair

@[expose] public section

noncomputable section

namespace Cert.Proof.RefVal

open Cert.ReferenceIdeal Cert.ReferenceIdeal.Gen Cert.ReferenceIdeal.Value
open Idealize.ShloMosaic Idealize.ShloMosaic.ValueIdx
open Cert.Proof.Pool (soft)

/-! ## The reference's stages -/

section Stages

variable {F : FTy → Type} [FloatOps F]

/-- A row's gate. -/
def gateT (X : FVec F S50000x256 .f32) (W : FVec F S256x1 .f32) (b : FVec F S1 .f32) : FVec F S50000 .f32 :=
  shapeCast S50000 (addf (Host.dotGeneral dot_S50000x256_S256x1_S50000x1_1_0_0_1_n_n none X W)
    (broadcastInDim S50000x1 ![0, 1] bcast_S1x1_S50000x1_0_1 (broadcastInDim S1x1 ![1] bcast_S1_S1x1_1 b))) shapeCasts_S50000x1_S50000

/-- The segment words as a column. -/
def colT (g : IVec S50000 32) : IVec S50000x1 32 := broadcastInDim S50000x1 ![0] bcast_S50000_S50000x1_0 g

/-- The segment words as a gather takes them. -/
def wrapT (g : IVec S50000 32) : IVec S50000x1 32 :=
  broadcastInDim S50000x1 ![0] bcast_S50000_S50000x1_0 (select (cmpi .slt g (broadcastInDim S50000 ![] bcast_S_S50000 (constantI S_ 32 0#32)))
    (addi g (broadcastInDim S50000 ![] bcast_S_S50000 (constantI S_ 32 50#32))) g)

/-- A segment's largest gate. -/
def maxT (g : IVec S50000 32) (G : FVec F S50000 .f32) : FVec F S50 .f32 :=
  Host.reduce FloatOps.maximumf (select (cmpi .eq (broadcastInDim S50000x50 ![0, 1] bcast_S50000x1_S50000x50_0_1 (colT g))
      (broadcastInDim S50000x50 ![0, 1] bcast_S1x50_S50000x50_0_1 (broadcastInDim S1x50 ![1] bcast_S50_S1x50_1 (iotaInDim S50 32 0))))
    (broadcastInDim S50000x50 ![0, 1] bcast_S50000x1_S50000x50_0_1 (broadcastInDim S50000x1 ![0] bcast_S50000_S50000x1_0 G))
    (broadcastInDim S50000x50 ![] bcast_S_S50000x50 (id (constant S_ .f32 0xFF800000#32))))
    (constant S_ .f32 0xFF800000#32) reducesTo_S50000x50_S50_d0 h_S_

/-- A row's exponential. -/
def expT (g : IVec S50000 32) (G : FVec F S50000 .f32) : FVec F S50000 .f32 :=
  Host.exp (subf G (Host.gather gather_S50_S50000x1_S50000_n_0_n_n_0_1_1 (maxT g G) (wrapT g)))

/-- A segment's denominator. -/
def denT (g : IVec S50000 32) (E : FVec F S50000 .f32) : FVec F S50 .f32 :=
  Host.scatterAdd scatter_S50_S50000x1_S50000_n_0_0_1 (broadcastInDim S50 ![] bcast_S_S50 (constant S_ .f32 0x00000000#32)) (colT g) E

/-- A row's weight within its segment. -/
def alphaT (g : IVec S50000 32) (E : FVec F S50000 .f32) : FVec F S50000 .f32 :=
  Host.divf E (Host.gather gather_S50_S50000x1_S50000_n_0_n_n_0_1_1 (denT g E) (wrapT g))

/-- A segment's weighted sum of its rows. -/
def poolT (g : IVec S50000 32) (X : FVec F S50000x256 .f32) (α : FVec F S50000 .f32) : FVec F S50x256 .f32 :=
  Host.scatterAdd scatter_S50x256_S50000x1_S50000x256_1_0_0_1 (broadcastInDim S50x256 ![] bcast_S_S50x256 (constant S_ .f32 0x00000000#32)) (colT g)
    (mulf X (broadcastInDim S50000x256 ![0, 1] bcast_S50000x1_S50000x256_0_1 (broadcastInDim S50000x1 ![0] bcast_S50000_S50000x1_0 α)))

/-- A segment's score. -/
def scoreT (q k : FVec F S50x256 .f32) : FVec F S50x1 .f32 :=
  broadcastInDim S50x1 ![0] bcast_S50_S50x1_0 (Host.reduceAdd (mulf q k) (constant S_ .f32 0x00000000#32) reducesTo_S50x256_S50_d1 h_S_)

/-- The exponentials of a pair of scores less the larger. -/
def softE (s : FVec F S50x2 .f32) : FVec F S50x2 .f32 :=
  Host.exp (subf s (broadcastInDim S50x2 ![0, 1] bcast_S50x1_S50x2_0_1 (broadcastInDim S50x1 ![0] bcast_S50_S50x1_0
    (maximumf (broadcastInDim S50 ![] bcast_S_S50 (constant S_ .f32 0xFF800000#32)) (Host.reduce FloatOps.maximumf s (constant S_ .f32 0xFF800000#32) reducesTo_S50x2_S50_d1 h_S_)))))

/-- The attention of a pair of scores. -/
def softT (s : FVec F S50x2 .f32) : FVec F S50x2 .f32 :=
  Host.divf (softE s) (broadcastInDim S50x2 ![0, 1] bcast_S50x1_S50x2_0_1 (broadcastInDim S50x1 ![0] bcast_S50_S50x1_0
    (Host.reduceAdd (softE s) (constant S_ .f32 0x00000000#32) reducesTo_S50x2_S50_d1 h_S_)))

/-- A row's share of one column of the attention. -/
def mixT (X : FVec F S50000x256 .f32) (c : FVec F S50000x1 .f32) : FVec F S50000x256 .f32 :=
  mulf X (broadcastInDim S50000x256 ![0, 1] bcast_S50000x1_S50000x256_0_1 (broadcastInDim S50000x1 ![0] bcast_S50000_S50000x1_0 (shapeCast S50000 c shapeCasts_S50000x1_S50000)))

/-- The attention, row by row. -/
def rowsT (g : IVec S50000 32) (a : FVec F S50x2 .f32) : FVec F S50000x2 .f32 := Host.gather gather_S50x2_S50000x1_S50000x2_1_0_n_n_0_1_12 a (wrapT g)

/-- One matrix's pooled rows. -/
def pooledT (g : IVec S50000 32) (X : FVec F S50000x256 .f32) (W : FVec F S256x1 .f32) (b : FVec F S1 .f32) : FVec F S50x256 .f32 :=
  poolT g X (alphaT g (expT g (gateT X W b)))

/-- The reference. -/
def outT (q : FVec F S50x256 .f32) (X1 X2 : FVec F S50000x256 .f32) (g : IVec S50000 32) (W1 : FVec F S256x1 .f32) (b1 : FVec F S1 .f32) (W2 : FVec F S256x1 .f32) (b2 : FVec F S1 .f32) :
    FVec F S50000x256 .f32 :=
  addf (mixT X1 (extractStridedSlice S50000x1 ![0, 0] (rowsT g (softT (fn_main_v86 (scoreT q (pooledT g X1 W1 b1)) (scoreT q (pooledT g X2 W2 b2))))) slices_S50000x2_S50000x1_0_0))
    (mixT X2 (extractStridedSlice S50000x1 ![0, 1] (rowsT g (softT (fn_main_v86 (scoreT q (pooledT g X1 W1 b1)) (scoreT q (pooledT g X2 W2 b2))))) slices_S50000x2_S50000x1_0_1))

set_option maxRecDepth 8192 in
/-- The reference's run leaves its stages' composition. -/
theorem res_eq (m : (ℓ : Loc nD τ sig) → Buf (Elt F) ℓ) (c : Dev nD) :
    res_main_v115 m c = outT (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold res_main_v115
  rfl

end Stages

end Cert.Proof.RefVal
-- ==== Proof.RefIdx.lean ====
/- The reference's stages over the extended reals, at an index. -/
module

public import proofs.«01_k».proof.Proof.Ref
public import Idealize.ShloMosaic.Lib.Routing.Ops
public import Idealize.ShloMosaic.Lib.ValueIdxRank1
public import Idealize.ShloMosaic.Lib.Routing.OpsPair

@[expose] public section

noncomputable section

namespace Cert.Proof.RefVal

open Cert.ReferenceIdeal Cert.ReferenceIdeal.Gen Cert.ReferenceIdeal.Value
open Idealize.ShloMosaic Idealize.ShloMosaic.ValueIdx
open Cert.Proof.Pool (soft)

section Readings

variable (g : IVec S50000 32) (hg : ∀ i : Fin 50000, (g (ix1 i)).toNat < 50)

theorem neg_inf : Ideal.ofBits .f32 0xFF800000#32 = (⊥ : EReal) := by simp [Ideal.ofBits, Ideal.ieee]

theorem word_toNat (s : Fin 50) : (BitVec.ofNat 32 s.val).toNat = s.val := by
  rw [BitVec.toNat_ofNat]
  exact Nat.mod_eq_of_lt (by have := s.isLt; omega)

theorem word_toInt (s : Fin 50) : (BitVec.ofNat 32 s.val).toInt = (s.val : Int) := by
  rw [BitVec.toInt_eq_toNat_of_lt (by rw [word_toNat]; have := s.isLt; omega), word_toNat]

theorem word_eq (x : BitVec 32) (s : Fin 50) (h : x.toNat = s.val) : x = BitVec.ofNat 32 s.val := BitVec.eq_of_toNat_eq (by rw [h, word_toNat])

theorem bcol_at {α : Type} (x : S50000.Idx → α) (i : Fin 50000) :
    broadcastInDim S50000x1 ![0] bcast_S50000_S50000x1_0 x (ix2 i (0 : Fin 1)) = x (ix1 i) :=
  broadcastInDim_apply _ _ _ _ (ix1 i) fun a => match a with | ⟨0, _⟩ => rfl

theorem brow_at {α : Type} (x : S50000x1.Idx → α) (i : Fin 50000) (k : Fin 256) :
    broadcastInDim S50000x256 ![0, 1] bcast_S50000x1_S50000x256_0_1 x (ix2 i k) = x (ix2 i (0 : Fin 1)) :=
  broadcastInDim_apply _ _ _ _ (ix2 i (0 : Fin 1)) fun a => match a with | ⟨0, _⟩ => rfl | ⟨1, _⟩ => rfl

theorem bseg_at {α : Type} (x : S50000x1.Idx → α) (i : Fin 50000) (s : Fin 50) :
    broadcastInDim S50000x50 ![0, 1] bcast_S50000x1_S50000x50_0_1 x (ix2 i s) = x (ix2 i (0 : Fin 1)) :=
  broadcastInDim_apply _ _ _ _ (ix2 i (0 : Fin 1)) fun a => match a with | ⟨0, _⟩ => rfl | ⟨1, _⟩ => rfl

theorem bpair_at {α : Type} (x : S50x1.Idx → α) (s : Fin 50) (c : Fin 2) :
    broadcastInDim S50x2 ![0, 1] bcast_S50x1_S50x2_0_1 x (ix2 s c) = x (ix2 s (0 : Fin 1)) :=
  broadcastInDim_apply _ _ _ _ (ix2 s (0 : Fin 1)) fun a => match a with | ⟨0, _⟩ => rfl | ⟨1, _⟩ => rfl

theorem bcol50_at {α : Type} (x : S50.Idx → α) (s : Fin 50) :
    broadcastInDim S50x1 ![0] bcast_S50_S50x1_0 x (ix2 s (0 : Fin 1)) = x (ix1 s) :=
  broadcastInDim_apply _ _ _ _ (ix1 s) fun a => match a with | ⟨0, _⟩ => rfl

/-- A row's gate is its product with the gate's weights, plus the gate's offset. -/
theorem gateT_at (X : FVec Ideal S50000x256 .f32) (W : FVec Ideal S256x1 .f32) (b : FVec Ideal S1 .f32) (i : Fin 50000) :
    gateT X W b (ix1 i) = (∑ k : Fin 256, X (ix2 i k) * W (ix2 k (0 : Fin 1)) : EReal) + b (ix1 (0 : Fin 1)) := by
  unfold gateT
  refine (shapeCast_apply _ _ _ (ix2 i (0 : Fin 1)) (by rw [Shape.rowMajor_val_two, Shape.rowMajor_val_one]; show i.val * 1 + 0 = i.val; omega)).trans ?_
  show (_ + _ : EReal) = _
  congr 1
  · refine (Ideal.dotGeneral_apply _ _ _ _ _ _).trans ?_
    refine (Equiv.sum_comp (contrEquiv1 dot_S50000x256_S256x1_S50000x1_1_0_0_1_n_n 256 rfl rfl).symm _).symm.trans (Finset.sum_congr rfl fun k _ => ?_)
    congr 2
    · funext a
      match a with
      | ⟨0, _⟩ => rfl
      | ⟨1, _⟩ => rfl
    · funext a
      match a with
      | ⟨0, _⟩ => rfl
      | ⟨1, _⟩ => rfl
  · refine (broadcastInDim_apply _ _ _ _ (ix2 (0 : Fin 1) (0 : Fin 1)) fun a => match a with | ⟨0, _⟩ => rfl | ⟨1, _⟩ => rfl).trans ?_
    exact broadcastInDim_apply _ _ _ _ (ix1 (0 : Fin 1)) fun a => match a with | ⟨0, _⟩ => rfl

include hg in
theorem wrapT_at (i : Fin 50000) : wrapT g (ix2 i (0 : Fin 1)) = g (ix1 i) := by
  unfold wrapT
  refine (bcol_at _ i).trans ?_
  exact Idealize.ShloMosaic.Routing.wrap_of_lt _ _ (lt_trans (hg i) (by norm_num))

/-- A segment's largest gate is the largest over the rows that lie in it. -/
theorem maxT_at (G : FVec Ideal S50000 .f32) (s : Fin 50) :
    maxT g G (ix1 s) = Finset.univ.fold max (⊥ : EReal) fun i : Fin 50000 => if (g (ix1 i)).toNat = s.val then (G (ix1 i) : EReal) else ⊥ := by
  unfold maxT
  have hr : S50000x50.Reduces [0] S50 := by decide
  refine (Host.reduce_eq_fold_single _ _ _ _ hr _ _).trans ?_
  show Finset.univ.fold (max : EReal → EReal → EReal) (Ideal.ofBits .f32 0xFF800000#32) _ = _
  rw [neg_inf]
  refine congrArg (Finset.univ.fold max (⊥ : EReal)) (funext fun (i : Fin 50000) => ?_)
  have hl : hr.lift (ix1 s) i = ix2 i s := by
    funext a
    match a with
    | ⟨0, _⟩ => rfl
    | ⟨1, _⟩ => rfl
  show select _ _ _ (hr.lift (ix1 s) i) = _
  rw [hl]
  show Scalar.select (IntOp.cmpi .eq _ _) _ (Ideal.ofBits .f32 0xFF800000#32) = _
  rw [bseg_at, bseg_at, neg_inf, bcol_at]
  unfold colT
  rw [bcol_at]
  have hs : broadcastInDim S50000x50 ![0, 1] bcast_S1x50_S50000x50_0_1 (broadcastInDim S1x50 ![1] bcast_S50_S1x50_1 (iotaInDim S50 32 0)) (ix2 i s) = BitVec.ofNat 32 s.val := by
    refine (broadcastInDim_apply _ _ _ _ (ix2 (0 : Fin 1) s) fun a => match a with | ⟨0, _⟩ => rfl | ⟨1, _⟩ => rfl).trans ?_
    exact broadcastInDim_apply _ _ _ _ (ix1 s) fun a => match a with | ⟨0, _⟩ => rfl
  rw [hs]
  have hsn := word_toNat s
  by_cases h : (g (ix1 i)).toNat = s.val
  · have he : g (ix1 i) = BitVec.ofNat 32 s.val := BitVec.eq_of_toNat_eq (by rw [h, hsn])
    rw [if_pos h, he]
    simp [IntOp.cmpi, Scalar.select]
  · have he : g (ix1 i) ≠ BitVec.ofNat 32 s.val := fun e => h (by rw [e, hsn])
    rw [if_neg h]
    simp [IntOp.cmpi, Scalar.select, beq_eq_false_iff_ne.mpr he]

/-- A gather of a table of one entry a segment takes the row's segment's entry. -/
theorem gather50_at {α : Type} (x : S50.Idx → α) (idx : IVec S50000x1 32) (i : Fin 50000) (s : Fin 50) (h : idx (ix2 i (0 : Fin 1)) = BitVec.ofNat 32 s.val) :
    Host.gather gather_S50_S50000x1_S50000_n_0_n_n_0_1_1 x idx (ix1 i) = x (ix1 s) := by
  refine congrArg x ?_
  funext a
  match a with
  | ⟨0, _⟩ =>
    refine Fin.ext ?_
    show min ((idx _).toInt.toNat) (50 - 1) + 0 + 0 = s.val
    have hi : gather_S50_S50000x1_S50000_n_0_n_n_0_1_1.siIdx (ix1 i) ⟨0, by decide⟩ = ix2 i (0 : Fin 1) := by
      funext b
      match b with
      | ⟨0, _⟩ => rfl
      | ⟨1, _⟩ => rfl
    have hs := s.isLt
    have ht := word_toInt s
    have : (idx (gather_S50_S50000x1_S50000_n_0_n_n_0_1_1.siIdx (ix1 i) ⟨0, by decide⟩)).toInt = s.val := by rw [hi, h, ht]
    refine (Nat.add_zero _).trans ?_
    have h2 := congrArg Int.toNat this
    rw [Int.toNat_natCast] at h2
    refine Eq.trans (congrArg (fun z => min z 49) h2) ?_
    show min s.val 49 = s.val
    omega

/-- A row of exponentials, at a row that lies in segment `s`. -/
theorem expT_at (G : FVec Ideal S50000 .f32) (i : Fin 50000) (s : Fin 50) (h : wrapT g (ix2 i (0 : Fin 1)) = BitVec.ofNat 32 s.val) :
    expT g G (ix1 i) = Ideal.exp ((G (ix1 i) : EReal) - maxT g G (ix1 s)) := by
  show Ideal.exp ((G (ix1 i) : EReal) - Host.gather _ _ _ (ix1 i)) = _
  rw [gather50_at _ _ i s h]

/-- A segment's denominator is the sum over the rows that lie in it. -/
theorem denT_at (E : FVec Ideal S50000 .f32) (s : Fin 50) :
    denT g E (ix1 s) = (0 + ∑ i : Fin 50000, if (g (ix1 i)).toInt = (s.val : Int) then (E (ix1 i) : EReal) else 0 : EReal) := by
  show (Ideal.ofBits .f32 0x00000000#32 + ∑ j ∈ Finset.univ.filter (fun j => scatter_S50_S50000x1_S50000_n_0_0_1.resultIdx? j (colT g) = some (ix1 s)), (E j : EReal) : EReal) = _
  rw [Ideal.ofBits_zero_f32, Finset.sum_filter]
  refine congrArg (fun z : EReal => 0 + z) ?_
  refine (Equiv.sum_comp (idxEquiv1 (n := 50000)).symm _).symm.trans (Finset.sum_congr rfl fun i _ => ?_)
  refine if_congr ((Routing.resultIdx?_ix1 _ _ _ _).trans ?_) rfl rfl
  have hi : scatter_S50_S50000x1_S50000_n_0_0_1.siIdx (ix1 i) ⟨0, by decide⟩ = ix2 i (0 : Fin 1) := by
    funext b
    match b with
    | ⟨0, _⟩ => rfl
    | ⟨1, _⟩ => rfl
  show (colT g (scatter_S50_S50000x1_S50000_n_0_0_1.siIdx (ix1 i) ⟨0, by decide⟩)).toInt + ((0 : ℕ) : Int) = _ ↔ _
  rw [hi]
  unfold colT
  rw [bcol_at, Nat.cast_zero, add_zero]

/-- A row's weight, at a row that lies in segment `s`. -/
theorem alphaT_at (E : FVec Ideal S50000 .f32) (i : Fin 50000) (s : Fin 50) (h : wrapT g (ix2 i (0 : Fin 1)) = BitVec.ofNat 32 s.val) :
    alphaT g E (ix1 i) = Ideal.div (E (ix1 i)) (denT g E (ix1 s)) := by
  have hd := gather50_at (denT g E) (wrapT g) i s h
  unfold alphaT
  generalize Host.gather _ (denT g E) (wrapT g) = y at hd ⊢
  rw [← hd]
  rfl

/-- A segment's pooled row is the weighted sum over the rows that lie in it. -/
theorem poolT_at (X : FVec Ideal S50000x256 .f32) (α : FVec Ideal S50000 .f32) (s : Fin 50) (k : Fin 256) :
    poolT g X α (ix2 s k) = (0 + ∑ i : Fin 50000, if (g (ix1 i)).toInt = (s.val : Int) then (X (ix2 i k) * α (ix1 i) : EReal) else 0 : EReal) := by
  show (Ideal.ofBits .f32 0x00000000#32 + ∑ j ∈ Finset.univ.filter (fun j => scatter_S50x256_S50000x1_S50000x256_1_0_0_1.resultIdx? j (colT g) = some (ix2 s k)),
    (X j * broadcastInDim S50000x256 ![0, 1] bcast_S50000x1_S50000x256_0_1 (broadcastInDim S50000x1 ![0] bcast_S50000_S50000x1_0 α) j : EReal) : EReal) = _
  rw [Ideal.ofBits_zero_f32, Finset.sum_filter]
  refine congrArg (fun z : EReal => 0 + z) ?_
  refine (sum_idx2 (n0 := 50000) (n1 := 256) _).trans (Finset.sum_congr rfl fun i _ => ?_)
  have hw : ∀ y : Fin 256, (scatter_S50x256_S50000x1_S50000x256_1_0_0_1.resultIdx? (ix2 i y) (colT g) = some (ix2 s k)) ↔ ((g (ix1 i)).toInt = (s.val : Int) ∧ y = k) := by
    intro y
    refine (Routing.resultIdx?_ix2 _ _ _ _ _).trans ?_
    have hi : scatter_S50x256_S50000x1_S50000x256_1_0_0_1.siIdx (ix2 i y) ⟨0, by decide⟩ = ix2 i (0 : Fin 1) := by
      funext b
      match b with
      | ⟨0, _⟩ => rfl
      | ⟨1, _⟩ => rfl
    show (colT g (scatter_S50x256_S50000x1_S50000x256_1_0_0_1.siIdx (ix2 i y) ⟨0, by decide⟩)).toInt + ((0 : ℕ) : Int) = _ ∧ (0 : Int) + (y.val : Int) = _ ↔ _
    rw [hi]
    unfold colT
    rw [bcol_at, Nat.cast_zero, add_zero]
    refine and_congr Iff.rfl ⟨fun h => Fin.ext (by omega), fun h => by rw [h]; omega⟩
  have hy : ∀ y : Fin 256, (if scatter_S50x256_S50000x1_S50000x256_1_0_0_1.resultIdx? (ix2 i y) (colT g) = some (ix2 s k) then
      (X (ix2 i y) * broadcastInDim S50000x256 ![0, 1] bcast_S50000x1_S50000x256_0_1 (broadcastInDim S50000x1 ![0] bcast_S50000_S50000x1_0 α) (ix2 i y) : EReal) else 0)
      = if y = k then (if (g (ix1 i)).toInt = (s.val : Int) then (X (ix2 i k) * α (ix1 i) : EReal) else 0) else 0 := by
    intro y
    rw [if_congr (hw y) rfl rfl, brow_at, bcol_at]
    by_cases h1 : (g (ix1 i)).toInt = (s.val : Int) <;> by_cases h2 : y = k
    · subst h2; simp [h1]
    · simp [h2]
    · simp [h1]
    · simp [h1]
  refine (Finset.sum_congr rfl fun y _ => hy y).trans ?_
  rw [Finset.sum_ite_eq' Finset.univ k]
  exact if_pos (Finset.mem_univ k)

/-- A segment's score is its row of `q` against its pooled row. -/
theorem scoreT_at (q k : FVec Ideal S50x256 .f32) (s : Fin 50) :
    scoreT q k (ix2 s (0 : Fin 1)) = (0 + ∑ c : Fin 256, q (ix2 s c) * k (ix2 s c) : EReal) := by
  unfold scoreT
  rw [bcol50_at]
  have hr : S50x256.Reduces [1] S50 := by decide
  refine (Ideal.hostReduceAdd_single _ hr _ _ _).trans ?_
  show (Ideal.ofBits .f32 0x00000000#32 + _ : EReal) = _
  rw [Ideal.ofBits_zero_f32]
  refine congrArg (fun z : EReal => 0 + z) (Finset.sum_congr rfl fun (c : Fin 256) _ => ?_)
  have hl : hr.lift (ix1 s) c = ix2 s c := by
    funext a
    match a with
    | ⟨0, _⟩ => rfl
    | ⟨1, _⟩ => rfl
  rw [hl]
  rfl

/-- The larger of two. -/
theorem fold_two (f : Fin 2 → EReal) : Finset.univ.fold max (⊥ : EReal) f = max (f 0) (f 1) := by
  have : (Finset.univ : Finset (Fin 2)) = {0, 1} := rfl
  rw [this, Finset.fold_insert (by decide), Finset.fold_singleton, max_eq_left bot_le]

/-- The pair's exponentials. -/
theorem softE_at (p : FVec Ideal S50x2 .f32) (s : Fin 50) (c : Fin 2) :
    softE p (ix2 s c) = Ideal.exp ((p (ix2 s c) : EReal) - max (p (ix2 s (0 : Fin 2)) : EReal) (p (ix2 s (1 : Fin 2)))) := by
  unfold softE
  show Ideal.exp ((p (ix2 s c) : EReal) - broadcastInDim _ _ _ _ (ix2 s c)) = _
  rw [bpair_at, bcol50_at]
  have hr : S50x2.Reduces [1] S50 := by decide
  show Ideal.exp ((p (ix2 s c) : EReal) - max (Ideal.ofBits .f32 0xFF800000#32 : EReal) (Host.reduce FloatOps.maximumf p _ _ _ (ix1 s))) = _
  rw [Host.reduce_eq_fold_single _ _ _ _ hr _ _]
  show Ideal.exp ((p (ix2 s c) : EReal) - max (Ideal.ofBits .f32 0xFF800000#32 : EReal) (Finset.univ.fold (max : EReal → EReal → EReal) (Ideal.ofBits .f32 0xFF800000#32) _)) = _
  rw [neg_inf]
  congr 2
  have hl : ∀ c : Fin 2, hr.lift (ix1 s) c = ix2 s c := fun c => by
    funext a
    match a with
    | ⟨0, _⟩ => rfl
    | ⟨1, _⟩ => rfl
  rw [max_eq_right bot_le]
  refine (congrArg (Finset.univ.fold max (⊥ : EReal)) (funext fun (c : Fin 2) => (congrArg p (hl c) : _ = (p (ix2 s c) : EReal)))).trans ?_
  exact fold_two _

/-- The pair's weights. -/
theorem softT_at (p : FVec Ideal S50x2 .f32) (s : Fin 50) (c : Fin 2) :
    softT p (ix2 s c) = soft (p (ix2 s (0 : Fin 2))) (p (ix2 s (1 : Fin 2))) c := by
  unfold softT
  show Ideal.div (softE p (ix2 s c)) (broadcastInDim _ _ _ _ (ix2 s c)) = _
  rw [bpair_at, bcol50_at]
  have hr : S50x2.Reduces [1] S50 := by decide
  have hd : (Host.reduceAdd (softE p) (constant S_ .f32 0x00000000#32) reducesTo_S50x2_S50_d1 h_S_ (ix1 s) : EReal) = softE p (ix2 s (0 : Fin 2)) + softE p (ix2 s (1 : Fin 2)) := by
    refine (Ideal.hostReduceAdd_single _ hr _ _ _).trans ?_
    show (Ideal.ofBits .f32 0x00000000#32 + _ : EReal) = _
    rw [Ideal.ofBits_zero_f32, zero_add]
    have hl : ∀ c : Fin 2, hr.lift (ix1 s) c = ix2 s c := fun c => by
      funext a
      match a with
      | ⟨0, _⟩ => rfl
      | ⟨1, _⟩ => rfl
    refine (Finset.sum_congr rfl fun (c : Fin 2) _ => (congrArg (softE p) (hl c) : _ = (softE p (ix2 s c) : EReal))).trans ?_
    exact Fin.sum_univ_two _
  rw [hd, softE_at, softE_at, softE_at]
  unfold soft
  match c with
  | ⟨0, _⟩ => rfl
  | ⟨1, _⟩ => rfl

/-- The pair of scores side by side: the first. -/
theorem pair_zero (a b : FVec Ideal S50x1 .f32) (s : Fin 50) : fn_main_v86 (F := Ideal) a b (ix2 s (0 : Fin 2)) = a (ix2 s (0 : Fin 1)) := by
  unfold fn_main_v86
  refine concatenate_pair_apply_left (t := S50x2) (s₁ := S50x1) (s₂ := S50x1) _ _ _ _ _ rfl (ix2 s (0 : Fin 1)) (fun b => ?_)
  match b with
  | ⟨0, _⟩ => rfl
  | ⟨1, _⟩ => rfl

/-- The pair of scores side by side: the second. -/
theorem pair_one (a b : FVec Ideal S50x1 .f32) (s : Fin 50) : fn_main_v86 (F := Ideal) a b (ix2 s (1 : Fin 2)) = b (ix2 s (0 : Fin 1)) := by
  unfold fn_main_v86
  refine concatenate_pair_apply_right (t := S50x2) (s₁ := S50x1) (s₂ := S50x1) _ _ _ _ _ rfl rfl (ix2 s (0 : Fin 1)) (fun b hb => ?_) ?_
  · match b with
    | ⟨0, _⟩ => rfl
    | ⟨1, _⟩ => exact absurd rfl hb
  · rfl

/-- A row's attention is its segment's. -/
theorem rowsT_at (a : FVec Ideal S50x2 .f32) (i : Fin 50000) (s : Fin 50) (c : Fin 2) (h : wrapT g (ix2 i (0 : Fin 1)) = BitVec.ofNat 32 s.val) :
    rowsT g a (ix2 i c) = a (ix2 s c) :=
  Routing.gather_row _ rfl rfl rfl rfl rfl a _ i c s h (by norm_num)

/-- A matrix times one column of the attention. -/
theorem mixT_at (X : FVec Ideal S50000x256 .f32) (v : FVec Ideal S50000x1 .f32) (i : Fin 50000) (k : Fin 256) :
    mixT X v (ix2 i k) = (X (ix2 i k) * v (ix2 i (0 : Fin 1)) : EReal) := by
  unfold mixT
  show (_ * broadcastInDim _ _ _ _ (ix2 i k) : EReal) = _
  rw [brow_at, bcol_at]
  refine congrArg (fun z : EReal => _ * z) ?_
  exact shapeCast_apply _ _ _ (ix2 i (0 : Fin 1)) (by rw [Shape.rowMajor_val_two, Shape.rowMajor_val_one]; show i.val * 1 + 0 = i.val; omega)

end Readings

end Cert.Proof.RefVal
-- ==== Proof.Alg.lean ====
/- The softmax within a segment: dividing once the sums are taken, and with no largest gate taken off, is the same. -/
module

public import proofs.«01_k».proof.Proof.Dense

@[expose] public section

noncomputable section

namespace Cert.Proof.Alg

open Idealize.ShloMosaic
open Cert.Proof.Pool (denOr1)

variable {ι : Type} [Fintype ι]

/-- The largest of the gates that lie in a segment. -/
def top (n : ι → ℕ) (G : ι → EReal) (s : ℕ) : EReal := Finset.univ.fold max (⊥ : EReal) fun i => if n i = s then G i else ⊥

/-- A segment's denominator, the largest gate taken off each. -/
def den (n : ι → ℕ) (G : ι → EReal) (s : ℕ) : EReal := 0 + ∑ i, if n i = s then Ideal.exp (G i - top n G s) else 0

/-- A segment's sum of its rows, each by its weight in the segment. -/
def pooled (n : ι → ℕ) (G : ι → EReal) (x : ι → EReal) (s : ℕ) : EReal :=
  0 + ∑ i, if n i = s then x i * Ideal.div (Ideal.exp (G i - top n G s)) (den n G s) else 0

theorem coe_sum (f : ι → ℝ) (A : Finset ι) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

theorem coe_sum_ite (p : ι → Prop) [DecidablePred p] (f : ι → ℝ) (h : ι → EReal) (hf : ∀ i, h i = (f i : EReal)) :
    (∑ i, if p i then h i else 0) = ((∑ i, if p i then f i else 0 : ℝ) : EReal) := by
  rw [coe_sum]
  refine Finset.sum_congr rfl fun i _ => ?_
  by_cases hp : p i
  · rw [if_pos hp, if_pos hp, hf]
  · rw [if_neg hp, if_neg hp, EReal.coe_zero]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_coe (x : ℝ) : Ideal.exp (x : EReal) = ((Real.exp x : ℝ) : EReal) := rfl

/-- A segment with a row in it has a real largest gate. -/
theorem top_real (n : ι → ℕ) (γ : ι → ℝ) (s : ℕ) (i0 : ι) (h0 : n i0 = s) : ∃ μ : ℝ, top n (fun i => (γ i : EReal)) s = (μ : EReal) := by
  have hlt : top n (fun i => (γ i : EReal)) s < ⊤ := by
    unfold top
    rw [Finset.fold_max_lt]
    refine ⟨bot_lt_top, fun i _ => ?_⟩
    by_cases hp : n i = s
    · rw [if_pos hp]; exact EReal.coe_lt_top _
    · rw [if_neg hp]; exact bot_lt_top
  have hgt : (γ i0 : EReal) ≤ top n (fun i => (γ i : EReal)) s := by
    unfold top
    rw [Finset.le_fold_max]
    exact .inr ⟨i0, Finset.mem_univ _, by rw [if_pos h0]⟩
  refine ⟨(top n (fun i => (γ i : EReal)) s).toReal, (EReal.coe_toReal hlt.ne ?_).symm⟩
  exact ne_of_gt (lt_of_lt_of_le (EReal.bot_lt_coe _) hgt)

/-- The sums of a segment's rows by the exponentials of their gates, over the exponentials' sum, are the segment's pooled rows. -/
theorem pooled_eq (n : ι → ℕ) (γ : ι → ℝ) (β : ℝ) (ξ : ι → ℝ) (s : ℕ) :
    Ideal.div (∑ i, if n i = s then (ξ i : EReal) * Ideal.exp (γ i : EReal) else 0) (denOr1 (∑ i, if n i = s then Ideal.exp (γ i : EReal) else 0))
      = pooled n (fun i => (γ i : EReal) + (β : EReal)) (fun i => (ξ i : EReal)) s := by
  have hG : (fun i => (γ i : EReal) + (β : EReal)) = fun i => ((γ i + β : ℝ) : EReal) := funext fun i => (EReal.coe_add _ _).symm
  rw [hG]
  by_cases hne : ∃ i0, n i0 = s
  · obtain ⟨i0, h0⟩ := hne
    obtain ⟨μ, hμ⟩ := top_real n (fun i => γ i + β) s i0 h0
    have hpos : ∀ f : ι → ℝ, (∀ i, 0 < f i) → 0 < ∑ i, if n i = s then f i else 0 := fun f hf => by
      refine Finset.sum_pos' (fun i _ => ?_) ⟨i0, Finset.mem_univ _, ?_⟩
      · split
        · exact (hf i).le
        · exact le_refl _
      · rw [if_pos h0]; exact hf i0
    have hD : (∑ i, if n i = s then Ideal.exp (γ i : EReal) else 0) = ((∑ i, if n i = s then Real.exp (γ i) else 0 : ℝ) : EReal) :=
      coe_sum_ite _ (fun i => Real.exp (γ i)) _ fun i => exp_coe _
    have hN : (∑ i, if n i = s then (ξ i : EReal) * Ideal.exp (γ i : EReal) else 0) = ((∑ i, if n i = s then ξ i * Real.exp (γ i) else 0 : ℝ) : EReal) :=
      coe_sum_ite _ (fun i => ξ i * Real.exp (γ i)) _ fun i => by rw [exp_coe, EReal.coe_mul]
    have hd : den n (fun i => ((γ i + β : ℝ) : EReal)) s = ((∑ i, if n i = s then Real.exp (γ i + β - μ) else 0 : ℝ) : EReal) := by
      unfold den
      rw [zero_add, hμ]
      exact coe_sum_ite _ (fun i => Real.exp (γ i + β - μ)) _ fun i => by rw [← EReal.coe_sub, exp_coe]
    have hDp := hpos (fun i => Real.exp (γ i)) fun i => Real.exp_pos _
    have hdp := hpos (fun i => Real.exp (γ i + β - μ)) fun i => Real.exp_pos _
    have hP : pooled n (fun i => ((γ i + β : ℝ) : EReal)) (fun i => (ξ i : EReal)) s
        = ((∑ i, if n i = s then ξ i * (Real.exp (γ i + β - μ) / ∑ j, if n j = s then Real.exp (γ j + β - μ) else 0) else 0 : ℝ) : EReal) := by
      unfold pooled
      rw [zero_add, hd, hμ]
      exact coe_sum_ite _ (fun i => ξ i * (Real.exp (γ i + β - μ) / ∑ j, if n j = s then Real.exp (γ j + β - μ) else 0)) _ fun i => by
        rw [← EReal.coe_sub, exp_coe, div_coe _ _ hdp.ne', EReal.coe_mul]
    rw [hP, hD, hN]
    unfold denOr1
    rw [if_pos (by exact_mod_cast hDp), div_coe _ _ hDp.ne']
    congr 1
    have hs : (∑ j, if n j = s then Real.exp (γ j + β - μ) else 0) = (∑ i, if n i = s then Real.exp (γ i) else 0) * Real.exp (β - μ) := by
      rw [Finset.sum_mul]
      refine Finset.sum_congr rfl fun i _ => ?_
      split
      · rw [← Real.exp_add]; congr 1; ring
      · rw [zero_mul]
    rw [hs, Finset.sum_div]
    refine Finset.sum_congr rfl fun i _ => ?_
    split
    · have he : Real.exp (γ i + β - μ) = Real.exp (γ i) * Real.exp (β - μ) := by rw [← Real.exp_add]; congr 1; ring
      rw [he, mul_div_mul_right _ _ (Real.exp_pos _).ne', mul_div_assoc]
    · rw [zero_div]
  · have hno : ∀ i, n i ≠ s := fun i h => hne ⟨i, h⟩
    unfold pooled
    simp only [hno, if_false, Finset.sum_const_zero, add_zero]
    unfold denOr1 Ideal.div
    simp

end Cert.Proof.Alg
-- ==== Proof.RefOut.lean ====
/- The reference over the extended reals, at an index. -/
module

public import proofs.«01_k».proof.Proof.RefIdx
public import proofs.«01_k».proof.Proof.Alg
public import Idealize.ShloMosaic.Lib.Routing.Ops
public import Idealize.ShloMosaic.Lib.ValueIdxRank1
public import Idealize.ShloMosaic.Lib.Routing.OpsPair

@[expose] public section

noncomputable section

namespace Cert.Proof.RefVal

open Cert.ReferenceIdeal Cert.ReferenceIdeal.Gen Cert.ReferenceIdeal.Value
open Idealize.ShloMosaic Idealize.ShloMosaic.ValueIdx
open Cert.Proof.Pool (soft)

variable (g : IVec S50000 32) (hg : ∀ i : Fin 50000, (g (ix1 i)).toNat < 50)

/-- The segment numbers. -/
def seg : Fin 50000 → ℕ := fun i => (g (ix1 i)).toNat

include hg in
theorem toInt_eq (i : Fin 50000) (s : Fin 50) : (g (ix1 i)).toInt = (s.val : Int) ↔ seg g i = s.val := by
  have h := hg i
  rw [BitVec.toInt_eq_toNat_of_lt (by omega)]
  exact Int.ofNat_inj

include hg in
theorem wrapT_seg (i : Fin 50000) (s : Fin 50) (h : seg g i = s.val) : wrapT g (ix2 i (0 : Fin 1)) = BitVec.ofNat 32 s.val := by
  rw [wrapT_at g hg i]
  exact word_eq _ s h

theorem maxT_top (G : FVec Ideal S50000 .f32) (s : Fin 50) : maxT g G (ix1 s) = Alg.top (seg g) (fun i => (G (ix1 i) : EReal)) s.val := maxT_at g G s

include hg in
theorem denT_den (G : FVec Ideal S50000 .f32) (s : Fin 50) : denT g (expT g G) (ix1 s) = Alg.den (seg g) (fun i => (G (ix1 i) : EReal)) s.val := by
  rw [denT_at]
  unfold Alg.den
  refine congrArg (fun z : EReal => 0 + z) (Finset.sum_congr rfl fun i _ => ?_)
  rw [if_congr (toInt_eq g hg i s) rfl rfl]
  by_cases h : seg g i = s.val
  · rw [if_pos h, if_pos h, expT_at g G i s (wrapT_seg g hg i s h), maxT_top]
  · rw [if_neg h, if_neg h]

include hg in
/-- A segment's pooled row. -/
theorem pooledT_at (X : FVec Ideal S50000x256 .f32) (W : FVec Ideal S256x1 .f32) (b : FVec Ideal S1 .f32) (s : Fin 50) (k : Fin 256) :
    pooledT g X W b (ix2 s k)
      = Alg.pooled (seg g) (fun i => (∑ k : Fin 256, X (ix2 i k) * W (ix2 k (0 : Fin 1)) : EReal) + b (ix1 (0 : Fin 1))) (fun i => (X (ix2 i k) : EReal)) s.val := by
  have hG : (fun i => (∑ k : Fin 256, X (ix2 i k) * W (ix2 k (0 : Fin 1)) : EReal) + b (ix1 (0 : Fin 1))) = fun i => (gateT X W b (ix1 i) : EReal) :=
    funext fun i => (gateT_at X W b i).symm
  rw [hG]
  unfold pooledT
  generalize gateT X W b = G
  rw [poolT_at]
  unfold Alg.pooled
  refine congrArg (fun z : EReal => 0 + z) (Finset.sum_congr rfl fun i _ => ?_)
  rw [if_congr (toInt_eq g hg i s) rfl rfl]
  by_cases h : seg g i = s.val
  · rw [if_pos h, if_pos h, alphaT_at g _ i s (wrapT_seg g hg i s h), expT_at g G i s (wrapT_seg g hg i s h), maxT_top, denT_den g hg]
  · rw [if_neg h, if_neg h]

include hg in
/-- The reference at an entry whose row lies in segment `s`: the two matrices' entries, weighed by the softmax of the segment's two scores. -/
theorem outT_at (q : FVec Ideal S50x256 .f32) (X1 X2 : FVec Ideal S50000x256 .f32) (W1 : FVec Ideal S256x1 .f32) (b1 : FVec Ideal S1 .f32)
    (W2 : FVec Ideal S256x1 .f32) (b2 : FVec Ideal S1 .f32) (i : Fin 50000) (k : Fin 256) (s : Fin 50) (h : seg g i = s.val) :
    outT q X1 X2 g W1 b1 W2 b2 (ix2 i k)
      = (X1 (ix2 i k) * soft (∑ c : Fin 256, q (ix2 s c) * pooledT g X1 W1 b1 (ix2 s c)) (∑ c : Fin 256, q (ix2 s c) * pooledT g X2 W2 b2 (ix2 s c)) 0
        + X2 (ix2 i k) * soft (∑ c : Fin 256, q (ix2 s c) * pooledT g X1 W1 b1 (ix2 s c)) (∑ c : Fin 256, q (ix2 s c) * pooledT g X2 W2 b2 (ix2 s c)) 1 : EReal) := by
  have hw := wrapT_seg g hg i s h
  unfold outT
  generalize pooledT g X1 W1 b1 = P1
  generalize pooledT g X2 W2 b2 = P2
  show (mixT X1 _ (ix2 i k) + mixT X2 _ (ix2 i k) : EReal) = _
  rw [mixT_at, mixT_at]
  have hs : ∀ c : Fin 2, rowsT (F := Ideal) g (softT (fn_main_v86 (F := Ideal) (scoreT q P1) (scoreT q P2))) (ix2 i c)
      = soft (∑ c : Fin 256, q (ix2 s c) * P1 (ix2 s c)) (∑ c : Fin 256, q (ix2 s c) * P2 (ix2 s c)) c := by
    intro c
    rw [rowsT_at g _ i s c hw, softT_at, pair_zero, pair_one, scoreT_at, scoreT_at, zero_add, zero_add]
  generalize rowsT (F := Ideal) g (softT (fn_main_v86 (F := Ideal) (scoreT q P1) (scoreT q P2))) = R at hs ⊢
  rw [← hs 0, ← hs 1]
  congr 2
  · exact extractStridedSlice_apply _ _ _ _ (ix2 i (0 : Fin 2)) fun a => match a with | ⟨0, _⟩ => (Nat.zero_add _).symm | ⟨1, _⟩ => rfl
  · exact extractStridedSlice_apply _ _ _ _ (ix2 i (1 : Fin 2)) fun a => match a with | ⟨0, _⟩ => (Nat.zero_add _).symm | ⟨1, _⟩ => rfl

end Cert.Proof.RefVal
-- ==== Proof.Agree.lean ====
/- On finite data the kernel's scores are the reference's. -/
module

public import proofs.«01_k».proof.Proof.Kval
public import proofs.«01_k».proof.Proof.RefOut

@[expose] public section

noncomputable section

namespace Cert.Proof.RefVal

open Cert.ReferenceIdeal Cert.ReferenceIdeal.Gen Cert.ReferenceIdeal.Value
open Idealize.ShloMosaic Idealize.ShloMosaic.ValueIdx
open Cert.Proof.Pool (soft score num dnm gateE)

/-- The reference's score: a row of `q` against the pooled rows of its segment. -/
def scoreR (g : IVec S50000 32) (q : FVec Ideal S50x256 .f32) (X : FVec Ideal S50000x256 .f32) (W : FVec Ideal S256x1 .f32) (b : FVec Ideal S1 .f32) (s : Fin 50) : EReal :=
  ∑ c : Fin 256, q (ix2 s c) * pooledT g X W b (ix2 s c)

/-- A score against the sums, divided at the end and with no largest gate taken off, is the score against the reference's pooled rows. -/
theorem score_pooled (g : IVec S50000 32) (hg : ∀ i : Fin 50000, (g (ix1 i)).toNat < 50) (q : FVec Ideal S50x256 .f32) (X : FVec Ideal S50000x256 .f32) (W : FVec Ideal S256x1 .f32) (b : FVec Ideal S1 .f32)
    (hX : ∀ (i : Fin 50000) (k : Fin 256), ∃ x : ℝ, X (ix2 i k) = (x : EReal)) (hW : ∀ k : Fin 256, ∃ w : ℝ, W (ix2 k (0 : Fin 1)) = (w : EReal))
    (hb : ∃ β : ℝ, b (ix1 (0 : Fin 1)) = (β : EReal)) (s : Fin 50) :
    score (fun k => q (ix2 s k)) (num (seg g) (fun i k => X (ix2 i k)) (fun k => W (ix2 k (0 : Fin 1))) s.val) (dnm (seg g) (fun i k => X (ix2 i k)) (fun k => W (ix2 k (0 : Fin 1))) s.val)
      = scoreR g q X W b s := by
  choose ξ hξ using hX
  choose ω hω using hW
  obtain ⟨β, hβ⟩ := hb
  have hγ : ∀ i : Fin 50000, (∑ c : Fin 256, X (ix2 i c) * W (ix2 c (0 : Fin 1)) : EReal) = ((∑ c, ξ i c * ω c : ℝ) : EReal) := fun i =>
    (Finset.sum_congr rfl fun c _ => (congrArg₂ (fun a b : EReal => a * b) (hξ i c) (hω c)).trans (EReal.coe_mul _ _).symm).trans (Alg.coe_sum _ _).symm
  have hp := fun c : Fin 256 => Alg.pooled_eq (seg g) (fun i => ∑ c, ξ i c * ω c) β (fun i => ξ i c) s.val
  unfold score scoreR
  refine Finset.sum_congr rfl fun c _ => congrArg (fun a : EReal => (show EReal from q (ix2 s c)) * a) ?_
  refine Eq.trans ?_ ((hp c).trans ?_)
  · refine congrArg₂ (fun a b : EReal => Ideal.div a (Pool.denOr1 b)) (Finset.sum_congr rfl fun i _ => ?_) (Finset.sum_congr rfl fun i _ => ?_)
    · exact congrArg (fun a : EReal => if seg g i = s.val then a else 0) (congrArg₂ (fun a b : EReal => a * Ideal.exp b) (hξ i c) (hγ i))
    · exact congrArg (fun a : EReal => if seg g i = s.val then a else 0) (congrArg Ideal.exp (hγ i))
  · refine Eq.trans ?_ (pooledT_at g hg X W b s c).symm
    exact congrArg₂ (fun G x => Alg.pooled (seg g) G x s.val) (funext fun i => congrArg₂ (fun a b : EReal => a + b) (hγ i).symm hβ.symm) (funext fun i => (hξ i c).symm)

end Cert.Proof.RefVal
-- ==== Proof.Finite.lean ====
/- What the second precondition says of the arguments. -/
module

public import proofs.«01_k».proof.Proof.Frames
public import proofs.«01_k».proof.Pre_finite_and_in_range

@[expose] public section

noncomputable section

namespace Cert.Proof.Finite

open Cert.Pre_finite_and_in_range
open Idealize.ShloMosaic

/-- Two bits' conjunction is one: both are. -/
theorem and_one (a b : BitVec 1) (h : IntOp.andi a b = 1#1) : a = 1#1 ∧ b = 1#1 := by
  revert a b
  decide

/-- A number whose absolute value is below the largest is a real. -/
theorem real_of_lt (x : EReal) (h : max x (-x) < ⊤) : ∃ r : ℝ, x = (r : EReal) := by
  induction x with
  | bot => simp at h
  | top => simp at h
  | coe r => exact ⟨r, rfl⟩

theorem real_of_cmp (x : EReal) (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  unfold Ideal.cmp at h
  have ofBool_eq_one (p : Bool) : (BitVec.ofBool p = 1#1) → p = true := by cases p <;> decide
  exact real_of_lt x (of_decide_eq_true (ofBool_eq_one _ h))

instance : Subsingleton S_.Idx := ⟨fun a b => funext fun i => i.elim0⟩

/-- All ones: every segment word is below fifty, and the rows, the gates' weights and their offsets are real. -/
theorem facts_of [Cert.Pre_finite_and_in_range.Facts] {a0 : FVec Ideal S50x256 .f32} {a1 a2 : FVec Ideal S50000x256 .f32} {a3 : IVec S50000 32} {a4 : FVec Ideal S256x1 .f32}
    {a5 : FVec Ideal S1 .f32} {a6 : FVec Ideal S256x1 .f32} {a7 : FVec Ideal S1 .f32} (h : fn (F := Ideal) a0 a1 a2 a3 a4 a5 a6 a7 = fun _ => 1#1) :
    (∀ i, (a3 i).toNat < 50) ∧ (∀ i, ∃ r : ℝ, a1 i = (r : EReal)) ∧ (∀ i, ∃ r : ℝ, a2 i = (r : EReal)) ∧ (∀ i, ∃ r : ℝ, a4 i = (r : EReal))
      ∧ (∀ i, ∃ r : ℝ, a6 i = (r : EReal)) ∧ (∀ i, ∃ r : ℝ, a5 i = (r : EReal)) ∧ (∀ i, ∃ r : ℝ, a7 i = (r : EReal)) := by
  have e := congrFun h (fun a => a.elim0)
  unfold fn fn_part1 fn_part2 at e
  dsimp only at e
  obtain ⟨e, e7⟩ := and_one _ _ e
  obtain ⟨e, e5⟩ := and_one _ _ e
  obtain ⟨e, e6⟩ := and_one _ _ e
  obtain ⟨e, e4⟩ := and_one _ _ e
  obtain ⟨e, e2⟩ := and_one _ _ e
  obtain ⟨e3, e1⟩ := and_one _ _ e
  exact ⟨fun i => Pool.word_lt _ (Host.reduce_andi_all _ _ _ _ _ e3 i), fun i => real_of_cmp _ (Host.reduce_andi_all _ _ _ _ _ e1 i),
    fun i => real_of_cmp _ (Host.reduce_andi_all _ _ _ _ _ e2 i), fun i => real_of_cmp _ (Host.reduce_andi_all _ _ _ _ _ e4 i),
    fun i => real_of_cmp _ (Host.reduce_andi_all _ _ _ _ _ e6 i), fun i => real_of_cmp _ (Host.reduce_andi_all _ _ _ _ _ e5 i),
    fun i => real_of_cmp _ (Host.reduce_andi_all _ _ _ _ _ e7 i)⟩

end Cert.Proof.Finite
-- ==== Proof.Result.lean ====
/- The kernel's result is the reference's, and the claims under the second precondition. -/
module

public import proofs.«01_k».proof.Defs
public import proofs.«01_k».proof.Proof.Agree
public import proofs.«01_k».proof.Proof.Finite
public import proofs.«01_k».proof.Proof.Gen.Pre_finite_and_in_range
public import proofs.«01_k».proof.Proof.Gen.ReferenceIdeal.Run

@[expose] public section

noncomputable section

namespace Cert.Proof

open Idealize.ShloMosaic Idealize.ShloMosaic.ValueIdx Idealize.SL.Sem
open Cert.KernelIdeal Cert.KernelIdeal.Gen

/-- On finite arguments with every segment word below fifty, the kernel leaves what the reference's operations compute of them. -/
theorem out_eq (m : (ℓ : Loc nD τ sig) → Buf (Elt Ideal) ℓ) (d : Dev nD)
    (h3 : ∀ i, ((m (d, Proc.devRef .tc main_arg3) : S50000.Idx → BitVec 32) i).toNat < 50)
    (h1 : ∀ i, ∃ r : ℝ, (m (d, Proc.devRef .tc main_arg1) : S50000x256.Idx → EReal) i = (r : EReal))
    (h2 : ∀ i, ∃ r : ℝ, (m (d, Proc.devRef .tc main_arg2) : S50000x256.Idx → EReal) i = (r : EReal))
    (h4 : ∀ i, ∃ r : ℝ, (m (d, Proc.devRef .tc main_arg4) : S256x1.Idx → EReal) i = (r : EReal))
    (h6 : ∀ i, ∃ r : ℝ, (m (d, Proc.devRef .tc main_arg6) : S256x1.Idx → EReal) i = (r : EReal))
    (h5 : ∀ i, ∃ r : ℝ, (m (d, Proc.devRef .tc main_arg5) : S1.Idx → EReal) i = (r : EReal))
    (h7 : ∀ i, ∃ r : ℝ, (m (d, Proc.devRef .tc main_arg7) : S1.Idx → EReal) i = (r : EReal)) :
    RefVal.outT (F := Ideal) (m (d, Proc.devRef .tc main_arg0)) (m (d, Proc.devRef .tc main_arg1)) (m (d, Proc.devRef .tc main_arg2)) (m (d, Proc.devRef .tc main_arg3))
        (m (d, Proc.devRef .tc main_arg4)) (m (d, Proc.devRef .tc main_arg5)) (m (d, Proc.devRef .tc main_arg6)) (m (d, Proc.devRef .tc main_arg7))
      = (Pool.mem6 m d (Proc.devRef .tc main_v12) : S50000x256.Idx → EReal) := by
  funext j
  obtain ⟨i, k, rfl⟩ : ∃ (i : Fin 50000) (k : Fin 256), (j : S50000x256.Idx) = ix2 i k := ⟨(j : S50000x256.Idx) 0, (j : S50000x256.Idx) 1, eq_ix2 _⟩
  have hg : ∀ i : Fin 50000, ((m (d, Proc.devRef .tc main_arg3) : S50000.Idx → BitVec 32) (ix1 i)).toNat < 50 := fun i => h3 (ix1 i)
  have ho := Pool.out_at m d hg i k ⟨_, hg i⟩ rfl
  have hr := RefVal.outT_at (m (d, Proc.devRef .tc main_arg3)) hg (m (d, Proc.devRef .tc main_arg0)) (m (d, Proc.devRef .tc main_arg1)) (m (d, Proc.devRef .tc main_arg2))
    (m (d, Proc.devRef .tc main_arg4)) (m (d, Proc.devRef .tc main_arg5)) (m (d, Proc.devRef .tc main_arg6)) (m (d, Proc.devRef .tc main_arg7)) i k ⟨_, hg i⟩ rfl
  have hA : Pool.scoreA m d ⟨_, hg i⟩ = RefVal.scoreR (m (d, Proc.devRef .tc main_arg3)) (m (d, Proc.devRef .tc main_arg0)) (m (d, Proc.devRef .tc main_arg1)) (m (d, Proc.devRef .tc main_arg4)) (m (d, Proc.devRef .tc main_arg5)) ⟨_, hg i⟩ := by
    unfold Pool.scoreA
    rw [Pool.gv_eq, Pool.xv1_eq, Pool.yv1_eq]
    exact RefVal.score_pooled (m (d, Proc.devRef .tc main_arg3)) hg (m (d, Proc.devRef .tc main_arg0)) (m (d, Proc.devRef .tc main_arg1)) (m (d, Proc.devRef .tc main_arg4))
      (m (d, Proc.devRef .tc main_arg5)) (fun i k => h1 (ix2 i k)) (fun k => h4 (ix2 k 0)) (h5 (ix1 0)) ⟨_, hg i⟩
  have hB : Pool.scoreB m d ⟨_, hg i⟩ = RefVal.scoreR (m (d, Proc.devRef .tc main_arg3)) (m (d, Proc.devRef .tc main_arg0)) (m (d, Proc.devRef .tc main_arg2)) (m (d, Proc.devRef .tc main_arg6)) (m (d, Proc.devRef .tc main_arg7)) ⟨_, hg i⟩ := by
    unfold Pool.scoreB
    rw [Pool.gv_eq, Pool.xv2_eq, Pool.yv2_eq]
    exact RefVal.score_pooled (m (d, Proc.devRef .tc main_arg3)) hg (m (d, Proc.devRef .tc main_arg0)) (m (d, Proc.devRef .tc main_arg2)) (m (d, Proc.devRef .tc main_arg6))
      (m (d, Proc.devRef .tc main_arg7)) (fun i k => h2 (ix2 i k)) (fun k => h6 (ix2 k 0)) (h7 (ix1 0)) ⟨_, hg i⟩
  rw [hA, hB] at ho
  exact hr.trans ho.symm

/-- Under the second precondition the kernel ends, keeps its arguments and leaves its semaphores at zero. -/
theorem frame_kernelIdeal_finite : Cert.quiescent_KernelIdeal_pre_finite_and_in_range (hKernelIdeal := Cert.KernelIdeal.Gen.facts)
    (hPre_finite_and_in_range := Cert.Pre_finite_and_in_range.Gen.facts) := fun m ρ hpre =>
  (θ_run Cert.KernelIdeal.defs _ _).mono (fun _ h => ⟨fun d => Pool.args_all fun a ha => h.1.1 d a ha, h.1.2⟩)
    (Pool.run_args (F := Ideal) m ρ (Pool.segOk_of_lt m fun d i => ((Finite.facts_of (hpre d)).1 i).trans (by decide)))

/-- The reference ends and keeps its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The same under the second precondition. -/
theorem frame_reference_finite : Cert.quiescent_ReferenceIdeal_pre_finite_and_in_range (hReferenceIdeal := Cert.ReferenceIdeal.Gen.facts)
    (hPre_finite_and_in_range := Cert.Pre_finite_and_in_range.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- From memories that agree on the arguments, the kernel and the reference end with equal results. -/
theorem kernel_reference : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := fun m g m' g' hpre hargs => by
  refine ⟨fun d => Pool.mem6 m d (Proc.devRef .tc main_v12), ?_, ?_⟩
  · exact (θ_run Cert.KernelIdeal.defs _ _).mono (fun _ h d => ⟨h.2 d, Pool.args_all fun a ha => h.1.1 d a ha⟩) (Pool.run_args (F := Ideal) m g (Pool.segOk_of_lt m fun d i => ((Finite.facts_of (hpre d)).1 i).trans (by decide)))
  · refine (θ_run Cert.ReferenceIdeal.defs _ _).mono (fun r h c => ⟨(h c).1.trans ?_, (h c).2⟩) (Cert.ReferenceIdeal.Value.run m' g')
    obtain ⟨h3, h1, h2, h4, h6, h5, h7⟩ := Finite.facts_of (hpre c)
    obtain ⟨e0, e1, e2, e3, e4, e5, e6, e7⟩ := hargs c
    rw [RefVal.res_eq, e0, e1, e2, e3, e4, e5, e6, e7]
    exact out_eq m c h3 h1 h2 h4 h6 h5 h7

end Cert.Proof
-- ==== Proof.lean ====
/- The certificate of the pool of two gated attentions: its claims, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_segments_in_range
public import proofs.«01_k».proof.Proof.Gen.Pre_finite_and_in_range
public import proofs.«01_k».proof.Proof.Kern
public import proofs.«01_k».proof.Proof.Result
public import Idealize.ShloMosaic.Adequacy
public import Idealize.ShloMosaic.Init

@[expose] public section

noncomputable section

namespace Cert.Proof

open Idealize.ShloMosaic Idealize.SL.Sem Cert.Kernel

/-- Every claim. -/
theorem claim : Cert.Claim := ⟨Cert.Kernel.Gen.facts, Cert.KernelIdeal.Gen.facts, Cert.ReferenceIdeal.Gen.facts, Cert.Pre_segments_in_range.Gen.facts,
  Cert.Pre_finite_and_in_range.Gen.facts,
  Pool.frame_kernel, Pool.frame_kernelIdeal, frame_kernelIdeal_finite, frame_reference, frame_reference_finite, trivial, kernel_reference⟩

end Cert.Proof

end
